-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S16x32x256 : Shape := ⟨3, ![16, 32, 256]⟩
abbrev S16 : Shape := ⟨1, ![16]⟩
abbrev S_ : Shape := ⟨0, ![]⟩
abbrev S128x256 : Shape := ⟨2, ![128, 256]⟩
abbrev S128x512 : Shape := ⟨2, ![128, 512]⟩
abbrev S1 : Shape := ⟨1, ![1]⟩
abbrev S1x32x256 : Shape := ⟨3, ![1, 32, 256]⟩
abbrev S32x256 : Shape := ⟨2, ![32, 256]⟩

abbrev nBuf : Space → Nat
  | .hbm => 8
  | .vmem => 11
  | .smem => 0
  | _ => 0

abbrev bufTy : (tb : Table) → Fin (tcTables nBuf tb) → BufTy
  | .hbm, ⟨0, _⟩ => ⟨S512x256, .bf16⟩
  | .hbm, ⟨1, _⟩ => ⟨S256x512, .bf16⟩
  | .hbm, ⟨2, _⟩ => ⟨S256x512, .bf16⟩
  | .hbm, ⟨3, _⟩ => ⟨S256x512, .bf16⟩
  | .hbm, ⟨4, _⟩ => ⟨S512x256, .bf16⟩
  | .hbm, ⟨5, _⟩ => ⟨S512x256, .bf16⟩
  | .hbm, ⟨6, _⟩ => ⟨S512x256, .bf16⟩
  | .hbm, ⟨7, _⟩ => ⟨S512x256, .f32⟩
  | .local _ .vmem, ⟨0, _⟩ => ⟨S512x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S512x256, .f32⟩
  | .local _ .vmem, ⟨8, _⟩ => ⟨S512x256, .bf16⟩
  | .local _ .vmem, ⟨9, _⟩ => ⟨S16x32x256, .bf16⟩
  | .local _ .vmem, ⟨10, _⟩ => ⟨S512x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_59 : BitVec 32 := 0#32
  let v51 : BitVec 1 := Scalar.cmpi .ne v2 c0_i32_59
  let v52 : BitVec 32 := Scalar.extui v51
  let c0_i32_61 : BitVec 32 := 0#32
  let v53 : BitVec 1 := Scalar.cmpi .ne v52 c0_i32_61
  v53

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev17 : Nat :=
  let c0_i32_1612 : BitVec 32 := 0#32
  let c0_i32_1610 : BitVec 32 := 0#32
  let c1_i32_1611 : BitVec 32 := 1#32
  let v1318 : BitVec 32 := Scalar.muli c0_i32_1610 c1_i32_1611
  let v1319 : BitVec 32 := Scalar.addi c0_i32_1612 v1318
  v1319.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_62 : BitVec 32 := 1#32
  let v54 : BitVec 1 := Scalar.cmpi .ne v2 c1_i32_62
  let v55 : BitVec 32 := Scalar.extui v54
  let c0_i32_64 : BitVec 32 := 0#32
  let v56 : BitVec 1 := Scalar.cmpi .ne v55 c0_i32_64
  v56

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev18 : Nat :=
  let c0_i32_1612 : BitVec 32 := 0#32
  let c1_i32_1610 : BitVec 32 := 1#32
  let c1_i32_1611 : BitVec 32 := 1#32
  let v1318 : BitVec 32 := Scalar.muli c1_i32_1610 c1_i32_1611
  let v1319 : BitVec 32 := Scalar.addi c0_i32_1612 v1318
  v1319.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_65 : BitVec 32 := 2#32
  let v57 : BitVec 1 := Scalar.cmpi .ne v2 c2_i32_65
  let v58 : BitVec 32 := Scalar.extui v57
  let c0_i32_67 : BitVec 32 := 0#32
  let v59 : BitVec 1 := Scalar.cmpi .ne v58 c0_i32_67
  v59

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev19 : Nat :=
  let c0_i32_1612 : BitVec 32 := 0#32
  let c2_i32_1610 : BitVec 32 := 2#32
  let c1_i32_1611 : BitVec 32 := 1#32
  let v1318 : BitVec 32 := Scalar.muli c2_i32_1610 c1_i32_1611
  let v1319 : BitVec 32 := Scalar.addi c0_i32_1612 v1318
  v1319.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_68 : BitVec 32 := 3#32
  let v60 : BitVec 1 := Scalar.cmpi .ne v2 c3_i32_68
  let v61 : BitVec 32 := Scalar.extui v60
  let c0_i32_70 : BitVec 32 := 0#32
  let v62 : BitVec 1 := Scalar.cmpi .ne v61 c0_i32_70
  v62

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev20 : Nat :=
  let c0_i32_1612 : BitVec 32 := 0#32
  let c3_i32_1610 : BitVec 32 := 3#32
  let c1_i32_1611 : BitVec 32 := 1#32
  let v1318 : BitVec 32 := Scalar.muli c3_i32_1610 c1_i32_1611
  let v1319 : BitVec 32 := Scalar.addi c0_i32_1612 v1318
  v1319.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_77 : BitVec 32 := 4#32
  let v74 : BitVec 1 := Scalar.cmpi .ne v2 c4_i32_77
  let v75 : BitVec 32 := Scalar.extui v74
  let c0_i32_79 : BitVec 32 := 0#32
  let v76 : BitVec 1 := Scalar.cmpi .ne v75 c0_i32_79
  v76

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev21 : Nat :=
  let c0_i32_1612 : BitVec 32 := 0#32
  let c4_i32_1610 : BitVec 32 := 4#32
  let c1_i32_1611 : BitVec 32 := 1#32
  let v1318 : BitVec 32 := Scalar.muli c4_i32_1610 c1_i32_1611
  let v1319 : BitVec 32 := Scalar.addi c0_i32_1612 v1318
  v1319.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_80 : BitVec 32 := 5#32
  let v77 : BitVec 1 := Scalar.cmpi .ne v2 c5_i32_80
  let v78 : BitVec 32 := Scalar.extui v77
  let c0_i32_82 : BitVec 32 := 0#32
  let v79 : BitVec 1 := Scalar.cmpi .ne v78 c0_i32_82
  v79

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev22 : Nat :=
  let c0_i32_1612 : BitVec 32 := 0#32
  let c5_i32_1610 : BitVec 32 := 5#32
  let c1_i32_1611 : BitVec 32 := 1#32
  let v1318 : BitVec 32 := Scalar.muli c5_i32_1610 c1_i32_1611
  let v1319 : BitVec 32 := Scalar.addi c0_i32_1612 v1318
  v1319.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_83 : BitVec 32 := 6#32
  let v80 : BitVec 1 := Scalar.cmpi .ne v2 c6_i32_83
  let v81 : BitVec 32 := Scalar.extui v80
  let c0_i32_85 : BitVec 32 := 0#32
  let v82 : BitVec 1 := Scalar.cmpi .ne v81 c0_i32_85
  v82

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev23 : Nat :=
  let c0_i32_1612 : BitVec 32 := 0#32
  let c6_i32_1610 : BitVec 32 := 6#32
  let c1_i32_1611 : BitVec 32 := 1#32
  let v1318 : BitVec 32 := Scalar.muli c6_i32_1610 c1_i32_1611
  let v1319 : BitVec 32 := Scalar.addi c0_i32_1612 v1318
  v1319.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_86 : BitVec 32 := 7#32
  let v83 : BitVec 1 := Scalar.cmpi .ne v2 c7_i32_86
  let v84 : BitVec 32 := Scalar.extui v83
  let c0_i32_88 : BitVec 32 := 0#32
  let v85 : BitVec 1 := Scalar.cmpi .ne v84 c0_i32_88
  v85

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev24 : Nat :=
  let c0_i32_1612 : BitVec 32 := 0#32
  let c7_i32_1610 : BitVec 32 := 7#32
  let c1_i32_1611 : BitVec 32 := 1#32
  let v1318 : BitVec 32 := Scalar.muli c7_i32_1610 c1_i32_1611
  let v1319 : BitVec 32 := Scalar.addi c0_i32_1612 v1318
  v1319.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_95 : BitVec 32 := 8#32
  let v97 : BitVec 1 := Scalar.cmpi .ne v2 c8_i32_95
  let v98 : BitVec 32 := Scalar.extui v97
  let c0_i32_97 : BitVec 32 := 0#32
  let v99 : BitVec 1 := Scalar.cmpi .ne v98 c0_i32_97
  v99

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev25 : Nat :=
  let c0_i32_1612 : BitVec 32 := 0#32
  let c8_i32_1610 : BitVec 32 := 8#32
  let c1_i32_1611 : BitVec 32 := 1#32
  let v1318 : BitVec 32 := Scalar.muli c8_i32_1610 c1_i32_1611
  let v1319 : BitVec 32 := Scalar.addi c0_i32_1612 v1318
  v1319.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_98 : BitVec 32 := 9#32
  let v100 : BitVec 1 := Scalar.cmpi .ne v2 c9_i32_98
  let v101 : BitVec 32 := Scalar.extui v100
  let c0_i32_100 : BitVec 32 := 0#32
  let v102 : BitVec 1 := Scalar.cmpi .ne v101 c0_i32_100
  v102

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev26 : Nat :=
  let c0_i32_1612 : BitVec 32 := 0#32
  let c9_i32_1610 : BitVec 32 := 9#32
  let c1_i32_1611 : BitVec 32 := 1#32
  let v1318 : BitVec 32 := Scalar.muli c9_i32_1610 c1_i32_1611
  let v1319 : BitVec 32 := Scalar.addi c0_i32_1612 v1318
  v1319.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_101 : BitVec 32 := 10#32
  let v103 : BitVec 1 := Scalar.cmpi .ne v2 c10_i32_101
  let v104 : BitVec 32 := Scalar.extui v103
  let c0_i32_103 : BitVec 32 := 0#32
  let v105 : BitVec 1 := Scalar.cmpi .ne v104 c0_i32_103
  v105

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev27 : Nat :=
  let c0_i32_1612 : BitVec 32 := 0#32
  let c10_i32_1610 : BitVec 32 := 10#32
  let c1_i32_1611 : BitVec 32 := 1#32
  let v1318 : BitVec 32 := Scalar.muli c10_i32_1610 c1_i32_1611
  let v1319 : BitVec 32 := Scalar.addi c0_i32_1612 v1318
  v1319.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_104 : BitVec 32 := 11#32
  let v106 : BitVec 1 := Scalar.cmpi .ne v2 c11_i32_104
  let v107 : BitVec 32 := Scalar.extui v106
  let c0_i32_106 : BitVec 32 := 0#32
  let v108 : BitVec 1 := Scalar.cmpi .ne v107 c0_i32_106
  v108

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev28 : Nat :=
  let c0_i32_1612 : BitVec 32 := 0#32
  let c11_i32_1610 : BitVec 32 := 11#32
  let c1_i32_1611 : BitVec 32 := 1#32
  let v1318 : BitVec 32 := Scalar.muli c11_i32_1610 c1_i32_1611
  let v1319 : BitVec 32 := Scalar.addi c0_i32_1612 v1318
  v1319.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_113 : BitVec 32 := 12#32
  let v120 : BitVec 1 := Scalar.cmpi .ne v2 c12_i32_113
  let v121 : BitVec 32 := Scalar.extui v120
  let c0_i32_115 : BitVec 32 := 0#32
  let v122 : BitVec 1 := Scalar.cmpi .ne v121 c0_i32_115
  v122

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev29 : Nat :=
  let c0_i32_1612 : BitVec 32 := 0#32
  let c12_i32_1610 : BitVec 32 := 12#32
  let c1_i32_1611 : BitVec 32 := 1#32
  let v1318 : BitVec 32 := Scalar.muli c12_i32_1610 c1_i32_1611
  let v1319 : BitVec 32 := Scalar.addi c0_i32_1612 v1318
  v1319.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_116 : BitVec 32 := 13#32
  let v123 : BitVec 1 := Scalar.cmpi .ne v2 c13_i32_116
  let v124 : BitVec 32 := Scalar.extui v123
  let c0_i32_118 : BitVec 32 := 0#32
  let v125 : BitVec 1 := Scalar.cmpi .ne v124 c0_i32_118
  v125

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev30 : Nat :=
  let c0_i32_1612 : BitVec 32 := 0#32
  let c13_i32_1610 : BitVec 32 := 13#32
  let c1_i32_1611 : BitVec 32 := 1#32
  let v1318 : BitVec 32 := Scalar.muli c13_i32_1610 c1_i32_1611
  let v1319 : BitVec 32 := Scalar.addi c0_i32_1612 v1318
  v1319.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_119 : BitVec 32 := 14#32
  let v126 : BitVec 1 := Scalar.cmpi .ne v2 c14_i32_119
  let v127 : BitVec 32 := Scalar.extui v126
  let c0_i32_121 : BitVec 32 := 0#32
  let v128 : BitVec 1 := Scalar.cmpi .ne v127 c0_i32_121
  v128

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev31 : Nat :=
  let c0_i32_1612 : BitVec 32 := 0#32
  let c14_i32_1610 : BitVec 32 := 14#32
  let c1_i32_1611 : BitVec 32 := 1#32
  let v1318 : BitVec 32 := Scalar.muli c14_i32_1610 c1_i32_1611
  let v1319 : BitVec 32 := Scalar.addi c0_i32_1612 v1318
  v1319.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_122 : BitVec 32 := 15#32
  let v129 : BitVec 1 := Scalar.cmpi .ne v2 c15_i32_122
  let v130 : BitVec 32 := Scalar.extui v129
  let c0_i32_124 : BitVec 32 := 0#32
  let v131 : BitVec 1 := Scalar.cmpi .ne v130 c0_i32_124
  v131

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev32 : Nat :=
  let c0_i32_1612 : BitVec 32 := 0#32
  let c15_i32_1610 : BitVec 32 := 15#32
  let c1_i32_1611 : BitVec 32 := 1#32
  let v1318 : BitVec 32 := Scalar.muli c15_i32_1610 c1_i32_1611
  let v1319 : BitVec 32 := Scalar.addi c0_i32_1612 v1318
  v1319.toNat
def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_125 : BitVec 32 := 0#32
  let c0_i32_126 : BitVec 32 := 0#32
  ![v2.toNat, 0, 0]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v132 : BitVec 32 := Scalar.muli v2 c32_i32
  let c0_i32_127 : BitVec 32 := 0#32
  ![v132.toNat, 0]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_292 : BitVec 32 := 32#32
  let v254 : BitVec 32 := Scalar.muli v2 c32_i32_292
  let v255 : Index := Scalar.indexCast v254
  let c0_293 : Index := 0#32
  ![v255.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_296 : BitVec 32 := 0#32
  let v261 : BitVec 1 := Scalar.cmpi .ne v2 c0_i32_296
  let v262 : BitVec 32 := Scalar.extui v261
  let c0_i32_298 : BitVec 32 := 0#32
  let v263 : BitVec 1 := Scalar.cmpi .ne v262 c0_i32_298
  v263

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_295 : BitVec 32 := 32#32
  let v260 : BitVec 32 := Scalar.muli v2 c32_i32_295
  let c0_i32_1613 : BitVec 32 := 0#32
  ![v260.toNat, 0]
def k0_dev33 : Nat :=
  let c0_i32_1612 : BitVec 32 := 0#32
  let c0_i32_1610 : BitVec 32 := 0#32
  let c1_i32_1611 : BitVec 32 := 1#32
  let v1318 : BitVec 32 := Scalar.muli c0_i32_1610 c1_i32_1611
  let v1319 : BitVec 32 := Scalar.addi c0_i32_1612 v1318
  v1319.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_301 : BitVec 32 := 1#32
  let v266 : BitVec 1 := Scalar.cmpi .ne v2 c1_i32_301
  let v267 : BitVec 32 := Scalar.extui v266
  let c0_i32_303 : BitVec 32 := 0#32
  let v268 : BitVec 1 := Scalar.cmpi .ne v267 c0_i32_303
  v268

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_300 : BitVec 32 := 32#32
  let v265 : BitVec 32 := Scalar.muli v2 c32_i32_300
  let c0_i32_1613 : BitVec 32 := 0#32
  ![v265.toNat, 0]
def k0_dev34 : Nat :=
  let c0_i32_1612 : BitVec 32 := 0#32
  let c1_i32_1610 : BitVec 32 := 1#32
  let c1_i32_1611 : BitVec 32 := 1#32
  let v1318 : BitVec 32 := Scalar.muli c1_i32_1610 c1_i32_1611
  let v1319 : BitVec 32 := Scalar.addi c0_i32_1612 v1318
  v1319.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_306 : BitVec 32 := 2#32
  let v271 : BitVec 1 := Scalar.cmpi .ne v2 c2_i32_306
  let v272 : BitVec 32 := Scalar.extui v271
  let c0_i32_308 : BitVec 32 := 0#32
  let v273 : BitVec 1 := Scalar.cmpi .ne v272 c0_i32_308
  v273

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_305 : BitVec 32 := 32#32
  let v270 : BitVec 32 := Scalar.muli v2 c32_i32_305
  let c0_i32_1613 : BitVec 32 := 0#32
  ![v270.toNat, 0]
def k0_dev35 : Nat :=
  let c0_i32_1612 : BitVec 32 := 0#32
  let c2_i32_1610 : BitVec 32 := 2#32
  let c1_i32_1611 : BitVec 32 := 1#32
  let v1318 : BitVec 32 := Scalar.muli c2_i32_1610 c1_i32_1611
  let v1319 : BitVec 32 := Scalar.addi c0_i32_1612 v1318
  v1319.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_311 : BitVec 32 := 3#32
  let v276 : BitVec 1 := Scalar.cmpi .ne v2 c3_i32_311
  let v277 : BitVec 32 := Scalar.extui v276
  let c0_i32_313 : BitVec 32 := 0#32
  let v278 : BitVec 1 := Scalar.cmpi .ne v277 c0_i32_313
  v278

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_310 : BitVec 32 := 32#32
  let v275 : BitVec 32 := Scalar.muli v2 c32_i32_310
  let c0_i32_1613 : BitVec 32 := 0#32
  ![v275.toNat, 0]
def k0_dev36 : Nat :=
  let c0_i32_1612 : BitVec 32 := 0#32
  let c3_i32_1610 : BitVec 32 := 3#32
  let c1_i32_1611 : BitVec 32 := 1#32
  let v1318 : BitVec 32 := Scalar.muli c3_i32_1610 c1_i32_1611
  let v1319 : BitVec 32 := Scalar.addi c0_i32_1612 v1318
  v1319.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_316 : BitVec 32 := 4#32
  let v281 : BitVec 1 := Scalar.cmpi .ne v2 c4_i32_316
  let v282 : BitVec 32 := Scalar.extui v281
  let c0_i32_318 : BitVec 32 := 0#32
  let v283 : BitVec 1 := Scalar.cmpi .ne v282 c0_i32_318
  v283

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_315 : BitVec 32 := 32#32
  let v280 : BitVec 32 := Scalar.muli v2 c32_i32_315
  let c0_i32_1613 : BitVec 32 := 0#32
  ![v280.toNat, 0]
def k0_dev37 : Nat :=
  let c0_i32_1612 : BitVec 32 := 0#32
  let c4_i32_1610 : BitVec 32 := 4#32
  let c1_i32_1611 : BitVec 32 := 1#32
  let v1318 : BitVec 32 := Scalar.muli c4_i32_1610 c1_i32_1611
  let v1319 : BitVec 32 := Scalar.addi c0_i32_1612 v1318
  v1319.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_321 : BitVec 32 := 5#32
  let v286 : BitVec 1 := Scalar.cmpi .ne v2 c5_i32_321
  let v287 : BitVec 32 := Scalar.extui v286
  let c0_i32_323 : BitVec 32 := 0#32
  let v288 : BitVec 1 := Scalar.cmpi .ne v287 c0_i32_323
  v288

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_320 : BitVec 32 := 32#32
  let v285 : BitVec 32 := Scalar.muli v2 c32_i32_320
  let c0_i32_1613 : BitVec 32 := 0#32
  ![v285.toNat, 0]
def k0_dev38 : Nat :=
  let c0_i32_1612 : BitVec 32 := 0#32
  let c5_i32_1610 : BitVec 32 := 5#32
  let c1_i32_1611 : BitVec 32 := 1#32
  let v1318 : BitVec 32 := Scalar.muli c5_i32_1610 c1_i32_1611
  let v1319 : BitVec 32 := Scalar.addi c0_i32_1612 v1318
  v1319.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_326 : BitVec 32 := 6#32
  let v291 : BitVec 1 := Scalar.cmpi .ne v2 c6_i32_326
  let v292 : BitVec 32 := Scalar.extui v291
  let c0_i32_328 : BitVec 32 := 0#32
  let v293 : BitVec 1 := Scalar.cmpi .ne v292 c0_i32_328
  v293

def k0_off49 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_325 : BitVec 32 := 32#32
  let v290 : BitVec 32 := Scalar.muli v2 c32_i32_325
  let c0_i32_1613 : BitVec 32 := 0#32
  ![v290.toNat, 0]
def k0_dev39 : Nat :=
  let c0_i32_1612 : BitVec 32 := 0#32
  let c6_i32_1610 : BitVec 32 := 6#32
  let c1_i32_1611 : BitVec 32 := 1#32
  let v1318 : BitVec 32 := Scalar.muli c6_i32_1610 c1_i32_1611
  let v1319 : BitVec 32 := Scalar.addi c0_i32_1612 v1318
  v1319.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_331 : BitVec 32 := 7#32
  let v296 : BitVec 1 := Scalar.cmpi .ne v2 c7_i32_331
  let v297 : BitVec 32 := Scalar.extui v296
  let c0_i32_333 : BitVec 32 := 0#32
  let v298 : BitVec 1 := Scalar.cmpi .ne v297 c0_i32_333
  v298

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_330 : BitVec 32 := 32#32
  let v295 : BitVec 32 := Scalar.muli v2 c32_i32_330
  let c0_i32_1613 : BitVec 32 := 0#32
  ![v295.toNat, 0]
def k0_dev40 : Nat :=
  let c0_i32_1612 : BitVec 32 := 0#32
  let c7_i32_1610 : BitVec 32 := 7#32
  let c1_i32_1611 : BitVec 32 := 1#32
  let v1318 : BitVec 32 := Scalar.muli c7_i32_1610 c1_i32_1611
  let v1319 : BitVec 32 := Scalar.addi c0_i32_1612 v1318
  v1319.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_336 : BitVec 32 := 8#32
  let v301 : BitVec 1 := Scalar.cmpi .ne v2 c8_i32_336
  let v302 : BitVec 32 := Scalar.extui v301
  let c0_i32_338 : BitVec 32 := 0#32
  let v303 : BitVec 1 := Scalar.cmpi .ne v302 c0_i32_338
  v303

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_335 : BitVec 32 := 32#32
  let v300 : BitVec 32 := Scalar.muli v2 c32_i32_335
  let c0_i32_1613 : BitVec 32 := 0#32
  ![v300.toNat, 0]
def k0_dev41 : Nat :=
  let c0_i32_1612 : BitVec 32 := 0#32
  let c8_i32_1610 : BitVec 32 := 8#32
  let c1_i32_1611 : BitVec 32 := 1#32
  let v1318 : BitVec 32 := Scalar.muli c8_i32_1610 c1_i32_1611
  let v1319 : BitVec 32 := Scalar.addi c0_i32_1612 v1318
  v1319.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_341 : BitVec 32 := 9#32
  let v306 : BitVec 1 := Scalar.cmpi .ne v2 c9_i32_341
  let v307 : BitVec 32 := Scalar.extui v306
  let c0_i32_343 : BitVec 32 := 0#32
  let v308 : BitVec 1 := Scalar.cmpi .ne v307 c0_i32_343
  v308

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_340 : BitVec 32 := 32#32
  let v305 : BitVec 32 := Scalar.muli v2 c32_i32_340
  let c0_i32_1613 : BitVec 32 := 0#32
  ![v305.toNat, 0]
def k0_dev42 : Nat :=
  let c0_i32_1612 : BitVec 32 := 0#32
  let c9_i32_1610 : BitVec 32 := 9#32
  let c1_i32_1611 : BitVec 32 := 1#32
  let v1318 : BitVec 32 := Scalar.muli c9_i32_1610 c1_i32_1611
  let v1319 : BitVec 32 := Scalar.addi c0_i32_1612 v1318
  v1319.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_346 : BitVec 32 := 10#32
  let v311 : BitVec 1 := Scalar.cmpi .ne v2 c10_i32_346
  let v312 : BitVec 32 := Scalar.extui v311
  let c0_i32_348 : BitVec 32 := 0#32
  let v313 : BitVec 1 := Scalar.cmpi .ne v312 c0_i32_348
  v313

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_345 : BitVec 32 := 32#32
  let v310 : BitVec 32 := Scalar.muli v2 c32_i32_345
  let c0_i32_1613 : BitVec 32 := 0#32
  ![v310.toNat, 0]
def k0_dev43 : Nat :=
  let c0_i32_1612 : BitVec 32 := 0#32
  let c10_i32_1610 : BitVec 32 := 10#32
  let c1_i32_1611 : BitVec 32 := 1#32
  let v1318 : BitVec 32 := Scalar.muli c10_i32_1610 c1_i32_1611
  let v1319 : BitVec 32 := Scalar.addi c0_i32_1612 v1318
  v1319.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_351 : BitVec 32 := 11#32
  let v316 : BitVec 1 := Scalar.cmpi .ne v2 c11_i32_351
  let v317 : BitVec 32 := Scalar.extui v316
  let c0_i32_353 : BitVec 32 := 0#32
  let v318 : BitVec 1 := Scalar.cmpi .ne v317 c0_i32_353
  v318

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_350 : BitVec 32 := 32#32
  let v315 : BitVec 32 := Scalar.muli v2 c32_i32_350
  let c0_i32_1613 : BitVec 32 := 0#32
  ![v315.toNat, 0]
def k0_dev44 : Nat :=
  let c0_i32_1612 : BitVec 32 := 0#32
  let c11_i32_1610 : BitVec 32 := 11#32
  let c1_i32_1611 : BitVec 32 := 1#32
  let v1318 : BitVec 32 := Scalar.muli c11_i32_1610 c1_i32_1611
  let v1319 : BitVec 32 := Scalar.addi c0_i32_1612 v1318
  v1319.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_356 : BitVec 32 := 12#32
  let v321 : BitVec 1 := Scalar.cmpi .ne v2 c12_i32_356
  let v322 : BitVec 32 := Scalar.extui v321
  let c0_i32_358 : BitVec 32 := 0#32
  let v323 : BitVec 1 := Scalar.cmpi .ne v322 c0_i32_358
  v323

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_355 : BitVec 32 := 32#32
  let v320 : BitVec 32 := Scalar.muli v2 c32_i32_355
  let c0_i32_1613 : BitVec 32 := 0#32
  ![v320.toNat, 0]
def k0_dev45 : Nat :=
  let c0_i32_1612 : BitVec 32 := 0#32
  let c12_i32_1610 : BitVec 32 := 12#32
  let c1_i32_1611 : BitVec 32 := 1#32
  let v1318 : BitVec 32 := Scalar.muli c12_i32_1610 c1_i32_1611
  let v1319 : BitVec 32 := Scalar.addi c0_i32_1612 v1318
  v1319.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_361 : BitVec 32 := 13#32
  let v326 : BitVec 1 := Scalar.cmpi .ne v2 c13_i32_361
  let v327 : BitVec 32 := Scalar.extui v326
  let c0_i32_363 : BitVec 32 := 0#32
  let v328 : BitVec 1 := Scalar.cmpi .ne v327 c0_i32_363
  v328

def k0_off63 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_360 : BitVec 32 := 32#32
  let v325 : BitVec 32 := Scalar.muli v2 c32_i32_360
  let c0_i32_1613 : BitVec 32 := 0#32
  ![v325.toNat, 0]
def k0_dev46 : Nat :=
  let c0_i32_1612 : BitVec 32 := 0#32
  let c13_i32_1610 : BitVec 32 := 13#32
  let c1_i32_1611 : BitVec 32 := 1#32
  let v1318 : BitVec 32 := Scalar.muli c13_i32_1610 c1_i32_1611
  let v1319 : BitVec 32 := Scalar.addi c0_i32_1612 v1318
  v1319.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_366 : BitVec 32 := 14#32
  let v331 : BitVec 1 := Scalar.cmpi .ne v2 c14_i32_366
  let v332 : BitVec 32 := Scalar.extui v331
  let c0_i32_368 : BitVec 32 := 0#32
  let v333 : BitVec 1 := Scalar.cmpi .ne v332 c0_i32_368
  v333

def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_365 : BitVec 32 := 32#32
  let v330 : BitVec 32 := Scalar.muli v2 c32_i32_365
  let c0_i32_1613 : BitVec 32 := 0#32
  ![v330.toNat, 0]
def k0_dev47 : Nat :=
  let c0_i32_1612 : BitVec 32 := 0#32
  let c14_i32_1610 : BitVec 32 := 14#32
  let c1_i32_1611 : BitVec 32 := 1#32
  let v1318 : BitVec 32 := Scalar.muli c14_i32_1610 c1_i32_1611
  let v1319 : BitVec 32 := Scalar.addi c0_i32_1612 v1318
  v1319.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_371 : BitVec 32 := 15#32
  let v336 : BitVec 1 := Scalar.cmpi .ne v2 c15_i32_371
  let v337 : BitVec 32 := Scalar.extui v336
  let c0_i32_373 : BitVec 32 := 0#32
  let v338 : BitVec 1 := Scalar.cmpi .ne v337 c0_i32_373
  v338

def k0_off67 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_370 : BitVec 32 := 32#32
  let v335 : BitVec 32 := Scalar.muli v2 c32_i32_370
  let c0_i32_1613 : BitVec 32 := 0#32
  ![v335.toNat, 0]
def k0_dev48 : Nat :=
  let c0_i32_1612 : BitVec 32 := 0#32
  let c15_i32_1610 : BitVec 32 := 15#32
  let c1_i32_1611 : BitVec 32 := 1#32
  let v1318 : BitVec 32 := Scalar.muli c15_i32_1610 c1_i32_1611
  let v1319 : BitVec 32 := Scalar.addi c0_i32_1612 v1318
  v1319.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_376 : BitVec 32 := 0#32
  let v341 : BitVec 1 := Scalar.cmpi .ne v2 c0_i32_376
  let v342 : BitVec 32 := Scalar.extui v341
  let c0_i32_381 : BitVec 32 := 0#32
  let v343 : BitVec 1 := Scalar.cmpi .ne v342 c0_i32_381
  v343

def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_374 : BitVec 32 := 32#32
  let v339 : BitVec 32 := Scalar.muli v2 c32_i32_374
  let c0_i32_1618 : BitVec 32 := 0#32
  ![v339.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_384 : BitVec 32 := 1#32
  let v346 : BitVec 1 := Scalar.cmpi .ne v2 c1_i32_384
  let v347 : BitVec 32 := Scalar.extui v346
  let c0_i32_389 : BitVec 32 := 0#32
  let v348 : BitVec 1 := Scalar.cmpi .ne v347 c0_i32_389
  v348

def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_382 : BitVec 32 := 32#32
  let v344 : BitVec 32 := Scalar.muli v2 c32_i32_382
  let c0_i32_1618 : BitVec 32 := 0#32
  ![v344.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_392 : BitVec 32 := 2#32
  let v351 : BitVec 1 := Scalar.cmpi .ne v2 c2_i32_392
  let v352 : BitVec 32 := Scalar.extui v351
  let c0_i32_397 : BitVec 32 := 0#32
  let v353 : BitVec 1 := Scalar.cmpi .ne v352 c0_i32_397
  v353

def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_390 : BitVec 32 := 32#32
  let v349 : BitVec 32 := Scalar.muli v2 c32_i32_390
  let c0_i32_1618 : BitVec 32 := 0#32
  ![v349.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_400 : BitVec 32 := 3#32
  let v356 : BitVec 1 := Scalar.cmpi .ne v2 c3_i32_400
  let v357 : BitVec 32 := Scalar.extui v356
  let c0_i32_405 : BitVec 32 := 0#32
  let v358 : BitVec 1 := Scalar.cmpi .ne v357 c0_i32_405
  v358

def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_398 : BitVec 32 := 32#32
  let v354 : BitVec 32 := Scalar.muli v2 c32_i32_398
  let c0_i32_1618 : BitVec 32 := 0#32
  ![v354.toNat, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_408 : BitVec 32 := 4#32
  let v361 : BitVec 1 := Scalar.cmpi .ne v2 c4_i32_408
  let v362 : BitVec 32 := Scalar.extui v361
  let c0_i32_413 : BitVec 32 := 0#32
  let v363 : BitVec 1 := Scalar.cmpi .ne v362 c0_i32_413
  v363

def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_406 : BitVec 32 := 32#32
  let v359 : BitVec 32 := Scalar.muli v2 c32_i32_406
  let c0_i32_1618 : BitVec 32 := 0#32
  ![v359.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_416 : BitVec 32 := 5#32
  let v366 : BitVec 1 := Scalar.cmpi .ne v2 c5_i32_416
  let v367 : BitVec 32 := Scalar.extui v366
  let c0_i32_421 : BitVec 32 := 0#32
  let v368 : BitVec 1 := Scalar.cmpi .ne v367 c0_i32_421
  v368

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_414 : BitVec 32 := 32#32
  let v364 : BitVec 32 := Scalar.muli v2 c32_i32_414
  let c0_i32_1618 : BitVec 32 := 0#32
  ![v364.toNat, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_424 : BitVec 32 := 6#32
  let v371 : BitVec 1 := Scalar.cmpi .ne v2 c6_i32_424
  let v372 : BitVec 32 := Scalar.extui v371
  let c0_i32_429 : BitVec 32 := 0#32
  let v373 : BitVec 1 := Scalar.cmpi .ne v372 c0_i32_429
  v373

def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_422 : BitVec 32 := 32#32
  let v369 : BitVec 32 := Scalar.muli v2 c32_i32_422
  let c0_i32_1618 : BitVec 32 := 0#32
  ![v369.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_432 : BitVec 32 := 7#32
  let v376 : BitVec 1 := Scalar.cmpi .ne v2 c7_i32_432
  let v377 : BitVec 32 := Scalar.extui v376
  let c0_i32_437 : BitVec 32 := 0#32
  let v378 : BitVec 1 := Scalar.cmpi .ne v377 c0_i32_437
  v378

def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_430 : BitVec 32 := 32#32
  let v374 : BitVec 32 := Scalar.muli v2 c32_i32_430
  let c0_i32_1618 : BitVec 32 := 0#32
  ![v374.toNat, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_440 : BitVec 32 := 8#32
  let v381 : BitVec 1 := Scalar.cmpi .ne v2 c8_i32_440
  let v382 : BitVec 32 := Scalar.extui v381
  let c0_i32_445 : BitVec 32 := 0#32
  let v383 : BitVec 1 := Scalar.cmpi .ne v382 c0_i32_445
  v383

def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_438 : BitVec 32 := 32#32
  let v379 : BitVec 32 := Scalar.muli v2 c32_i32_438
  let c0_i32_1618 : BitVec 32 := 0#32
  ![v379.toNat, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_448 : BitVec 32 := 9#32
  let v386 : BitVec 1 := Scalar.cmpi .ne v2 c9_i32_448
  let v387 : BitVec 32 := Scalar.extui v386
  let c0_i32_453 : BitVec 32 := 0#32
  let v388 : BitVec 1 := Scalar.cmpi .ne v387 c0_i32_453
  v388

def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_446 : BitVec 32 := 32#32
  let v384 : BitVec 32 := Scalar.muli v2 c32_i32_446
  let c0_i32_1618 : BitVec 32 := 0#32
  ![v384.toNat, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_456 : BitVec 32 := 10#32
  let v391 : BitVec 1 := Scalar.cmpi .ne v2 c10_i32_456
  let v392 : BitVec 32 := Scalar.extui v391
  let c0_i32_461 : BitVec 32 := 0#32
  let v393 : BitVec 1 := Scalar.cmpi .ne v392 c0_i32_461
  v393

def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_454 : BitVec 32 := 32#32
  let v389 : BitVec 32 := Scalar.muli v2 c32_i32_454
  let c0_i32_1618 : BitVec 32 := 0#32
  ![v389.toNat, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_464 : BitVec 32 := 11#32
  let v396 : BitVec 1 := Scalar.cmpi .ne v2 c11_i32_464
  let v397 : BitVec 32 := Scalar.extui v396
  let c0_i32_469 : BitVec 32 := 0#32
  let v398 : BitVec 1 := Scalar.cmpi .ne v397 c0_i32_469
  v398

def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_462 : BitVec 32 := 32#32
  let v394 : BitVec 32 := Scalar.muli v2 c32_i32_462
  let c0_i32_1618 : BitVec 32 := 0#32
  ![v394.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_472 : BitVec 32 := 12#32
  let v401 : BitVec 1 := Scalar.cmpi .ne v2 c12_i32_472
  let v402 : BitVec 32 := Scalar.extui v401
  let c0_i32_477 : BitVec 32 := 0#32
  let v403 : BitVec 1 := Scalar.cmpi .ne v402 c0_i32_477
  v403

def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_470 : BitVec 32 := 32#32
  let v399 : BitVec 32 := Scalar.muli v2 c32_i32_470
  let c0_i32_1618 : BitVec 32 := 0#32
  ![v399.toNat, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_480 : BitVec 32 := 13#32
  let v406 : BitVec 1 := Scalar.cmpi .ne v2 c13_i32_480
  let v407 : BitVec 32 := Scalar.extui v406
  let c0_i32_485 : BitVec 32 := 0#32
  let v408 : BitVec 1 := Scalar.cmpi .ne v407 c0_i32_485
  v408

def k0_off82 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_478 : BitVec 32 := 32#32
  let v404 : BitVec 32 := Scalar.muli v2 c32_i32_478
  let c0_i32_1618 : BitVec 32 := 0#32
  ![v404.toNat, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_488 : BitVec 32 := 14#32
  let v411 : BitVec 1 := Scalar.cmpi .ne v2 c14_i32_488
  let v412 : BitVec 32 := Scalar.extui v411
  let c0_i32_493 : BitVec 32 := 0#32
  let v413 : BitVec 1 := Scalar.cmpi .ne v412 c0_i32_493
  v413

def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_486 : BitVec 32 := 32#32
  let v409 : BitVec 32 := Scalar.muli v2 c32_i32_486
  let c0_i32_1618 : BitVec 32 := 0#32
  ![v409.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_496 : BitVec 32 := 15#32
  let v416 : BitVec 1 := Scalar.cmpi .ne v2 c15_i32_496
  let v417 : BitVec 32 := Scalar.extui v416
  let c0_i32_501 : BitVec 32 := 0#32
  let v418 : BitVec 1 := Scalar.cmpi .ne v417 c0_i32_501
  v418

def k0_off84 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_494 : BitVec 32 := 32#32
  let v414 : BitVec 32 := Scalar.muli v2 c32_i32_494
  let c0_i32_1618 : BitVec 32 := 0#32
  ![v414.toNat, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_529 : BitVec 32 := 0#32
  let v445 : BitVec 1 := Scalar.cmpi .ne v2 c0_i32_529
  let v446 : BitVec 32 := Scalar.extui v445
  let c0_i32_531 : BitVec 32 := 0#32
  let v447 : BitVec 1 := Scalar.cmpi .ne v446 c0_i32_531
  v447

def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev49 : Nat :=
  let c0_i32_1612 : BitVec 32 := 0#32
  let c0_i32_1610 : BitVec 32 := 0#32
  let c1_i32_1611 : BitVec 32 := 1#32
  let v1318 : BitVec 32 := Scalar.muli c0_i32_1610 c1_i32_1611
  let v1319 : BitVec 32 := Scalar.addi c0_i32_1612 v1318
  v1319.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_532 : BitVec 32 := 1#32
  let v448 : BitVec 1 := Scalar.cmpi .ne v2 c1_i32_532
  let v449 : BitVec 32 := Scalar.extui v448
  let c0_i32_534 : BitVec 32 := 0#32
  let v450 : BitVec 1 := Scalar.cmpi .ne v449 c0_i32_534
  v450

def k0_off87 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev50 : Nat :=
  let c0_i32_1612 : BitVec 32 := 0#32
  let c1_i32_1610 : BitVec 32 := 1#32
  let c1_i32_1611 : BitVec 32 := 1#32
  let v1318 : BitVec 32 := Scalar.muli c1_i32_1610 c1_i32_1611
  let v1319 : BitVec 32 := Scalar.addi c0_i32_1612 v1318
  v1319.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_535 : BitVec 32 := 2#32
  let v451 : BitVec 1 := Scalar.cmpi .ne v2 c2_i32_535
  let v452 : BitVec 32 := Scalar.extui v451
  let c0_i32_537 : BitVec 32 := 0#32
  let v453 : BitVec 1 := Scalar.cmpi .ne v452 c0_i32_537
  v453

def k0_off89 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev51 : Nat :=
  let c0_i32_1612 : BitVec 32 := 0#32
  let c2_i32_1610 : BitVec 32 := 2#32
  let c1_i32_1611 : BitVec 32 := 1#32
  let v1318 : BitVec 32 := Scalar.muli c2_i32_1610 c1_i32_1611
  let v1319 : BitVec 32 := Scalar.addi c0_i32_1612 v1318
  v1319.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_538 : BitVec 32 := 3#32
  let v454 : BitVec 1 := Scalar.cmpi .ne v2 c3_i32_538
  let v455 : BitVec 32 := Scalar.extui v454
  let c0_i32_540 : BitVec 32 := 0#32
  let v456 : BitVec 1 := Scalar.cmpi .ne v455 c0_i32_540
  v456

def k0_off91 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev52 : Nat :=
  let c0_i32_1612 : BitVec 32 := 0#32
  let c3_i32_1610 : BitVec 32 := 3#32
  let c1_i32_1611 : BitVec 32 := 1#32
  let v1318 : BitVec 32 := Scalar.muli c3_i32_1610 c1_i32_1611
  let v1319 : BitVec 32 := Scalar.addi c0_i32_1612 v1318
  v1319.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_564 : BitVec 32 := 4#32
  let v479 : BitVec 1 := Scalar.cmpi .ne v2 c4_i32_564
  let v480 : BitVec 32 := Scalar.extui v479
  let c0_i32_566 : BitVec 32 := 0#32
  let v481 : BitVec 1 := Scalar.cmpi .ne v480 c0_i32_566
  v481

def k0_off93 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev53 : Nat :=
  let c0_i32_1612 : BitVec 32 := 0#32
  let c4_i32_1610 : BitVec 32 := 4#32
  let c1_i32_1611 : BitVec 32 := 1#32
  let v1318 : BitVec 32 := Scalar.muli c4_i32_1610 c1_i32_1611
  let v1319 : BitVec 32 := Scalar.addi c0_i32_1612 v1318
  v1319.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_567 : BitVec 32 := 5#32
  let v482 : BitVec 1 := Scalar.cmpi .ne v2 c5_i32_567
  let v483 : BitVec 32 := Scalar.extui v482
  let c0_i32_569 : BitVec 32 := 0#32
  let v484 : BitVec 1 := Scalar.cmpi .ne v483 c0_i32_569
  v484

def k0_off95 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev54 : Nat :=
  let c0_i32_1612 : BitVec 32 := 0#32
  let c5_i32_1610 : BitVec 32 := 5#32
  let c1_i32_1611 : BitVec 32 := 1#32
  let v1318 : BitVec 32 := Scalar.muli c5_i32_1610 c1_i32_1611
  let v1319 : BitVec 32 := Scalar.addi c0_i32_1612 v1318
  v1319.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_570 : BitVec 32 := 6#32
  let v485 : BitVec 1 := Scalar.cmpi .ne v2 c6_i32_570
  let v486 : BitVec 32 := Scalar.extui v485
  let c0_i32_572 : BitVec 32 := 0#32
  let v487 : BitVec 1 := Scalar.cmpi .ne v486 c0_i32_572
  v487

def k0_off97 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev55 : Nat :=
  let c0_i32_1612 : BitVec 32 := 0#32
  let c6_i32_1610 : BitVec 32 := 6#32
  let c1_i32_1611 : BitVec 32 := 1#32
  let v1318 : BitVec 32 := Scalar.muli c6_i32_1610 c1_i32_1611
  let v1319 : BitVec 32 := Scalar.addi c0_i32_1612 v1318
  v1319.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_573 : BitVec 32 := 7#32
  let v488 : BitVec 1 := Scalar.cmpi .ne v2 c7_i32_573
  let v489 : BitVec 32 := Scalar.extui v488
  let c0_i32_575 : BitVec 32 := 0#32
  let v490 : BitVec 1 := Scalar.cmpi .ne v489 c0_i32_575
  v490

def k0_off99 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off100 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev56 : Nat :=
  let c0_i32_1612 : BitVec 32 := 0#32
  let c7_i32_1610 : BitVec 32 := 7#32
  let c1_i32_1611 : BitVec 32 := 1#32
  let v1318 : BitVec 32 := Scalar.muli c7_i32_1610 c1_i32_1611
  let v1319 : BitVec 32 := Scalar.addi c0_i32_1612 v1318
  v1319.toNat
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_599 : BitVec 32 := 8#32
  let v513 : BitVec 1 := Scalar.cmpi .ne v2 c8_i32_599
  let v514 : BitVec 32 := Scalar.extui v513
  let c0_i32_601 : BitVec 32 := 0#32
  let v515 : BitVec 1 := Scalar.cmpi .ne v514 c0_i32_601
  v515

def k0_off101 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off102 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev57 : Nat :=
  let c0_i32_1612 : BitVec 32 := 0#32
  let c8_i32_1610 : BitVec 32 := 8#32
  let c1_i32_1611 : BitVec 32 := 1#32
  let v1318 : BitVec 32 := Scalar.muli c8_i32_1610 c1_i32_1611
  let v1319 : BitVec 32 := Scalar.addi c0_i32_1612 v1318
  v1319.toNat
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_602 : BitVec 32 := 9#32
  let v516 : BitVec 1 := Scalar.cmpi .ne v2 c9_i32_602
  let v517 : BitVec 32 := Scalar.extui v516
  let c0_i32_604 : BitVec 32 := 0#32
  let v518 : BitVec 1 := Scalar.cmpi .ne v517 c0_i32_604
  v518

def k0_off103 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off104 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev58 : Nat :=
  let c0_i32_1612 : BitVec 32 := 0#32
  let c9_i32_1610 : BitVec 32 := 9#32
  let c1_i32_1611 : BitVec 32 := 1#32
  let v1318 : BitVec 32 := Scalar.muli c9_i32_1610 c1_i32_1611
  let v1319 : BitVec 32 := Scalar.addi c0_i32_1612 v1318
  v1319.toNat
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_605 : BitVec 32 := 10#32
  let v519 : BitVec 1 := Scalar.cmpi .ne v2 c10_i32_605
  let v520 : BitVec 32 := Scalar.extui v519
  let c0_i32_607 : BitVec 32 := 0#32
  let v521 : BitVec 1 := Scalar.cmpi .ne v520 c0_i32_607
  v521

def k0_off105 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev59 : Nat :=
  let c0_i32_1612 : BitVec 32 := 0#32
  let c10_i32_1610 : BitVec 32 := 10#32
  let c1_i32_1611 : BitVec 32 := 1#32
  let v1318 : BitVec 32 := Scalar.muli c10_i32_1610 c1_i32_1611
  let v1319 : BitVec 32 := Scalar.addi c0_i32_1612 v1318
  v1319.toNat
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_608 : BitVec 32 := 11#32
  let v522 : BitVec 1 := Scalar.cmpi .ne v2 c11_i32_608
  let v523 : BitVec 32 := Scalar.extui v522
  let c0_i32_610 : BitVec 32 := 0#32
  let v524 : BitVec 1 := Scalar.cmpi .ne v523 c0_i32_610
  v524

def k0_off107 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off108 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev60 : Nat :=
  let c0_i32_1612 : BitVec 32 := 0#32
  let c11_i32_1610 : BitVec 32 := 11#32
  let c1_i32_1611 : BitVec 32 := 1#32
  let v1318 : BitVec 32 := Scalar.muli c11_i32_1610 c1_i32_1611
  let v1319 : BitVec 32 := Scalar.addi c0_i32_1612 v1318
  v1319.toNat
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_634 : BitVec 32 := 12#32
  let v547 : BitVec 1 := Scalar.cmpi .ne v2 c12_i32_634
  let v548 : BitVec 32 := Scalar.extui v547
  let c0_i32_636 : BitVec 32 := 0#32
  let v549 : BitVec 1 := Scalar.cmpi .ne v548 c0_i32_636
  v549

def k0_off109 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off110 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev61 : Nat :=
  let c0_i32_1612 : BitVec 32 := 0#32
  let c12_i32_1610 : BitVec 32 := 12#32
  let c1_i32_1611 : BitVec 32 := 1#32
  let v1318 : BitVec 32 := Scalar.muli c12_i32_1610 c1_i32_1611
  let v1319 : BitVec 32 := Scalar.addi c0_i32_1612 v1318
  v1319.toNat
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_637 : BitVec 32 := 13#32
  let v550 : BitVec 1 := Scalar.cmpi .ne v2 c13_i32_637
  let v551 : BitVec 32 := Scalar.extui v550
  let c0_i32_639 : BitVec 32 := 0#32
  let v552 : BitVec 1 := Scalar.cmpi .ne v551 c0_i32_639
  v552

def k0_off111 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off112 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev62 : Nat :=
  let c0_i32_1612 : BitVec 32 := 0#32
  let c13_i32_1610 : BitVec 32 := 13#32
  let c1_i32_1611 : BitVec 32 := 1#32
  let v1318 : BitVec 32 := Scalar.muli c13_i32_1610 c1_i32_1611
  let v1319 : BitVec 32 := Scalar.addi c0_i32_1612 v1318
  v1319.toNat
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_640 : BitVec 32 := 14#32
  let v553 : BitVec 1 := Scalar.cmpi .ne v2 c14_i32_640
  let v554 : BitVec 32 := Scalar.extui v553
  let c0_i32_642 : BitVec 32 := 0#32
  let v555 : BitVec 1 := Scalar.cmpi .ne v554 c0_i32_642
  v555

def k0_off113 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off114 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev63 : Nat :=
  let c0_i32_1612 : BitVec 32 := 0#32
  let c14_i32_1610 : BitVec 32 := 14#32
  let c1_i32_1611 : BitVec 32 := 1#32
  let v1318 : BitVec 32 := Scalar.muli c14_i32_1610 c1_i32_1611
  let v1319 : BitVec 32 := Scalar.addi c0_i32_1612 v1318
  v1319.toNat
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_643 : BitVec 32 := 15#32
  let v556 : BitVec 1 := Scalar.cmpi .ne v2 c15_i32_643
  let v557 : BitVec 32 := Scalar.extui v556
  let c0_i32_645 : BitVec 32 := 0#32
  let v558 : BitVec 1 := Scalar.cmpi .ne v557 c0_i32_645
  v558

def k0_off115 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev64 : Nat :=
  let c0_i32_1612 : BitVec 32 := 0#32
  let c15_i32_1610 : BitVec 32 := 15#32
  let c1_i32_1611 : BitVec 32 := 1#32
  let v1318 : BitVec 32 := Scalar.muli c15_i32_1610 c1_i32_1611
  let v1319 : BitVec 32 := Scalar.addi c0_i32_1612 v1318
  v1319.toNat
def k0_cond81 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_818 : BitVec 32 := 0#32
  let v688 : BitVec 1 := Scalar.cmpi .ne v2 c0_i32_818
  let v689 : BitVec 32 := Scalar.extui v688
  let c0_i32_820 : BitVec 32 := 0#32
  let v690 : BitVec 1 := Scalar.cmpi .ne v689 c0_i32_820
  v690

def k0_off117 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off118 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_817 : BitVec 32 := 32#32
  let v687 : BitVec 32 := Scalar.muli v2 c32_i32_817
  let c0_i32_1613 : BitVec 32 := 0#32
  ![v687.toNat, 0]
def k0_dev65 : Nat :=
  let c0_i32_1612 : BitVec 32 := 0#32
  let c0_i32_1610 : BitVec 32 := 0#32
  let c1_i32_1611 : BitVec 32 := 1#32
  let v1318 : BitVec 32 := Scalar.muli c0_i32_1610 c1_i32_1611
  let v1319 : BitVec 32 := Scalar.addi c0_i32_1612 v1318
  v1319.toNat
def k0_cond82 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_823 : BitVec 32 := 1#32
  let v693 : BitVec 1 := Scalar.cmpi .ne v2 c1_i32_823
  let v694 : BitVec 32 := Scalar.extui v693
  let c0_i32_825 : BitVec 32 := 0#32
  let v695 : BitVec 1 := Scalar.cmpi .ne v694 c0_i32_825
  v695

def k0_off119 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off120 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_822 : BitVec 32 := 32#32
  let v692 : BitVec 32 := Scalar.muli v2 c32_i32_822
  let c0_i32_1613 : BitVec 32 := 0#32
  ![v692.toNat, 0]
def k0_dev66 : Nat :=
  let c0_i32_1612 : BitVec 32 := 0#32
  let c1_i32_1610 : BitVec 32 := 1#32
  let c1_i32_1611 : BitVec 32 := 1#32
  let v1318 : BitVec 32 := Scalar.muli c1_i32_1610 c1_i32_1611
  let v1319 : BitVec 32 := Scalar.addi c0_i32_1612 v1318
  v1319.toNat
def k0_cond83 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_828 : BitVec 32 := 2#32
  let v698 : BitVec 1 := Scalar.cmpi .ne v2 c2_i32_828
  let v699 : BitVec 32 := Scalar.extui v698
  let c0_i32_830 : BitVec 32 := 0#32
  let v700 : BitVec 1 := Scalar.cmpi .ne v699 c0_i32_830
  v700

def k0_off121 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off122 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_827 : BitVec 32 := 32#32
  let v697 : BitVec 32 := Scalar.muli v2 c32_i32_827
  let c0_i32_1613 : BitVec 32 := 0#32
  ![v697.toNat, 0]
def k0_dev67 : Nat :=
  let c0_i32_1612 : BitVec 32 := 0#32
  let c2_i32_1610 : BitVec 32 := 2#32
  let c1_i32_1611 : BitVec 32 := 1#32
  let v1318 : BitVec 32 := Scalar.muli c2_i32_1610 c1_i32_1611
  let v1319 : BitVec 32 := Scalar.addi c0_i32_1612 v1318
  v1319.toNat
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_833 : BitVec 32 := 3#32
  let v703 : BitVec 1 := Scalar.cmpi .ne v2 c3_i32_833
  let v704 : BitVec 32 := Scalar.extui v703
  let c0_i32_835 : BitVec 32 := 0#32
  let v705 : BitVec 1 := Scalar.cmpi .ne v704 c0_i32_835
  v705

def k0_off123 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off124 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_832 : BitVec 32 := 32#32
  let v702 : BitVec 32 := Scalar.muli v2 c32_i32_832
  let c0_i32_1613 : BitVec 32 := 0#32
  ![v702.toNat, 0]
def k0_dev68 : Nat :=
  let c0_i32_1612 : BitVec 32 := 0#32
  let c3_i32_1610 : BitVec 32 := 3#32
  let c1_i32_1611 : BitVec 32 := 1#32
  let v1318 : BitVec 32 := Scalar.muli c3_i32_1610 c1_i32_1611
  let v1319 : BitVec 32 := Scalar.addi c0_i32_1612 v1318
  v1319.toNat
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_838 : BitVec 32 := 4#32
  let v708 : BitVec 1 := Scalar.cmpi .ne v2 c4_i32_838
  let v709 : BitVec 32 := Scalar.extui v708
  let c0_i32_840 : BitVec 32 := 0#32
  let v710 : BitVec 1 := Scalar.cmpi .ne v709 c0_i32_840
  v710

def k0_off125 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off126 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_837 : BitVec 32 := 32#32
  let v707 : BitVec 32 := Scalar.muli v2 c32_i32_837
  let c0_i32_1613 : BitVec 32 := 0#32
  ![v707.toNat, 0]
def k0_dev69 : Nat :=
  let c0_i32_1612 : BitVec 32 := 0#32
  let c4_i32_1610 : BitVec 32 := 4#32
  let c1_i32_1611 : BitVec 32 := 1#32
  let v1318 : BitVec 32 := Scalar.muli c4_i32_1610 c1_i32_1611
  let v1319 : BitVec 32 := Scalar.addi c0_i32_1612 v1318
  v1319.toNat
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_843 : BitVec 32 := 5#32
  let v713 : BitVec 1 := Scalar.cmpi .ne v2 c5_i32_843
  let v714 : BitVec 32 := Scalar.extui v713
  let c0_i32_845 : BitVec 32 := 0#32
  let v715 : BitVec 1 := Scalar.cmpi .ne v714 c0_i32_845
  v715

def k0_off127 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off128 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_842 : BitVec 32 := 32#32
  let v712 : BitVec 32 := Scalar.muli v2 c32_i32_842
  let c0_i32_1613 : BitVec 32 := 0#32
  ![v712.toNat, 0]
def k0_dev70 : Nat :=
  let c0_i32_1612 : BitVec 32 := 0#32
  let c5_i32_1610 : BitVec 32 := 5#32
  let c1_i32_1611 : BitVec 32 := 1#32
  let v1318 : BitVec 32 := Scalar.muli c5_i32_1610 c1_i32_1611
  let v1319 : BitVec 32 := Scalar.addi c0_i32_1612 v1318
  v1319.toNat
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_848 : BitVec 32 := 6#32
  let v718 : BitVec 1 := Scalar.cmpi .ne v2 c6_i32_848
  let v719 : BitVec 32 := Scalar.extui v718
  let c0_i32_850 : BitVec 32 := 0#32
  let v720 : BitVec 1 := Scalar.cmpi .ne v719 c0_i32_850
  v720

def k0_off129 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off130 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_847 : BitVec 32 := 32#32
  let v717 : BitVec 32 := Scalar.muli v2 c32_i32_847
  let c0_i32_1613 : BitVec 32 := 0#32
  ![v717.toNat, 0]
def k0_dev71 : Nat :=
  let c0_i32_1612 : BitVec 32 := 0#32
  let c6_i32_1610 : BitVec 32 := 6#32
  let c1_i32_1611 : BitVec 32 := 1#32
  let v1318 : BitVec 32 := Scalar.muli c6_i32_1610 c1_i32_1611
  let v1319 : BitVec 32 := Scalar.addi c0_i32_1612 v1318
  v1319.toNat
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_853 : BitVec 32 := 7#32
  let v723 : BitVec 1 := Scalar.cmpi .ne v2 c7_i32_853
  let v724 : BitVec 32 := Scalar.extui v723
  let c0_i32_855 : BitVec 32 := 0#32
  let v725 : BitVec 1 := Scalar.cmpi .ne v724 c0_i32_855
  v725

def k0_off131 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off132 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_852 : BitVec 32 := 32#32
  let v722 : BitVec 32 := Scalar.muli v2 c32_i32_852
  let c0_i32_1613 : BitVec 32 := 0#32
  ![v722.toNat, 0]
def k0_dev72 : Nat :=
  let c0_i32_1612 : BitVec 32 := 0#32
  let c7_i32_1610 : BitVec 32 := 7#32
  let c1_i32_1611 : BitVec 32 := 1#32
  let v1318 : BitVec 32 := Scalar.muli c7_i32_1610 c1_i32_1611
  let v1319 : BitVec 32 := Scalar.addi c0_i32_1612 v1318
  v1319.toNat
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_858 : BitVec 32 := 8#32
  let v728 : BitVec 1 := Scalar.cmpi .ne v2 c8_i32_858
  let v729 : BitVec 32 := Scalar.extui v728
  let c0_i32_860 : BitVec 32 := 0#32
  let v730 : BitVec 1 := Scalar.cmpi .ne v729 c0_i32_860
  v730

def k0_off133 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off134 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_857 : BitVec 32 := 32#32
  let v727 : BitVec 32 := Scalar.muli v2 c32_i32_857
  let c0_i32_1613 : BitVec 32 := 0#32
  ![v727.toNat, 0]
def k0_dev73 : Nat :=
  let c0_i32_1612 : BitVec 32 := 0#32
  let c8_i32_1610 : BitVec 32 := 8#32
  let c1_i32_1611 : BitVec 32 := 1#32
  let v1318 : BitVec 32 := Scalar.muli c8_i32_1610 c1_i32_1611
  let v1319 : BitVec 32 := Scalar.addi c0_i32_1612 v1318
  v1319.toNat
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_863 : BitVec 32 := 9#32
  let v733 : BitVec 1 := Scalar.cmpi .ne v2 c9_i32_863
  let v734 : BitVec 32 := Scalar.extui v733
  let c0_i32_865 : BitVec 32 := 0#32
  let v735 : BitVec 1 := Scalar.cmpi .ne v734 c0_i32_865
  v735

def k0_off135 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off136 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_862 : BitVec 32 := 32#32
  let v732 : BitVec 32 := Scalar.muli v2 c32_i32_862
  let c0_i32_1613 : BitVec 32 := 0#32
  ![v732.toNat, 0]
def k0_dev74 : Nat :=
  let c0_i32_1612 : BitVec 32 := 0#32
  let c9_i32_1610 : BitVec 32 := 9#32
  let c1_i32_1611 : BitVec 32 := 1#32
  let v1318 : BitVec 32 := Scalar.muli c9_i32_1610 c1_i32_1611
  let v1319 : BitVec 32 := Scalar.addi c0_i32_1612 v1318
  v1319.toNat
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_868 : BitVec 32 := 10#32
  let v738 : BitVec 1 := Scalar.cmpi .ne v2 c10_i32_868
  let v739 : BitVec 32 := Scalar.extui v738
  let c0_i32_870 : BitVec 32 := 0#32
  let v740 : BitVec 1 := Scalar.cmpi .ne v739 c0_i32_870
  v740

def k0_off137 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off138 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_867 : BitVec 32 := 32#32
  let v737 : BitVec 32 := Scalar.muli v2 c32_i32_867
  let c0_i32_1613 : BitVec 32 := 0#32
  ![v737.toNat, 0]
def k0_dev75 : Nat :=
  let c0_i32_1612 : BitVec 32 := 0#32
  let c10_i32_1610 : BitVec 32 := 10#32
  let c1_i32_1611 : BitVec 32 := 1#32
  let v1318 : BitVec 32 := Scalar.muli c10_i32_1610 c1_i32_1611
  let v1319 : BitVec 32 := Scalar.addi c0_i32_1612 v1318
  v1319.toNat
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_873 : BitVec 32 := 11#32
  let v743 : BitVec 1 := Scalar.cmpi .ne v2 c11_i32_873
  let v744 : BitVec 32 := Scalar.extui v743
  let c0_i32_875 : BitVec 32 := 0#32
  let v745 : BitVec 1 := Scalar.cmpi .ne v744 c0_i32_875
  v745

def k0_off139 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off140 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_872 : BitVec 32 := 32#32
  let v742 : BitVec 32 := Scalar.muli v2 c32_i32_872
  let c0_i32_1613 : BitVec 32 := 0#32
  ![v742.toNat, 0]
def k0_dev76 : Nat :=
  let c0_i32_1612 : BitVec 32 := 0#32
  let c11_i32_1610 : BitVec 32 := 11#32
  let c1_i32_1611 : BitVec 32 := 1#32
  let v1318 : BitVec 32 := Scalar.muli c11_i32_1610 c1_i32_1611
  let v1319 : BitVec 32 := Scalar.addi c0_i32_1612 v1318
  v1319.toNat
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_878 : BitVec 32 := 12#32
  let v748 : BitVec 1 := Scalar.cmpi .ne v2 c12_i32_878
  let v749 : BitVec 32 := Scalar.extui v748
  let c0_i32_880 : BitVec 32 := 0#32
  let v750 : BitVec 1 := Scalar.cmpi .ne v749 c0_i32_880
  v750

def k0_off141 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off142 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_877 : BitVec 32 := 32#32
  let v747 : BitVec 32 := Scalar.muli v2 c32_i32_877
  let c0_i32_1613 : BitVec 32 := 0#32
  ![v747.toNat, 0]
def k0_dev77 : Nat :=
  let c0_i32_1612 : BitVec 32 := 0#32
  let c12_i32_1610 : BitVec 32 := 12#32
  let c1_i32_1611 : BitVec 32 := 1#32
  let v1318 : BitVec 32 := Scalar.muli c12_i32_1610 c1_i32_1611
  let v1319 : BitVec 32 := Scalar.addi c0_i32_1612 v1318
  v1319.toNat
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_883 : BitVec 32 := 13#32
  let v753 : BitVec 1 := Scalar.cmpi .ne v2 c13_i32_883
  let v754 : BitVec 32 := Scalar.extui v753
  let c0_i32_885 : BitVec 32 := 0#32
  let v755 : BitVec 1 := Scalar.cmpi .ne v754 c0_i32_885
  v755

def k0_off143 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off144 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_882 : BitVec 32 := 32#32
  let v752 : BitVec 32 := Scalar.muli v2 c32_i32_882
  let c0_i32_1613 : BitVec 32 := 0#32
  ![v752.toNat, 0]
def k0_dev78 : Nat :=
  let c0_i32_1612 : BitVec 32 := 0#32
  let c13_i32_1610 : BitVec 32 := 13#32
  let c1_i32_1611 : BitVec 32 := 1#32
  let v1318 : BitVec 32 := Scalar.muli c13_i32_1610 c1_i32_1611
  let v1319 : BitVec 32 := Scalar.addi c0_i32_1612 v1318
  v1319.toNat
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_888 : BitVec 32 := 14#32
  let v758 : BitVec 1 := Scalar.cmpi .ne v2 c14_i32_888
  let v759 : BitVec 32 := Scalar.extui v758
  let c0_i32_890 : BitVec 32 := 0#32
  let v760 : BitVec 1 := Scalar.cmpi .ne v759 c0_i32_890
  v760

def k0_off145 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off146 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_887 : BitVec 32 := 32#32
  let v757 : BitVec 32 := Scalar.muli v2 c32_i32_887
  let c0_i32_1613 : BitVec 32 := 0#32
  ![v757.toNat, 0]
def k0_dev79 : Nat :=
  let c0_i32_1612 : BitVec 32 := 0#32
  let c14_i32_1610 : BitVec 32 := 14#32
  let c1_i32_1611 : BitVec 32 := 1#32
  let v1318 : BitVec 32 := Scalar.muli c14_i32_1610 c1_i32_1611
  let v1319 : BitVec 32 := Scalar.addi c0_i32_1612 v1318
  v1319.toNat
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_893 : BitVec 32 := 15#32
  let v763 : BitVec 1 := Scalar.cmpi .ne v2 c15_i32_893
  let v764 : BitVec 32 := Scalar.extui v763
  let c0_i32_895 : BitVec 32 := 0#32
  let v765 : BitVec 1 := Scalar.cmpi .ne v764 c0_i32_895
  v765

def k0_off147 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off148 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_892 : BitVec 32 := 32#32
  let v762 : BitVec 32 := Scalar.muli v2 c32_i32_892
  let c0_i32_1613 : BitVec 32 := 0#32
  ![v762.toNat, 0]
def k0_dev80 : Nat :=
  let c0_i32_1612 : BitVec 32 := 0#32
  let c15_i32_1610 : BitVec 32 := 15#32
  let c1_i32_1611 : BitVec 32 := 1#32
  let v1318 : BitVec 32 := Scalar.muli c15_i32_1610 c1_i32_1611
  let v1319 : BitVec 32 := Scalar.addi c0_i32_1612 v1318
  v1319.toNat
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_898 : BitVec 32 := 0#32
  let v768 : BitVec 1 := Scalar.cmpi .ne v2 c0_i32_898
  let v769 : BitVec 32 := Scalar.extui v768
  let c0_i32_903 : BitVec 32 := 0#32
  let v770 : BitVec 1 := Scalar.cmpi .ne v769 c0_i32_903
  v770

def k0_off149 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_896 : BitVec 32 := 32#32
  let v766 : BitVec 32 := Scalar.muli v2 c32_i32_896
  let c0_i32_1618 : BitVec 32 := 0#32
  ![v766.toNat, 0]
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_906 : BitVec 32 := 1#32
  let v773 : BitVec 1 := Scalar.cmpi .ne v2 c1_i32_906
  let v774 : BitVec 32 := Scalar.extui v773
  let c0_i32_911 : BitVec 32 := 0#32
  let v775 : BitVec 1 := Scalar.cmpi .ne v774 c0_i32_911
  v775

def k0_off150 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_904 : BitVec 32 := 32#32
  let v771 : BitVec 32 := Scalar.muli v2 c32_i32_904
  let c0_i32_1618 : BitVec 32 := 0#32
  ![v771.toNat, 0]
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_914 : BitVec 32 := 2#32
  let v778 : BitVec 1 := Scalar.cmpi .ne v2 c2_i32_914
  let v779 : BitVec 32 := Scalar.extui v778
  let c0_i32_919 : BitVec 32 := 0#32
  let v780 : BitVec 1 := Scalar.cmpi .ne v779 c0_i32_919
  v780

def k0_off151 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_912 : BitVec 32 := 32#32
  let v776 : BitVec 32 := Scalar.muli v2 c32_i32_912
  let c0_i32_1618 : BitVec 32 := 0#32
  ![v776.toNat, 0]
def k0_cond100 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_922 : BitVec 32 := 3#32
  let v783 : BitVec 1 := Scalar.cmpi .ne v2 c3_i32_922
  let v784 : BitVec 32 := Scalar.extui v783
  let c0_i32_927 : BitVec 32 := 0#32
  let v785 : BitVec 1 := Scalar.cmpi .ne v784 c0_i32_927
  v785

def k0_off152 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_920 : BitVec 32 := 32#32
  let v781 : BitVec 32 := Scalar.muli v2 c32_i32_920
  let c0_i32_1618 : BitVec 32 := 0#32
  ![v781.toNat, 0]
def k0_cond101 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_930 : BitVec 32 := 4#32
  let v788 : BitVec 1 := Scalar.cmpi .ne v2 c4_i32_930
  let v789 : BitVec 32 := Scalar.extui v788
  let c0_i32_935 : BitVec 32 := 0#32
  let v790 : BitVec 1 := Scalar.cmpi .ne v789 c0_i32_935
  v790

def k0_off153 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_928 : BitVec 32 := 32#32
  let v786 : BitVec 32 := Scalar.muli v2 c32_i32_928
  let c0_i32_1618 : BitVec 32 := 0#32
  ![v786.toNat, 0]
def k0_cond102 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_938 : BitVec 32 := 5#32
  let v793 : BitVec 1 := Scalar.cmpi .ne v2 c5_i32_938
  let v794 : BitVec 32 := Scalar.extui v793
  let c0_i32_943 : BitVec 32 := 0#32
  let v795 : BitVec 1 := Scalar.cmpi .ne v794 c0_i32_943
  v795

def k0_off154 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_936 : BitVec 32 := 32#32
  let v791 : BitVec 32 := Scalar.muli v2 c32_i32_936
  let c0_i32_1618 : BitVec 32 := 0#32
  ![v791.toNat, 0]
def k0_cond103 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_946 : BitVec 32 := 6#32
  let v798 : BitVec 1 := Scalar.cmpi .ne v2 c6_i32_946
  let v799 : BitVec 32 := Scalar.extui v798
  let c0_i32_951 : BitVec 32 := 0#32
  let v800 : BitVec 1 := Scalar.cmpi .ne v799 c0_i32_951
  v800

def k0_off155 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_944 : BitVec 32 := 32#32
  let v796 : BitVec 32 := Scalar.muli v2 c32_i32_944
  let c0_i32_1618 : BitVec 32 := 0#32
  ![v796.toNat, 0]
def k0_cond104 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_954 : BitVec 32 := 7#32
  let v803 : BitVec 1 := Scalar.cmpi .ne v2 c7_i32_954
  let v804 : BitVec 32 := Scalar.extui v803
  let c0_i32_959 : BitVec 32 := 0#32
  let v805 : BitVec 1 := Scalar.cmpi .ne v804 c0_i32_959
  v805

def k0_off156 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_952 : BitVec 32 := 32#32
  let v801 : BitVec 32 := Scalar.muli v2 c32_i32_952
  let c0_i32_1618 : BitVec 32 := 0#32
  ![v801.toNat, 0]
def k0_cond105 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_962 : BitVec 32 := 8#32
  let v808 : BitVec 1 := Scalar.cmpi .ne v2 c8_i32_962
  let v809 : BitVec 32 := Scalar.extui v808
  let c0_i32_967 : BitVec 32 := 0#32
  let v810 : BitVec 1 := Scalar.cmpi .ne v809 c0_i32_967
  v810

def k0_off157 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_960 : BitVec 32 := 32#32
  let v806 : BitVec 32 := Scalar.muli v2 c32_i32_960
  let c0_i32_1618 : BitVec 32 := 0#32
  ![v806.toNat, 0]
def k0_cond106 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_970 : BitVec 32 := 9#32
  let v813 : BitVec 1 := Scalar.cmpi .ne v2 c9_i32_970
  let v814 : BitVec 32 := Scalar.extui v813
  let c0_i32_975 : BitVec 32 := 0#32
  let v815 : BitVec 1 := Scalar.cmpi .ne v814 c0_i32_975
  v815

def k0_off158 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_968 : BitVec 32 := 32#32
  let v811 : BitVec 32 := Scalar.muli v2 c32_i32_968
  let c0_i32_1618 : BitVec 32 := 0#32
  ![v811.toNat, 0]
def k0_cond107 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_978 : BitVec 32 := 10#32
  let v818 : BitVec 1 := Scalar.cmpi .ne v2 c10_i32_978
  let v819 : BitVec 32 := Scalar.extui v818
  let c0_i32_983 : BitVec 32 := 0#32
  let v820 : BitVec 1 := Scalar.cmpi .ne v819 c0_i32_983
  v820

def k0_off159 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_976 : BitVec 32 := 32#32
  let v816 : BitVec 32 := Scalar.muli v2 c32_i32_976
  let c0_i32_1618 : BitVec 32 := 0#32
  ![v816.toNat, 0]
def k0_cond108 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_986 : BitVec 32 := 11#32
  let v823 : BitVec 1 := Scalar.cmpi .ne v2 c11_i32_986
  let v824 : BitVec 32 := Scalar.extui v823
  let c0_i32_991 : BitVec 32 := 0#32
  let v825 : BitVec 1 := Scalar.cmpi .ne v824 c0_i32_991
  v825

def k0_off160 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_984 : BitVec 32 := 32#32
  let v821 : BitVec 32 := Scalar.muli v2 c32_i32_984
  let c0_i32_1618 : BitVec 32 := 0#32
  ![v821.toNat, 0]
def k0_cond109 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_994 : BitVec 32 := 12#32
  let v828 : BitVec 1 := Scalar.cmpi .ne v2 c12_i32_994
  let v829 : BitVec 32 := Scalar.extui v828
  let c0_i32_999 : BitVec 32 := 0#32
  let v830 : BitVec 1 := Scalar.cmpi .ne v829 c0_i32_999
  v830

def k0_off161 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_992 : BitVec 32 := 32#32
  let v826 : BitVec 32 := Scalar.muli v2 c32_i32_992
  let c0_i32_1618 : BitVec 32 := 0#32
  ![v826.toNat, 0]
def k0_cond110 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1002 : BitVec 32 := 13#32
  let v833 : BitVec 1 := Scalar.cmpi .ne v2 c13_i32_1002
  let v834 : BitVec 32 := Scalar.extui v833
  let c0_i32_1007 : BitVec 32 := 0#32
  let v835 : BitVec 1 := Scalar.cmpi .ne v834 c0_i32_1007
  v835

def k0_off162 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1000 : BitVec 32 := 32#32
  let v831 : BitVec 32 := Scalar.muli v2 c32_i32_1000
  let c0_i32_1618 : BitVec 32 := 0#32
  ![v831.toNat, 0]
def k0_cond111 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1010 : BitVec 32 := 14#32
  let v838 : BitVec 1 := Scalar.cmpi .ne v2 c14_i32_1010
  let v839 : BitVec 32 := Scalar.extui v838
  let c0_i32_1015 : BitVec 32 := 0#32
  let v840 : BitVec 1 := Scalar.cmpi .ne v839 c0_i32_1015
  v840

def k0_off163 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1008 : BitVec 32 := 32#32
  let v836 : BitVec 32 := Scalar.muli v2 c32_i32_1008
  let c0_i32_1618 : BitVec 32 := 0#32
  ![v836.toNat, 0]
def k0_cond112 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1018 : BitVec 32 := 15#32
  let v843 : BitVec 1 := Scalar.cmpi .ne v2 c15_i32_1018
  let v844 : BitVec 32 := Scalar.extui v843
  let c0_i32_1023 : BitVec 32 := 0#32
  let v845 : BitVec 1 := Scalar.cmpi .ne v844 c0_i32_1023
  v845

def k0_off164 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1016 : BitVec 32 := 32#32
  let v841 : BitVec 32 := Scalar.muli v2 c32_i32_1016
  let c0_i32_1618 : BitVec 32 := 0#32
  ![v841.toNat, 0]
def k0_cond117 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1051 : BitVec 32 := 0#32
  let v872 : BitVec 1 := Scalar.cmpi .ne v2 c0_i32_1051
  let v873 : BitVec 32 := Scalar.extui v872
  let c0_i32_1053 : BitVec 32 := 0#32
  let v874 : BitVec 1 := Scalar.cmpi .ne v873 c0_i32_1053
  v874

def k0_off165 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off166 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev81 : Nat :=
  let c0_i32_1612 : BitVec 32 := 0#32
  let c0_i32_1610 : BitVec 32 := 0#32
  let c1_i32_1611 : BitVec 32 := 1#32
  let v1318 : BitVec 32 := Scalar.muli c0_i32_1610 c1_i32_1611
  let v1319 : BitVec 32 := Scalar.addi c0_i32_1612 v1318
  v1319.toNat
def k0_cond118 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1054 : BitVec 32 := 1#32
  let v875 : BitVec 1 := Scalar.cmpi .ne v2 c1_i32_1054
  let v876 : BitVec 32 := Scalar.extui v875
  let c0_i32_1056 : BitVec 32 := 0#32
  let v877 : BitVec 1 := Scalar.cmpi .ne v876 c0_i32_1056
  v877

def k0_off167 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off168 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev82 : Nat :=
  let c0_i32_1612 : BitVec 32 := 0#32
  let c1_i32_1610 : BitVec 32 := 1#32
  let c1_i32_1611 : BitVec 32 := 1#32
  let v1318 : BitVec 32 := Scalar.muli c1_i32_1610 c1_i32_1611
  let v1319 : BitVec 32 := Scalar.addi c0_i32_1612 v1318
  v1319.toNat
def k0_cond119 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1057 : BitVec 32 := 2#32
  let v878 : BitVec 1 := Scalar.cmpi .ne v2 c2_i32_1057
  let v879 : BitVec 32 := Scalar.extui v878
  let c0_i32_1059 : BitVec 32 := 0#32
  let v880 : BitVec 1 := Scalar.cmpi .ne v879 c0_i32_1059
  v880

def k0_off169 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off170 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev83 : Nat :=
  let c0_i32_1612 : BitVec 32 := 0#32
  let c2_i32_1610 : BitVec 32 := 2#32
  let c1_i32_1611 : BitVec 32 := 1#32
  let v1318 : BitVec 32 := Scalar.muli c2_i32_1610 c1_i32_1611
  let v1319 : BitVec 32 := Scalar.addi c0_i32_1612 v1318
  v1319.toNat
def k0_cond120 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1060 : BitVec 32 := 3#32
  let v881 : BitVec 1 := Scalar.cmpi .ne v2 c3_i32_1060
  let v882 : BitVec 32 := Scalar.extui v881
  let c0_i32_1062 : BitVec 32 := 0#32
  let v883 : BitVec 1 := Scalar.cmpi .ne v882 c0_i32_1062
  v883

def k0_off171 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off172 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev84 : Nat :=
  let c0_i32_1612 : BitVec 32 := 0#32
  let c3_i32_1610 : BitVec 32 := 3#32
  let c1_i32_1611 : BitVec 32 := 1#32
  let v1318 : BitVec 32 := Scalar.muli c3_i32_1610 c1_i32_1611
  let v1319 : BitVec 32 := Scalar.addi c0_i32_1612 v1318
  v1319.toNat
def k0_cond125 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1086 : BitVec 32 := 4#32
  let v906 : BitVec 1 := Scalar.cmpi .ne v2 c4_i32_1086
  let v907 : BitVec 32 := Scalar.extui v906
  let c0_i32_1088 : BitVec 32 := 0#32
  let v908 : BitVec 1 := Scalar.cmpi .ne v907 c0_i32_1088
  v908

def k0_off173 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off174 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev85 : Nat :=
  let c0_i32_1612 : BitVec 32 := 0#32
  let c4_i32_1610 : BitVec 32 := 4#32
  let c1_i32_1611 : BitVec 32 := 1#32
  let v1318 : BitVec 32 := Scalar.muli c4_i32_1610 c1_i32_1611
  let v1319 : BitVec 32 := Scalar.addi c0_i32_1612 v1318
  v1319.toNat
def k0_cond126 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1089 : BitVec 32 := 5#32
  let v909 : BitVec 1 := Scalar.cmpi .ne v2 c5_i32_1089
  let v910 : BitVec 32 := Scalar.extui v909
  let c0_i32_1091 : BitVec 32 := 0#32
  let v911 : BitVec 1 := Scalar.cmpi .ne v910 c0_i32_1091
  v911

def k0_off175 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off176 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev86 : Nat :=
  let c0_i32_1612 : BitVec 32 := 0#32
  let c5_i32_1610 : BitVec 32 := 5#32
  let c1_i32_1611 : BitVec 32 := 1#32
  let v1318 : BitVec 32 := Scalar.muli c5_i32_1610 c1_i32_1611
  let v1319 : BitVec 32 := Scalar.addi c0_i32_1612 v1318
  v1319.toNat
def k0_cond127 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1092 : BitVec 32 := 6#32
  let v912 : BitVec 1 := Scalar.cmpi .ne v2 c6_i32_1092
  let v913 : BitVec 32 := Scalar.extui v912
  let c0_i32_1094 : BitVec 32 := 0#32
  let v914 : BitVec 1 := Scalar.cmpi .ne v913 c0_i32_1094
  v914

def k0_off177 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off178 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev87 : Nat :=
  let c0_i32_1612 : BitVec 32 := 0#32
  let c6_i32_1610 : BitVec 32 := 6#32
  let c1_i32_1611 : BitVec 32 := 1#32
  let v1318 : BitVec 32 := Scalar.muli c6_i32_1610 c1_i32_1611
  let v1319 : BitVec 32 := Scalar.addi c0_i32_1612 v1318
  v1319.toNat
def k0_cond128 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1095 : BitVec 32 := 7#32
  let v915 : BitVec 1 := Scalar.cmpi .ne v2 c7_i32_1095
  let v916 : BitVec 32 := Scalar.extui v915
  let c0_i32_1097 : BitVec 32 := 0#32
  let v917 : BitVec 1 := Scalar.cmpi .ne v916 c0_i32_1097
  v917

def k0_off179 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off180 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev88 : Nat :=
  let c0_i32_1612 : BitVec 32 := 0#32
  let c7_i32_1610 : BitVec 32 := 7#32
  let c1_i32_1611 : BitVec 32 := 1#32
  let v1318 : BitVec 32 := Scalar.muli c7_i32_1610 c1_i32_1611
  let v1319 : BitVec 32 := Scalar.addi c0_i32_1612 v1318
  v1319.toNat
def k0_cond133 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1121 : BitVec 32 := 8#32
  let v940 : BitVec 1 := Scalar.cmpi .ne v2 c8_i32_1121
  let v941 : BitVec 32 := Scalar.extui v940
  let c0_i32_1123 : BitVec 32 := 0#32
  let v942 : BitVec 1 := Scalar.cmpi .ne v941 c0_i32_1123
  v942

def k0_off181 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off182 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev89 : Nat :=
  let c0_i32_1612 : BitVec 32 := 0#32
  let c8_i32_1610 : BitVec 32 := 8#32
  let c1_i32_1611 : BitVec 32 := 1#32
  let v1318 : BitVec 32 := Scalar.muli c8_i32_1610 c1_i32_1611
  let v1319 : BitVec 32 := Scalar.addi c0_i32_1612 v1318
  v1319.toNat
def k0_cond134 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1124 : BitVec 32 := 9#32
  let v943 : BitVec 1 := Scalar.cmpi .ne v2 c9_i32_1124
  let v944 : BitVec 32 := Scalar.extui v943
  let c0_i32_1126 : BitVec 32 := 0#32
  let v945 : BitVec 1 := Scalar.cmpi .ne v944 c0_i32_1126
  v945

def k0_off183 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off184 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev90 : Nat :=
  let c0_i32_1612 : BitVec 32 := 0#32
  let c9_i32_1610 : BitVec 32 := 9#32
  let c1_i32_1611 : BitVec 32 := 1#32
  let v1318 : BitVec 32 := Scalar.muli c9_i32_1610 c1_i32_1611
  let v1319 : BitVec 32 := Scalar.addi c0_i32_1612 v1318
  v1319.toNat
def k0_cond135 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1127 : BitVec 32 := 10#32
  let v946 : BitVec 1 := Scalar.cmpi .ne v2 c10_i32_1127
  let v947 : BitVec 32 := Scalar.extui v946
  let c0_i32_1129 : BitVec 32 := 0#32
  let v948 : BitVec 1 := Scalar.cmpi .ne v947 c0_i32_1129
  v948

def k0_off185 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off186 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev91 : Nat :=
  let c0_i32_1612 : BitVec 32 := 0#32
  let c10_i32_1610 : BitVec 32 := 10#32
  let c1_i32_1611 : BitVec 32 := 1#32
  let v1318 : BitVec 32 := Scalar.muli c10_i32_1610 c1_i32_1611
  let v1319 : BitVec 32 := Scalar.addi c0_i32_1612 v1318
  v1319.toNat
def k0_cond136 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1130 : BitVec 32 := 11#32
  let v949 : BitVec 1 := Scalar.cmpi .ne v2 c11_i32_1130
  let v950 : BitVec 32 := Scalar.extui v949
  let c0_i32_1132 : BitVec 32 := 0#32
  let v951 : BitVec 1 := Scalar.cmpi .ne v950 c0_i32_1132
  v951

def k0_off187 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off188 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev92 : Nat :=
  let c0_i32_1612 : BitVec 32 := 0#32
  let c11_i32_1610 : BitVec 32 := 11#32
  let c1_i32_1611 : BitVec 32 := 1#32
  let v1318 : BitVec 32 := Scalar.muli c11_i32_1610 c1_i32_1611
  let v1319 : BitVec 32 := Scalar.addi c0_i32_1612 v1318
  v1319.toNat
def k0_cond141 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1156 : BitVec 32 := 12#32
  let v974 : BitVec 1 := Scalar.cmpi .ne v2 c12_i32_1156
  let v975 : BitVec 32 := Scalar.extui v974
  let c0_i32_1158 : BitVec 32 := 0#32
  let v976 : BitVec 1 := Scalar.cmpi .ne v975 c0_i32_1158
  v976

def k0_off189 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off190 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev93 : Nat :=
  let c0_i32_1612 : BitVec 32 := 0#32
  let c12_i32_1610 : BitVec 32 := 12#32
  let c1_i32_1611 : BitVec 32 := 1#32
  let v1318 : BitVec 32 := Scalar.muli c12_i32_1610 c1_i32_1611
  let v1319 : BitVec 32 := Scalar.addi c0_i32_1612 v1318
  v1319.toNat
def k0_cond142 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1159 : BitVec 32 := 13#32
  let v977 : BitVec 1 := Scalar.cmpi .ne v2 c13_i32_1159
  let v978 : BitVec 32 := Scalar.extui v977
  let c0_i32_1161 : BitVec 32 := 0#32
  let v979 : BitVec 1 := Scalar.cmpi .ne v978 c0_i32_1161
  v979

def k0_off191 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off192 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev94 : Nat :=
  let c0_i32_1612 : BitVec 32 := 0#32
  let c13_i32_1610 : BitVec 32 := 13#32
  let c1_i32_1611 : BitVec 32 := 1#32
  let v1318 : BitVec 32 := Scalar.muli c13_i32_1610 c1_i32_1611
  let v1319 : BitVec 32 := Scalar.addi c0_i32_1612 v1318
  v1319.toNat
def k0_cond143 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1162 : BitVec 32 := 14#32
  let v980 : BitVec 1 := Scalar.cmpi .ne v2 c14_i32_1162
  let v981 : BitVec 32 := Scalar.extui v980
  let c0_i32_1164 : BitVec 32 := 0#32
  let v982 : BitVec 1 := Scalar.cmpi .ne v981 c0_i32_1164
  v982

def k0_off193 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off194 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev95 : Nat :=
  let c0_i32_1612 : BitVec 32 := 0#32
  let c14_i32_1610 : BitVec 32 := 14#32
  let c1_i32_1611 : BitVec 32 := 1#32
  let v1318 : BitVec 32 := Scalar.muli c14_i32_1610 c1_i32_1611
  let v1319 : BitVec 32 := Scalar.addi c0_i32_1612 v1318
  v1319.toNat
def k0_cond144 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1165 : BitVec 32 := 15#32
  let v983 : BitVec 1 := Scalar.cmpi .ne v2 c15_i32_1165
  let v984 : BitVec 32 := Scalar.extui v983
  let c0_i32_1167 : BitVec 32 := 0#32
  let v985 : BitVec 1 := Scalar.cmpi .ne v984 c0_i32_1167
  v985

def k0_off195 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off196 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1613 : BitVec 32 := 0#32
  let c0_i32_1614 : BitVec 32 := 0#32
  ![v2.toNat, 0, 0]
def k0_dev96 : Nat :=
  let c0_i32_1612 : BitVec 32 := 0#32
  let c15_i32_1610 : BitVec 32 := 15#32
  let c1_i32_1611 : BitVec 32 := 1#32
  let v1318 : BitVec 32 := Scalar.muli c15_i32_1610 c1_i32_1611
  let v1319 : BitVec 32 := Scalar.addi c0_i32_1612 v1318
  v1319.toNat
def k0_cond145 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1340 : BitVec 32 := 0#32
  let v1112 : BitVec 1 := Scalar.cmpi .ne v2 c0_i32_1340
  let v1113 : BitVec 32 := Scalar.extui v1112
  let c0_i32_1342 : BitVec 32 := 0#32
  let v1114 : BitVec 1 := Scalar.cmpi .ne v1113 c0_i32_1342
  v1114

def k0_off197 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off198 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1339 : BitVec 32 := 32#32
  let v1111 : BitVec 32 := Scalar.muli v2 c32_i32_1339
  let c0_i32_1613 : BitVec 32 := 0#32
  ![v1111.toNat, 0]
def k0_dev97 : Nat :=
  let c0_i32_1612 : BitVec 32 := 0#32
  let c0_i32_1610 : BitVec 32 := 0#32
  let c1_i32_1611 : BitVec 32 := 1#32
  let v1318 : BitVec 32 := Scalar.muli c0_i32_1610 c1_i32_1611
  let v1319 : BitVec 32 := Scalar.addi c0_i32_1612 v1318
  v1319.toNat
def k0_cond146 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1345 : BitVec 32 := 1#32
  let v1117 : BitVec 1 := Scalar.cmpi .ne v2 c1_i32_1345
  let v1118 : BitVec 32 := Scalar.extui v1117
  let c0_i32_1347 : BitVec 32 := 0#32
  let v1119 : BitVec 1 := Scalar.cmpi .ne v1118 c0_i32_1347
  v1119

def k0_off199 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off200 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1344 : BitVec 32 := 32#32
  let v1116 : BitVec 32 := Scalar.muli v2 c32_i32_1344
  let c0_i32_1613 : BitVec 32 := 0#32
  ![v1116.toNat, 0]
def k0_dev98 : Nat :=
  let c0_i32_1612 : BitVec 32 := 0#32
  let c1_i32_1610 : BitVec 32 := 1#32
  let c1_i32_1611 : BitVec 32 := 1#32
  let v1318 : BitVec 32 := Scalar.muli c1_i32_1610 c1_i32_1611
  let v1319 : BitVec 32 := Scalar.addi c0_i32_1612 v1318
  v1319.toNat
def k0_cond147 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1350 : BitVec 32 := 2#32
  let v1122 : BitVec 1 := Scalar.cmpi .ne v2 c2_i32_1350
  let v1123 : BitVec 32 := Scalar.extui v1122
  let c0_i32_1352 : BitVec 32 := 0#32
  let v1124 : BitVec 1 := Scalar.cmpi .ne v1123 c0_i32_1352
  v1124

def k0_off201 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off202 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1349 : BitVec 32 := 32#32
  let v1121 : BitVec 32 := Scalar.muli v2 c32_i32_1349
  let c0_i32_1613 : BitVec 32 := 0#32
  ![v1121.toNat, 0]
def k0_dev99 : Nat :=
  let c0_i32_1612 : BitVec 32 := 0#32
  let c2_i32_1610 : BitVec 32 := 2#32
  let c1_i32_1611 : BitVec 32 := 1#32
  let v1318 : BitVec 32 := Scalar.muli c2_i32_1610 c1_i32_1611
  let v1319 : BitVec 32 := Scalar.addi c0_i32_1612 v1318
  v1319.toNat
def k0_cond148 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1355 : BitVec 32 := 3#32
  let v1127 : BitVec 1 := Scalar.cmpi .ne v2 c3_i32_1355
  let v1128 : BitVec 32 := Scalar.extui v1127
  let c0_i32_1357 : BitVec 32 := 0#32
  let v1129 : BitVec 1 := Scalar.cmpi .ne v1128 c0_i32_1357
  v1129

def k0_off203 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off204 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1354 : BitVec 32 := 32#32
  let v1126 : BitVec 32 := Scalar.muli v2 c32_i32_1354
  let c0_i32_1613 : BitVec 32 := 0#32
  ![v1126.toNat, 0]
def k0_dev100 : Nat :=
  let c0_i32_1612 : BitVec 32 := 0#32
  let c3_i32_1610 : BitVec 32 := 3#32
  let c1_i32_1611 : BitVec 32 := 1#32
  let v1318 : BitVec 32 := Scalar.muli c3_i32_1610 c1_i32_1611
  let v1319 : BitVec 32 := Scalar.addi c0_i32_1612 v1318
  v1319.toNat
def k0_cond149 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1360 : BitVec 32 := 4#32
  let v1132 : BitVec 1 := Scalar.cmpi .ne v2 c4_i32_1360
  let v1133 : BitVec 32 := Scalar.extui v1132
  let c0_i32_1362 : BitVec 32 := 0#32
  let v1134 : BitVec 1 := Scalar.cmpi .ne v1133 c0_i32_1362
  v1134

def k0_off205 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off206 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1359 : BitVec 32 := 32#32
  let v1131 : BitVec 32 := Scalar.muli v2 c32_i32_1359
  let c0_i32_1613 : BitVec 32 := 0#32
  ![v1131.toNat, 0]
def k0_dev101 : Nat :=
  let c0_i32_1612 : BitVec 32 := 0#32
  let c4_i32_1610 : BitVec 32 := 4#32
  let c1_i32_1611 : BitVec 32 := 1#32
  let v1318 : BitVec 32 := Scalar.muli c4_i32_1610 c1_i32_1611
  let v1319 : BitVec 32 := Scalar.addi c0_i32_1612 v1318
  v1319.toNat
def k0_cond150 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1365 : BitVec 32 := 5#32
  let v1137 : BitVec 1 := Scalar.cmpi .ne v2 c5_i32_1365
  let v1138 : BitVec 32 := Scalar.extui v1137
  let c0_i32_1367 : BitVec 32 := 0#32
  let v1139 : BitVec 1 := Scalar.cmpi .ne v1138 c0_i32_1367
  v1139

def k0_off207 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off208 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1364 : BitVec 32 := 32#32
  let v1136 : BitVec 32 := Scalar.muli v2 c32_i32_1364
  let c0_i32_1613 : BitVec 32 := 0#32
  ![v1136.toNat, 0]
def k0_dev102 : Nat :=
  let c0_i32_1612 : BitVec 32 := 0#32
  let c5_i32_1610 : BitVec 32 := 5#32
  let c1_i32_1611 : BitVec 32 := 1#32
  let v1318 : BitVec 32 := Scalar.muli c5_i32_1610 c1_i32_1611
  let v1319 : BitVec 32 := Scalar.addi c0_i32_1612 v1318
  v1319.toNat
def k0_cond151 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1370 : BitVec 32 := 6#32
  let v1142 : BitVec 1 := Scalar.cmpi .ne v2 c6_i32_1370
  let v1143 : BitVec 32 := Scalar.extui v1142
  let c0_i32_1372 : BitVec 32 := 0#32
  let v1144 : BitVec 1 := Scalar.cmpi .ne v1143 c0_i32_1372
  v1144

def k0_off209 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off210 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1369 : BitVec 32 := 32#32
  let v1141 : BitVec 32 := Scalar.muli v2 c32_i32_1369
  let c0_i32_1613 : BitVec 32 := 0#32
  ![v1141.toNat, 0]
def k0_dev103 : Nat :=
  let c0_i32_1612 : BitVec 32 := 0#32
  let c6_i32_1610 : BitVec 32 := 6#32
  let c1_i32_1611 : BitVec 32 := 1#32
  let v1318 : BitVec 32 := Scalar.muli c6_i32_1610 c1_i32_1611
  let v1319 : BitVec 32 := Scalar.addi c0_i32_1612 v1318
  v1319.toNat
def k0_cond152 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1375 : BitVec 32 := 7#32
  let v1147 : BitVec 1 := Scalar.cmpi .ne v2 c7_i32_1375
  let v1148 : BitVec 32 := Scalar.extui v1147
  let c0_i32_1377 : BitVec 32 := 0#32
  let v1149 : BitVec 1 := Scalar.cmpi .ne v1148 c0_i32_1377
  v1149

def k0_off211 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off212 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1374 : BitVec 32 := 32#32
  let v1146 : BitVec 32 := Scalar.muli v2 c32_i32_1374
  let c0_i32_1613 : BitVec 32 := 0#32
  ![v1146.toNat, 0]
def k0_dev104 : Nat :=
  let c0_i32_1612 : BitVec 32 := 0#32
  let c7_i32_1610 : BitVec 32 := 7#32
  let c1_i32_1611 : BitVec 32 := 1#32
  let v1318 : BitVec 32 := Scalar.muli c7_i32_1610 c1_i32_1611
  let v1319 : BitVec 32 := Scalar.addi c0_i32_1612 v1318
  v1319.toNat
def k0_cond153 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1380 : BitVec 32 := 8#32
  let v1152 : BitVec 1 := Scalar.cmpi .ne v2 c8_i32_1380
  let v1153 : BitVec 32 := Scalar.extui v1152
  let c0_i32_1382 : BitVec 32 := 0#32
  let v1154 : BitVec 1 := Scalar.cmpi .ne v1153 c0_i32_1382
  v1154

def k0_off213 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off214 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1379 : BitVec 32 := 32#32
  let v1151 : BitVec 32 := Scalar.muli v2 c32_i32_1379
  let c0_i32_1613 : BitVec 32 := 0#32
  ![v1151.toNat, 0]
def k0_dev105 : Nat :=
  let c0_i32_1612 : BitVec 32 := 0#32
  let c8_i32_1610 : BitVec 32 := 8#32
  let c1_i32_1611 : BitVec 32 := 1#32
  let v1318 : BitVec 32 := Scalar.muli c8_i32_1610 c1_i32_1611
  let v1319 : BitVec 32 := Scalar.addi c0_i32_1612 v1318
  v1319.toNat
def k0_cond154 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1385 : BitVec 32 := 9#32
  let v1157 : BitVec 1 := Scalar.cmpi .ne v2 c9_i32_1385
  let v1158 : BitVec 32 := Scalar.extui v1157
  let c0_i32_1387 : BitVec 32 := 0#32
  let v1159 : BitVec 1 := Scalar.cmpi .ne v1158 c0_i32_1387
  v1159

def k0_off215 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off216 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1384 : BitVec 32 := 32#32
  let v1156 : BitVec 32 := Scalar.muli v2 c32_i32_1384
  let c0_i32_1613 : BitVec 32 := 0#32
  ![v1156.toNat, 0]
def k0_dev106 : Nat :=
  let c0_i32_1612 : BitVec 32 := 0#32
  let c9_i32_1610 : BitVec 32 := 9#32
  let c1_i32_1611 : BitVec 32 := 1#32
  let v1318 : BitVec 32 := Scalar.muli c9_i32_1610 c1_i32_1611
  let v1319 : BitVec 32 := Scalar.addi c0_i32_1612 v1318
  v1319.toNat
def k0_cond155 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1390 : BitVec 32 := 10#32
  let v1162 : BitVec 1 := Scalar.cmpi .ne v2 c10_i32_1390
  let v1163 : BitVec 32 := Scalar.extui v1162
  let c0_i32_1392 : BitVec 32 := 0#32
  let v1164 : BitVec 1 := Scalar.cmpi .ne v1163 c0_i32_1392
  v1164

def k0_off217 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off218 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1389 : BitVec 32 := 32#32
  let v1161 : BitVec 32 := Scalar.muli v2 c32_i32_1389
  let c0_i32_1613 : BitVec 32 := 0#32
  ![v1161.toNat, 0]
def k0_dev107 : Nat :=
  let c0_i32_1612 : BitVec 32 := 0#32
  let c10_i32_1610 : BitVec 32 := 10#32
  let c1_i32_1611 : BitVec 32 := 1#32
  let v1318 : BitVec 32 := Scalar.muli c10_i32_1610 c1_i32_1611
  let v1319 : BitVec 32 := Scalar.addi c0_i32_1612 v1318
  v1319.toNat
def k0_cond156 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1395 : BitVec 32 := 11#32
  let v1167 : BitVec 1 := Scalar.cmpi .ne v2 c11_i32_1395
  let v1168 : BitVec 32 := Scalar.extui v1167
  let c0_i32_1397 : BitVec 32 := 0#32
  let v1169 : BitVec 1 := Scalar.cmpi .ne v1168 c0_i32_1397
  v1169

def k0_off219 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off220 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1394 : BitVec 32 := 32#32
  let v1166 : BitVec 32 := Scalar.muli v2 c32_i32_1394
  let c0_i32_1613 : BitVec 32 := 0#32
  ![v1166.toNat, 0]
def k0_dev108 : Nat :=
  let c0_i32_1612 : BitVec 32 := 0#32
  let c11_i32_1610 : BitVec 32 := 11#32
  let c1_i32_1611 : BitVec 32 := 1#32
  let v1318 : BitVec 32 := Scalar.muli c11_i32_1610 c1_i32_1611
  let v1319 : BitVec 32 := Scalar.addi c0_i32_1612 v1318
  v1319.toNat
def k0_cond157 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1400 : BitVec 32 := 12#32
  let v1172 : BitVec 1 := Scalar.cmpi .ne v2 c12_i32_1400
  let v1173 : BitVec 32 := Scalar.extui v1172
  let c0_i32_1402 : BitVec 32 := 0#32
  let v1174 : BitVec 1 := Scalar.cmpi .ne v1173 c0_i32_1402
  v1174

def k0_off221 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off222 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1399 : BitVec 32 := 32#32
  let v1171 : BitVec 32 := Scalar.muli v2 c32_i32_1399
  let c0_i32_1613 : BitVec 32 := 0#32
  ![v1171.toNat, 0]
def k0_dev109 : Nat :=
  let c0_i32_1612 : BitVec 32 := 0#32
  let c12_i32_1610 : BitVec 32 := 12#32
  let c1_i32_1611 : BitVec 32 := 1#32
  let v1318 : BitVec 32 := Scalar.muli c12_i32_1610 c1_i32_1611
  let v1319 : BitVec 32 := Scalar.addi c0_i32_1612 v1318
  v1319.toNat
def k0_cond158 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1405 : BitVec 32 := 13#32
  let v1177 : BitVec 1 := Scalar.cmpi .ne v2 c13_i32_1405
  let v1178 : BitVec 32 := Scalar.extui v1177
  let c0_i32_1407 : BitVec 32 := 0#32
  let v1179 : BitVec 1 := Scalar.cmpi .ne v1178 c0_i32_1407
  v1179

def k0_off223 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off224 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1404 : BitVec 32 := 32#32
  let v1176 : BitVec 32 := Scalar.muli v2 c32_i32_1404
  let c0_i32_1613 : BitVec 32 := 0#32
  ![v1176.toNat, 0]
def k0_dev110 : Nat :=
  let c0_i32_1612 : BitVec 32 := 0#32
  let c13_i32_1610 : BitVec 32 := 13#32
  let c1_i32_1611 : BitVec 32 := 1#32
  let v1318 : BitVec 32 := Scalar.muli c13_i32_1610 c1_i32_1611
  let v1319 : BitVec 32 := Scalar.addi c0_i32_1612 v1318
  v1319.toNat
def k0_cond159 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1410 : BitVec 32 := 14#32
  let v1182 : BitVec 1 := Scalar.cmpi .ne v2 c14_i32_1410
  let v1183 : BitVec 32 := Scalar.extui v1182
  let c0_i32_1412 : BitVec 32 := 0#32
  let v1184 : BitVec 1 := Scalar.cmpi .ne v1183 c0_i32_1412
  v1184

def k0_off225 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off226 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1409 : BitVec 32 := 32#32
  let v1181 : BitVec 32 := Scalar.muli v2 c32_i32_1409
  let c0_i32_1613 : BitVec 32 := 0#32
  ![v1181.toNat, 0]
def k0_dev111 : Nat :=
  let c0_i32_1612 : BitVec 32 := 0#32
  let c14_i32_1610 : BitVec 32 := 14#32
  let c1_i32_1611 : BitVec 32 := 1#32
  let v1318 : BitVec 32 := Scalar.muli c14_i32_1610 c1_i32_1611
  let v1319 : BitVec 32 := Scalar.addi c0_i32_1612 v1318
  v1319.toNat
def k0_cond160 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1415 : BitVec 32 := 15#32
  let v1187 : BitVec 1 := Scalar.cmpi .ne v2 c15_i32_1415
  let v1188 : BitVec 32 := Scalar.extui v1187
  let c0_i32_1417 : BitVec 32 := 0#32
  let v1189 : BitVec 1 := Scalar.cmpi .ne v1188 c0_i32_1417
  v1189

def k0_off227 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off228 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1414 : BitVec 32 := 32#32
  let v1186 : BitVec 32 := Scalar.muli v2 c32_i32_1414
  let c0_i32_1613 : BitVec 32 := 0#32
  ![v1186.toNat, 0]
def k0_dev112 : Nat :=
  let c0_i32_1612 : BitVec 32 := 0#32
  let c15_i32_1610 : BitVec 32 := 15#32
  let c1_i32_1611 : BitVec 32 := 1#32
  let v1318 : BitVec 32 := Scalar.muli c15_i32_1610 c1_i32_1611
  let v1319 : BitVec 32 := Scalar.addi c0_i32_1612 v1318
  v1319.toNat
def k0_cond177 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1484 : BitVec 32 := 0#32
  let v1240 : BitVec 1 := Scalar.cmpi .ne v2 c0_i32_1484
  let v1241 : BitVec 32 := Scalar.extui v1240
  let c0_i32_1489 : BitVec 32 := 0#32
  let v1242 : BitVec 1 := Scalar.cmpi .ne v1241 c0_i32_1489
  v1242

def k0_off229 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1482 : BitVec 32 := 32#32
  let v1238 : BitVec 32 := Scalar.muli v2 c32_i32_1482
  let c0_i32_1618 : BitVec 32 := 0#32
  ![v1238.toNat, 0]
def k0_cond178 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1492 : BitVec 32 := 1#32
  let v1245 : BitVec 1 := Scalar.cmpi .ne v2 c1_i32_1492
  let v1246 : BitVec 32 := Scalar.extui v1245
  let c0_i32_1497 : BitVec 32 := 0#32
  let v1247 : BitVec 1 := Scalar.cmpi .ne v1246 c0_i32_1497
  v1247

def k0_off230 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1490 : BitVec 32 := 32#32
  let v1243 : BitVec 32 := Scalar.muli v2 c32_i32_1490
  let c0_i32_1618 : BitVec 32 := 0#32
  ![v1243.toNat, 0]
def k0_cond179 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1500 : BitVec 32 := 2#32
  let v1250 : BitVec 1 := Scalar.cmpi .ne v2 c2_i32_1500
  let v1251 : BitVec 32 := Scalar.extui v1250
  let c0_i32_1505 : BitVec 32 := 0#32
  let v1252 : BitVec 1 := Scalar.cmpi .ne v1251 c0_i32_1505
  v1252

def k0_off231 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1498 : BitVec 32 := 32#32
  let v1248 : BitVec 32 := Scalar.muli v2 c32_i32_1498
  let c0_i32_1618 : BitVec 32 := 0#32
  ![v1248.toNat, 0]
def k0_cond180 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1508 : BitVec 32 := 3#32
  let v1255 : BitVec 1 := Scalar.cmpi .ne v2 c3_i32_1508
  let v1256 : BitVec 32 := Scalar.extui v1255
  let c0_i32_1513 : BitVec 32 := 0#32
  let v1257 : BitVec 1 := Scalar.cmpi .ne v1256 c0_i32_1513
  v1257

def k0_off232 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1506 : BitVec 32 := 32#32
  let v1253 : BitVec 32 := Scalar.muli v2 c32_i32_1506
  let c0_i32_1618 : BitVec 32 := 0#32
  ![v1253.toNat, 0]
def k0_cond181 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1516 : BitVec 32 := 4#32
  let v1260 : BitVec 1 := Scalar.cmpi .ne v2 c4_i32_1516
  let v1261 : BitVec 32 := Scalar.extui v1260
  let c0_i32_1521 : BitVec 32 := 0#32
  let v1262 : BitVec 1 := Scalar.cmpi .ne v1261 c0_i32_1521
  v1262

def k0_off233 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1514 : BitVec 32 := 32#32
  let v1258 : BitVec 32 := Scalar.muli v2 c32_i32_1514
  let c0_i32_1618 : BitVec 32 := 0#32
  ![v1258.toNat, 0]
def k0_cond182 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1524 : BitVec 32 := 5#32
  let v1265 : BitVec 1 := Scalar.cmpi .ne v2 c5_i32_1524
  let v1266 : BitVec 32 := Scalar.extui v1265
  let c0_i32_1529 : BitVec 32 := 0#32
  let v1267 : BitVec 1 := Scalar.cmpi .ne v1266 c0_i32_1529
  v1267

def k0_off234 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1522 : BitVec 32 := 32#32
  let v1263 : BitVec 32 := Scalar.muli v2 c32_i32_1522
  let c0_i32_1618 : BitVec 32 := 0#32
  ![v1263.toNat, 0]
def k0_cond183 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1532 : BitVec 32 := 6#32
  let v1270 : BitVec 1 := Scalar.cmpi .ne v2 c6_i32_1532
  let v1271 : BitVec 32 := Scalar.extui v1270
  let c0_i32_1537 : BitVec 32 := 0#32
  let v1272 : BitVec 1 := Scalar.cmpi .ne v1271 c0_i32_1537
  v1272

def k0_off235 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1530 : BitVec 32 := 32#32
  let v1268 : BitVec 32 := Scalar.muli v2 c32_i32_1530
  let c0_i32_1618 : BitVec 32 := 0#32
  ![v1268.toNat, 0]
def k0_cond184 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1540 : BitVec 32 := 7#32
  let v1275 : BitVec 1 := Scalar.cmpi .ne v2 c7_i32_1540
  let v1276 : BitVec 32 := Scalar.extui v1275
  let c0_i32_1545 : BitVec 32 := 0#32
  let v1277 : BitVec 1 := Scalar.cmpi .ne v1276 c0_i32_1545
  v1277

def k0_off236 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1538 : BitVec 32 := 32#32
  let v1273 : BitVec 32 := Scalar.muli v2 c32_i32_1538
  let c0_i32_1618 : BitVec 32 := 0#32
  ![v1273.toNat, 0]
def k0_cond185 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1548 : BitVec 32 := 8#32
  let v1280 : BitVec 1 := Scalar.cmpi .ne v2 c8_i32_1548
  let v1281 : BitVec 32 := Scalar.extui v1280
  let c0_i32_1553 : BitVec 32 := 0#32
  let v1282 : BitVec 1 := Scalar.cmpi .ne v1281 c0_i32_1553
  v1282

def k0_off237 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1546 : BitVec 32 := 32#32
  let v1278 : BitVec 32 := Scalar.muli v2 c32_i32_1546
  let c0_i32_1618 : BitVec 32 := 0#32
  ![v1278.toNat, 0]
def k0_cond186 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1556 : BitVec 32 := 9#32
  let v1285 : BitVec 1 := Scalar.cmpi .ne v2 c9_i32_1556
  let v1286 : BitVec 32 := Scalar.extui v1285
  let c0_i32_1561 : BitVec 32 := 0#32
  let v1287 : BitVec 1 := Scalar.cmpi .ne v1286 c0_i32_1561
  v1287

def k0_off238 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1554 : BitVec 32 := 32#32
  let v1283 : BitVec 32 := Scalar.muli v2 c32_i32_1554
  let c0_i32_1618 : BitVec 32 := 0#32
  ![v1283.toNat, 0]
def k0_cond187 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1564 : BitVec 32 := 10#32
  let v1290 : BitVec 1 := Scalar.cmpi .ne v2 c10_i32_1564
  let v1291 : BitVec 32 := Scalar.extui v1290
  let c0_i32_1569 : BitVec 32 := 0#32
  let v1292 : BitVec 1 := Scalar.cmpi .ne v1291 c0_i32_1569
  v1292

def k0_off239 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1562 : BitVec 32 := 32#32
  let v1288 : BitVec 32 := Scalar.muli v2 c32_i32_1562
  let c0_i32_1618 : BitVec 32 := 0#32
  ![v1288.toNat, 0]
def k0_cond188 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1572 : BitVec 32 := 11#32
  let v1295 : BitVec 1 := Scalar.cmpi .ne v2 c11_i32_1572
  let v1296 : BitVec 32 := Scalar.extui v1295
  let c0_i32_1577 : BitVec 32 := 0#32
  let v1297 : BitVec 1 := Scalar.cmpi .ne v1296 c0_i32_1577
  v1297

def k0_off240 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1570 : BitVec 32 := 32#32
  let v1293 : BitVec 32 := Scalar.muli v2 c32_i32_1570
  let c0_i32_1618 : BitVec 32 := 0#32
  ![v1293.toNat, 0]
def k0_cond189 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1580 : BitVec 32 := 12#32
  let v1300 : BitVec 1 := Scalar.cmpi .ne v2 c12_i32_1580
  let v1301 : BitVec 32 := Scalar.extui v1300
  let c0_i32_1585 : BitVec 32 := 0#32
  let v1302 : BitVec 1 := Scalar.cmpi .ne v1301 c0_i32_1585
  v1302

def k0_off241 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1578 : BitVec 32 := 32#32
  let v1298 : BitVec 32 := Scalar.muli v2 c32_i32_1578
  let c0_i32_1618 : BitVec 32 := 0#32
  ![v1298.toNat, 0]
def k0_cond190 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1588 : BitVec 32 := 13#32
  let v1305 : BitVec 1 := Scalar.cmpi .ne v2 c13_i32_1588
  let v1306 : BitVec 32 := Scalar.extui v1305
  let c0_i32_1593 : BitVec 32 := 0#32
  let v1307 : BitVec 1 := Scalar.cmpi .ne v1306 c0_i32_1593
  v1307

def k0_off242 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1586 : BitVec 32 := 32#32
  let v1303 : BitVec 32 := Scalar.muli v2 c32_i32_1586
  let c0_i32_1618 : BitVec 32 := 0#32
  ![v1303.toNat, 0]
def k0_cond191 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1596 : BitVec 32 := 14#32
  let v1310 : BitVec 1 := Scalar.cmpi .ne v2 c14_i32_1596
  let v1311 : BitVec 32 := Scalar.extui v1310
  let c0_i32_1601 : BitVec 32 := 0#32
  let v1312 : BitVec 1 := Scalar.cmpi .ne v1311 c0_i32_1601
  v1312

def k0_off243 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1594 : BitVec 32 := 32#32
  let v1308 : BitVec 32 := Scalar.muli v2 c32_i32_1594
  let c0_i32_1618 : BitVec 32 := 0#32
  ![v1308.toNat, 0]
def k0_cond192 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1604 : BitVec 32 := 15#32
  let v1315 : BitVec 1 := Scalar.cmpi .ne v2 c15_i32_1604
  let v1316 : BitVec 32 := Scalar.extui v1315
  let c0_i32_1609 : BitVec 32 := 0#32
  let v1317 : BitVec 1 := Scalar.cmpi .ne v1316 c0_i32_1609
  v1317

def k0_off244 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_1602 : BitVec 32 := 32#32
  let v1313 : BitVec 32 := Scalar.muli v2 c32_i32_1602
  let c0_i32_1618 : BitVec 32 := 0#32
  ![v1313.toNat, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x8192 : Shape := ⟨2, ![256, 8192]⟩
abbrev S8192x256 : Shape := ⟨2, ![8192, 256]⟩
abbrev S512x8192 : Shape := ⟨2, ![512, 8192]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x8192, .bf16⟩
  | .hbm, ⟨2, _⟩ => ⟨S256x8192, .bf16⟩
  | .hbm, ⟨3, _⟩ => ⟨S256x8192, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S512x8192, .f32⟩
  | .hbm, ⟨8, _⟩ => ⟨S512x8192, .bf16⟩
  | .hbm, ⟨9, _⟩ => ⟨S512x8192, .f32⟩
  | .hbm, ⟨10, _⟩ => ⟨S_, .f32⟩
  | .hbm, ⟨11, _⟩ => ⟨S512x8192, .f32⟩
  | .hbm, ⟨12, _⟩ => ⟨S512x8192, .f32⟩
  | .hbm, ⟨13, _⟩ => ⟨S512x8192, .bf16⟩
  | .hbm, ⟨14, _⟩ => ⟨S512x256, .f32⟩
  | .hbm, ⟨15, _⟩ => ⟨S512x256, .bf16⟩
  | .hbm, ⟨16, _⟩ => ⟨S512x8192, .f32⟩
  | .hbm, ⟨17, _⟩ => ⟨S512x8192, .bf16⟩
  | .hbm, ⟨18, _⟩ => ⟨S512x8192, .f32⟩
  | .hbm, ⟨19, _⟩ => ⟨S_, .f32⟩
  | .hbm, ⟨20, _⟩ => ⟨S512x8192, .f32⟩
  | .hbm, ⟨21, _⟩ => ⟨S512x8192, .f32⟩
  | .hbm, ⟨22, _⟩ => ⟨S512x8192, .bf16⟩
  | .hbm, ⟨23, _⟩ => ⟨S512x256, .f32⟩
  | .hbm, ⟨24, _⟩ => ⟨S512x256, .bf16⟩
  | .hbm, ⟨25, _⟩ => ⟨S512x8192, .f32⟩
  | .hbm, ⟨26, _⟩ => ⟨S512x8192, .bf16⟩
  | .hbm, ⟨27, _⟩ => ⟨S512x8192, .f32⟩
  | .hbm, ⟨28, _⟩ => ⟨S_, .f32⟩
  | .hbm, ⟨29, _⟩ => ⟨S512x8192, .f32⟩
  | .hbm, ⟨30, _⟩ => ⟨S512x8192, .f32⟩
  | .hbm, ⟨31, _⟩ => ⟨S512x8192, .bf16⟩
  | .hbm, ⟨32, _⟩ => ⟨S512x256, .f32⟩
  | .hbm, ⟨33, _⟩ => ⟨S512x256, .bf16⟩
  | .hbm, ⟨34, _⟩ => ⟨S512x256, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Text.lean ====
/-
  The kernel's body as loops: one operation per line of the kernel, written once for a symbolic device `d` and index `k`
  (each takes what follows it), and the theorem that the printed body is the loops over them.
-/
module

public import proofs.«01_k».proof.Proof.Gen.KernelIdeal.Skeleton

@[expose] public section

noncomputable section

namespace Cert.Proof

open Cert.KernelIdeal Cert.KernelIdeal.Gen

open Idealize.ShloMosaic
open Idealize.ShloMosaic.TcCoe
open Idealize.SL Idealize.SL.Sem

variable {F : FTy → Type} [FloatOps F]

/-! ## The buffers -/

abbrev xM : Memref sig .tc .vmem S512x256 .bf16 := Memref.whole cc0_stg0_0
abbrev iM0 : Memref sig .tc .vmem S256x512 .bf16 := Memref.whole cc0_stg1_0
abbrev oM0 : Memref sig .tc .vmem S512x256 .bf16 := Memref.whole cc0_stg2_0
abbrev iM1 : Memref sig .tc .vmem S256x512 .bf16 := Memref.whole cc0_stg3_0
abbrev oM1 : Memref sig .tc .vmem S512x256 .bf16 := Memref.whole cc0_stg4_0
abbrev iM2 : Memref sig .tc .vmem S256x512 .bf16 := Memref.whole cc0_stg5_0
abbrev oM2 : Memref sig .tc .vmem S512x256 .bf16 := Memref.whole cc0_stg6_0
/-- The result's staging buffer, the partial products, the arriving slots, the gathered activations. -/
abbrev yM : Memref sig .tc .vmem S512x256 .f32 := Memref.whole cc0_stg7_0
abbrev pM : Memref sig .tc .vmem S512x256 .bf16 := Memref.whole cc0_scratch0
abbrev sM : Memref sig .tc .vmem S16x32x256 .bf16 := Memref.whole cc0_scratch1
abbrev gM : Memref sig .tc .vmem S512x256 .bf16 := Memref.whole cc0_scratch2

theorem hx : xM.IsWhole := Memref.isWhole_whole _
theorem hi0 : iM0.IsWhole := Memref.isWhole_whole _
theorem ho0 : oM0.IsWhole := Memref.isWhole_whole _
theorem hi1 : iM1.IsWhole := Memref.isWhole_whole _
theorem ho1 : oM1.IsWhole := Memref.isWhole_whole _
theorem hi2 : iM2.IsWhole := Memref.isWhole_whole _
theorem ho2 : oM2.IsWhole := Memref.isWhole_whole _
theorem hy : yM.IsWhole := Memref.isWhole_whole _
theorem hp : pM.IsWhole := Memref.isWhole_whole _
theorem hs : sM.IsWhole := Memref.isWhole_whole _
theorem hg : gM.IsWhole := Memref.isWhole_whole _

/-- A program of the kernel's body. -/
abbrev Text (F : FTy → Type) [FloatOps F] (α : Type) := Prog (TpuEff nD τ sig (Elt F) Λ₀ .tc) α

/-! ## Indices as the kernel computes them -/

/-- The device's index on the mesh, as a word. -/
abbrev word (d : Dev nD) : BitVec 32 := Scalar.remsi (Scalar.divsi (Dev.word d) 1#32) 16#32

/-- The condition `k ≠ v`, as the kernel computes it. -/
abbrev ne (v : BitVec 32) (k : Dev nD) : BitVec 1 :=
  Scalar.cmpi .ne (Scalar.extui (Scalar.cmpi .ne v (BitVec.ofNat 32 k.val))) 0#32

theorem inb1 (k : Dev nD) : ∀ a, (![k.val] : Fin 1 → Nat) a + S1.size a ≤ S16.size a := by revert k; decide
theorem inb2 (k : Dev nD) : ∀ a, (![32 * k.val, 0] : Fin 2 → Nat) a + S32x256.size a ≤ S512x256.size a := by revert k; decide
theorem inb3 (k : Dev nD) : ∀ a, (![k.val, 0, 0] : Fin 3 → Nat) a + S1x32x256.size a ≤ S16x32x256.size a := by revert k; decide
theorem words2 (k : Dev nD) : (Rect.unit (s := S512x256) ![32 * k.val, 0] S32x256.size (inb2 k)).WholeWords (EltTy.packing .bf16) := by revert k; decide
theorem words3 (k : Dev nD) : (Rect.unit (s := S16x32x256) ![k.val, 0, 0] S1x32x256.size (inb3 k)).WholeWords (EltTy.packing .bf16) := by revert k; decide
theorem inb1d (d : Dev nD) : ∀ a, (k0_off33 d) a + S1.size a ≤ S16.size a := by revert d; decide +kernel
theorem inb2d (d : Dev nD) : ∀ a, (k0_off35 d) a + S32x256.size a ≤ S512x256.size a := by revert d; decide +kernel
theorem inb3d (d : Dev nD) : ∀ a, (k0_off34 d) a + S1x32x256.size a ≤ S16x32x256.size a := by revert d; decide +kernel
theorem inbS (s : Fin 4) : ∀ a, (![128 * s.val, 0] : Fin 2 → Nat) a + S128x256.size a ≤ S512x256.size a := by revert s; decide
theorem packedS (s : Fin 4) : (Rect.unit (s := S512x256) ![128 * s.val, 0] S128x256.size (inbS s)).PackedRows (EltTy.packing .bf16) := by revert s; decide

/-- Element `k` of an array of sixteen semaphores, and the device's own. -/
abbrev semAt (A : DmaSems sig S16) (k : Dev nD) : DmaSem sig :=
  ((A.slice (Rect.unit (s := S16) ![k.val] S1.size (inb1 k))).squeeze S_ squeezes_S1_S_).sem
abbrev semAtD (A : DmaSems sig S16) (d : Dev nD) : DmaSem sig :=
  ((A.slice (Rect.unit (s := S16) (k0_off33 d) S1.size (inb1d d))).squeeze S_ squeezes_S1_S_).sem

/-- The 32 rows of device `k` of a 512-row buffer, and the device's own. -/
abbrev rowsAt {e : EltTy} (M : Memref sig .tc .vmem S512x256 e) (k : Dev nD) : Memref sig .tc .vmem S32x256 e :=
  M.slice (Rect.unit (s := S512x256) ![32 * k.val, 0] S32x256.size (inb2 k)) (fun _ => rfl)
abbrev rowsAtD {e : EltTy} (M : Memref sig .tc .vmem S512x256 e) (d : Dev nD) : Memref sig .tc .vmem S32x256 e :=
  M.slice (Rect.unit (s := S512x256) (k0_off35 d) S32x256.size (inb2d d)) (fun _ => rfl)

/-- Slot `k` of the arriving slots, and the device's own. -/
abbrev slotAt (k : Dev nD) : Memref sig .tc .vmem S32x256 .bf16 :=
  (sM.slice (Rect.unit (s := S16x32x256) ![k.val, 0, 0] S1x32x256.size (inb3 k)) (fun _ => rfl)).squeeze S32x256 squeezes_S1x32x256_S32x256
abbrev slotAtD (d : Dev nD) : Memref sig .tc .vmem S32x256 .bf16 :=
  (sM.slice (Rect.unit (s := S16x32x256) (k0_off34 d) S1x32x256.size (inb3d d)) (fun _ => rfl)).squeeze S32x256 squeezes_S1x32x256_S32x256

theorem rowsAt_exact {M : Memref sig .tc .vmem S512x256 .bf16} (h : M.IsWhole) (k : Dev nD) : (rowsAt M k).view.WordExact :=
  h.wordExact_slice rfl _ (words2 k)
theorem rowsAtD_exact {M : Memref sig .tc .vmem S512x256 .bf16} (h : M.IsWhole) (d : Dev nD) : (rowsAtD M d).view.WordExact :=
  h.wordExact_slice rfl _ (k0_off35_wordsbf16 d)
theorem slotAt_exact (k : Dev nD) : (slotAt k).view.WordExact :=
  (hs.wordExact_slice rfl _ (words3 k)).reshape _ _
theorem slotAtD_exact (d : Dev nD) : (slotAtD d).view.WordExact :=
  (hs.wordExact_slice rfl _ (k0_off34_wordsbf16 d)).reshape _ _

/-! ## The operations -/

section Ops

variable {α : Type}

/-- Run `f` at each of a list of devices, in order, and then `r`. -/
def each (l : List (Dev nD)) (f : Dev nD → Text F α → Text F α) (r : Text F α) : Text F α := l.foldr f r

/-- The barrier semaphore. -/
abbrev barS : Sem sig := (SemArray.scalar (sig.barrier 0 rfl) : Sems sig S_).sem

/-- Tell device `k` that this device has entered the kernel. -/
def signal (k : Dev nD) (r : Text F α) : Text F α := .op (.semSignal (k, .tc) barS (1#32).toInt) fun _ => r
/-- Wait until all sixteen have. -/
def awaitAll (r : Text F α) : Text F α := .op (.semWait barS (16#32).toInt) fun _ => r

/-- Load a weight whole. -/
def loadI (M : Memref sig .tc .vmem S256x512 .bf16) (r : Vec F S256x512 .bf16 → Text F α) : Text F α :=
  .op (.load M (Rect.unit (s := S256x512) ![0, 0] S256x512.size inb_S256x512_S256x512_0_0).toLoadRect (View.loadsAt_vmem h_S256x512)) r
def loadO (M : Memref sig .tc .vmem S512x256 .bf16) (r : Vec F S512x256 .bf16 → Text F α) : Text F α :=
  .op (.load M (Rect.unit (s := S512x256) ![0, 0] S512x256.size inb_S512x256_S512x256_0_0).toLoadRect (View.loadsAt_vmem h_S512x256)) r
/-- Load the 128 rows of stage `s`. -/
def loadS (M : Memref sig .tc .vmem S512x256 .bf16) (s : Fin 4) (r : Vec F S128x256 .bf16 → Text F α) : Text F α :=
  .op (.load M (Rect.unit (s := S512x256) ![128 * s.val, 0] S128x256.size (inbS s)).toLoadRect (View.loadsAt_vmem h_S128x256)) r
/-- Store the 128 rows of stage `s` of the partial products. -/
def storeS (s : Fin 4) (v : FVec F S128x256 .bf16) (r : Text F α) : Text F α :=
  .op (.store pM (Rect.unit (s := S512x256) ![128 * s.val, 0] S128x256.size (inbS s)) v Finset.univ
    (View.stores_vmem h_S128x256 (hp.storeExact_slice rfl _ (packedS s)) (fun _ => rfl)) (.inl rfl)) fun _ => r

/-- Send device `k` its rows of the partial product, if `k` is another. -/
def rsStart (d k : Dev nD) (r : Text F α) : Text F α :=
  if _h : ne (word d) k = 1#1 then
    .op (.enqueueDma (rowsAt pM k) (.remote (Dev.tc k) (slotAtD d) (.dma (semAt cc0_scratch3 k))) (.dma (semAtD cc0_scratch4 d))
      (rowsAt_exact hp k) (slotAtD_exact d) ⟨⟨rfl, Or.inl rfl⟩, trivial⟩) fun _ => r
  else r
/-- Copy the device's own rows to its own slot. -/
def rsOwn (d : Dev nD) (r : Text F α) : Text F α :=
  .op (.enqueueDma (rowsAtD pM d) (.here (slotAtD d)) (.dma (semAtD cc0_scratch4 d))
    (rowsAtD_exact hp d) (slotAtD_exact d) ⟨Or.inl rfl, trivial⟩) fun _ => r
/-- Wait for slot `k`. -/
def rsWait (k : Dev nD) (r : Text F α) : Text F α :=
  .op (.waitDma2 (semAt cc0_scratch4 k) (rowsAt pM 0) (slotAt k) (rowsAt_exact hp 0) (slotAt_exact k)) fun _ => r

/-- Load all the slots. -/
def loadSlots (r : Vec F S16x32x256 .bf16 → Text F α) : Text F α :=
  .op (.load sM (Rect.unit (s := S16x32x256) ![0, 0, 0] S16x32x256.size inb_S16x32x256_S16x32x256_0_0_0).toLoadRect (View.loadsAt_vmem h_S16x32x256)) r
/-- Load the device's own rows (the value is not used). -/
def loadRow {e : EltTy} (M : Memref sig .tc .vmem S512x256 e) (d : Dev nD) (r : Vec F S32x256 e → Text F α) : Text F α :=
  .op (.load M (Rect.unit (s := S512x256) (k0_off36 d) S32x256.size (k0_off36_inb d)).toLoadRect (View.loadsAt_vmem h_S32x256)) r
/-- Store the device's own rows of the gathered activations, and of the result. -/
def storeG (d : Dev nD) (v : FVec F S32x256 .bf16) (r : Text F α) : Text F α :=
  .op (.store gM (Rect.unit (s := S512x256) (k0_off36 d) S32x256.size (k0_off36_inb d)) v Finset.univ
    (View.stores_vmem h_S32x256 (hg.storeExact_slice rfl _ (k0_off36_packedbf16 d)) (fun _ => rfl)) (.inl rfl)) fun _ => r
def storeY (d : Dev nD) (v : FVec F S32x256 .f32) (r : Text F α) : Text F α :=
  .op (.store yM (Rect.unit (s := S512x256) (k0_off36 d) S32x256.size (k0_off36_inb d)) v Finset.univ
    (View.stores_vmem_bits_univ h_S32x256 rfl) (.inl rfl)) fun _ => r

/-- Send device `k` this device's own rows of `M`, if `k` is another. -/
def agStart {e : EltTy} (M : Memref sig .tc .vmem S512x256 e) (hM : ∀ d, (rowsAtD M d).view.WordExact) (hl : M.view.ref.isScScratch = false)
    (d k : Dev nD) (r : Text F α) : Text F α :=
  if _h : ne (word d) k = 1#1 then
    .op (.enqueueDma (rowsAtD M d) (.remote (Dev.tc k) (rowsAtD M d) (.dma (semAt cc0_scratch5 k)) hl) (.dma (semAtD cc0_scratch6 d))
      (hM d) (hM d) ⟨⟨rfl, Or.inl rfl⟩, trivial⟩) fun _ => r
  else r
/-- Wait for the rows of device `k` of `M`, if `k` is another. -/
def agWait {e : EltTy} (M : Memref sig .tc .vmem S512x256 e) (hM : ∀ k, (rowsAt M k).view.WordExact) (v : BitVec 32) (k : Dev nD)
    (r : Text F α) : Text F α :=
  if _h : ne v k = 1#1 then
    .op (.waitDma2 (semAt cc0_scratch6 k) (rowsAt M k) (rowsAt M k) (hM k) (hM k)) fun _ => r
  else r
/-- Wait until the two transfers to device `k` have left, if `k` is another. -/
def sendWait {e : EltTy} (M : Memref sig .tc .vmem S512x256 e) (hM : ∀ d, (rowsAtD M d).view.WordExact) (d k : Dev nD)
    (r : Text F α) : Text F α :=
  if _h : ne (word d) k = 1#1 then
    .op (.waitDma2 (semAt cc0_scratch3 k) (slotAt k) (rowsAt pM 0) (slotAt_exact k) (rowsAt_exact hp 0)) fun _ =>
    .op (.waitDma2 (semAt cc0_scratch5 k) (rowsAtD M d) (rowsAtD M d) (hM d) (hM d)) fun _ => r
  else r

end Ops

abbrev gX : ∀ k, (rowsAt gM k).view.WordExact := fun k => rowsAt_exact hg k
abbrev gXD : ∀ k, (rowsAtD gM k).view.WordExact := fun k => rowsAtD_exact hg k
abbrev yX : ∀ k, (rowsAt yM k).view.WordExact := fun _ => View.wordExact_bits rfl
abbrev yXD : ∀ k, (rowsAtD yM k).view.WordExact := fun _ => View.wordExact_bits rfl
theorem gL : gM.view.ref.isScScratch = false := rfl
theorem yL : yM.view.ref.isScScratch = false := rfl

/-! ## The body -/

section Body

variable {α : Type}

/-- The partial products of 128 rows: the two products with the weights' shares, each rounded. -/
def stageV (w : Vec F S256x512 .bf16) (u : Vec F S512x256 .bf16) (x : Vec F S128x256 .bf16) : FVec F S128x256 .bf16 :=
  k0_pay25 (k0_pay19 w) (k0_pay20 u) x
/-- The sum of the sixteen slots, in f32, and rounded. -/
def sumY (v : Vec F S16x32x256 .bf16) : FVec F S32x256 .f32 := k0_pay26 v
def sumG (v : Vec F S16x32x256 .bf16) : FVec F S32x256 .bf16 := k0_pay8 v

/-- The four devices whose rows stage `s` computes. -/
def own : Fin 4 → List (Dev nD)
  | 0 => [0, 1, 2, 3]
  | 1 => [4, 5, 6, 7]
  | 2 => [8, 9, 10, 11]
  | 3 => [12, 13, 14, 15]
def all : List (Dev nD) := [0, 1, 2, 3, 4, 5, 6, 7, 8, 9, 10, 11, 12, 13, 14, 15]

/-- One stage: 128 rows of partial products, each device's rows sent as soon as they are stored. -/
def stage (M : Memref sig .tc .vmem S512x256 .bf16) (w : Vec F S256x512 .bf16) (u : Vec F S512x256 .bf16) (d : Dev nD) (s : Fin 4)
    (r : Text F α) : Text F α :=
  loadS M s fun x => loadS pM s fun _ => storeS s (stageV w u x) <| each (own s) (rsStart d) r

/-- The own rows copied, and every device's partial product of these rows awaited. -/
def collect (d : Dev nD) (r : Text F α) : Text F α := rsOwn d <| each all rsWait r

/-- The first layer's partial products, from the input. -/
def firstLayer (d : Dev nD) (r : Text F α) : Text F α :=
  loadI iM0 fun w => loadO oM0 fun u =>
    stage xM w u d 0 <| stage xM w u d 1 <| stage xM w u d 2 <| stage xM w u d 3 <| collect d r

/-- A later layer's, from the gathered activations: each stage as soon as its rows have arrived. -/
def laterLayer (iM : Memref sig .tc .vmem S256x512 .bf16) (oM : Memref sig .tc .vmem S512x256 .bf16) (d : Dev nD) (r : Text F α) : Text F α :=
  loadI iM fun w => loadO oM fun u =>
    each (own 0) (agWait gM gX (word d)) <| stage gM w u d 0 <|
    each (own 1) (agWait gM gX (word d)) <| stage gM w u d 1 <|
    each (own 2) (agWait gM gX (word d)) <| stage gM w u d 2 <|
    each (own 3) (agWait gM gX (word d)) <| stage gM w u d 3 <| collect d r

/-- The sum of the slots stored as the device's own rows of the next activations, and sent to every other. -/
def spread (d : Dev nD) (r : Text F α) : Text F α :=
  loadSlots fun v => loadRow gM d fun _ => storeG d (sumG v) <| each all (agStart gM gXD gL d) <| each all (sendWait gM gXD d) r

/-- The same of the result, and every other device's rows awaited. -/
def finish (d : Dev nD) (r : Text F α) : Text F α :=
  loadSlots fun v => loadRow yM d fun _ => storeY d (sumY v) <| each all (agStart yM yXD yL d) <|
    each all (agWait yM yX (word d)) <| each all (sendWait yM yXD d) r

/-- The whole body. -/
def body (d : Dev nD) (r : Text F α) : Text F α :=
  each all signal <| awaitAll <|
    firstLayer d <| spread d <| laterLayer iM1 oM1 d <| spread d <| laterLayer iM2 oM2 d <| finish d r

end Body

end Cert.Proof

end
-- ==== Proof.Geom.lean ====
/-
  The parts of the buffers: the 32 rows of a device, the 128 rows of a stage, the slot of a device; their element sets,
  their joins, and the operations restated with the device's own part written like any other's.
-/
module

public import proofs.«01_k».proof.Proof.Text
public import Idealize.ShloMosaic.Lib.Pipeline.Launch
public import Idealize.ShloMosaic.Lib.Pipeline.Value
public import Idealize.ShloMosaic.Lib.Rounds
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Rectangles -/

/-- The rows of device `k`, the rows of stage `s`, the slot of device `k`. -/
abbrev rowR (k : Dev nD) : Rect S512x256 := Rect.unit (s := S512x256) ![32 * k.val, 0] S32x256.size (inb2 k)
abbrev blkR (s : Fin 4) : Rect S512x256 := Rect.unit (s := S512x256) ![128 * s.val, 0] S128x256.size (inbS s)
abbrev slotR (k : Dev nD) : Rect S16x32x256 := Rect.unit (s := S16x32x256) ![k.val, 0, 0] S1x32x256.size (inb3 k)

theorem rowR_emb0 (k : Dev nD) (j : S32x256.Idx) : ((rowR k).emb j 0).val = 32 * k.val + (j 0).val := by
  rw [Rect.emb_apply]; simp
theorem rowR_emb1 (k : Dev nD) (j : S32x256.Idx) : ((rowR k).emb j 1).val = (j 1).val := by
  rw [Rect.emb_apply]; simp
theorem blkR_emb0 (s : Fin 4) (j : S128x256.Idx) : ((blkR s).emb j 0).val = 128 * s.val + (j 0).val := by
  rw [Rect.emb_apply]; simp
theorem blkR_emb1 (s : Fin 4) (j : S128x256.Idx) : ((blkR s).emb j 1).val = (j 1).val := by
  rw [Rect.emb_apply]; simp

/-- Row `r`, column `n` of device `k`'s rows; of a stage's; of a slot. -/
abbrev rowE (kj : Dev nD × S32x256.Idx) : S512x256.Idx := (rowR kj.1).emb kj.2
abbrev blkE (sj : Fin 4 × S128x256.Idx) : S512x256.Idx := (blkR sj.1).emb sj.2
abbrev slotE (kj : Dev nD × S32x256.Idx) : S16x32x256.Idx := (slotAt kj.1).view.emb kj.2

theorem slotE_eq (k : Dev nD) (j : S32x256.Idx) : slotE (k, j) = (slotR k).emb (Fin.cons (⟨0, Nat.one_pos⟩ : Fin 1) j) :=
  congrArg (slotR k).emb (Shape.reshapeEquiv_cons_one (d := S32x256.size) squeezes_S1x32x256_S32x256.numel_eq j)
theorem slotE0 (k : Dev nD) (j : S32x256.Idx) : (slotE (k, j) 0).val = k.val := by
  rw [slotE_eq, Rect.emb_apply]; simp; rfl
theorem slotE1 (k : Dev nD) (j : S32x256.Idx) : (slotE (k, j) 1).val = (j 0).val := by
  rw [slotE_eq, Rect.emb_apply]; simp; rfl
theorem slotE2 (k : Dev nD) (j : S32x256.Idx) : (slotE (k, j) 2).val = (j 1).val := by
  rw [slotE_eq, Rect.emb_apply]; simp; rfl

theorem rowE_injective : Function.Injective rowE := by
  rintro ⟨k, j⟩ ⟨k', j'⟩ h
  have h0 := congrArg (fun i : S512x256.Idx => (i 0).val) h
  have h1 := congrArg (fun i : S512x256.Idx => (i 1).val) h
  simp only [rowE, rowR_emb0, rowR_emb1] at h0 h1
  have a : (j 0).val < 32 := (j 0).isLt
  have b : (j' 0).val < 32 := (j' 0).isLt
  have e : k = k' := Fin.ext (by omega)
  subst e
  refine Prod.ext rfl (funext fun a => ?_)
  fin_cases a
  · exact Fin.ext (Nat.add_left_cancel h0)
  · exact Fin.ext h1

theorem blkE_injective : Function.Injective blkE := by
  rintro ⟨k, j⟩ ⟨k', j'⟩ h
  have h0 := congrArg (fun i : S512x256.Idx => (i 0).val) h
  have h1 := congrArg (fun i : S512x256.Idx => (i 1).val) h
  simp only [blkE, blkR_emb0, blkR_emb1] at h0 h1
  have a : (j 0).val < 128 := (j 0).isLt
  have b : (j' 0).val < 128 := (j' 0).isLt
  have e : k = k' := Fin.ext (by omega)
  subst e
  refine Prod.ext rfl (funext fun a => ?_)
  fin_cases a
  · exact Fin.ext (Nat.add_left_cancel h0)
  · exact Fin.ext h1

theorem slotE_injective : Function.Injective slotE := by
  rintro ⟨k, j⟩ ⟨k', j'⟩ h
  have h0 := congrArg (fun i : S16x32x256.Idx => (i 0).val) h
  have h1 := congrArg (fun i : S16x32x256.Idx => (i 1).val) h
  have h2 := congrArg (fun i : S16x32x256.Idx => (i 2).val) h
  replace h0 : k.val = k'.val := (slotE0 k j).symm.trans (h0.trans (slotE0 k' j'))
  replace h1 : (j 0).val = (j' 0).val := (slotE1 k j).symm.trans (h1.trans (slotE1 k' j'))
  replace h2 : (j 1).val = (j' 1).val := (slotE2 k j).symm.trans (h2.trans (slotE2 k' j'))
  obtain rfl : k = k' := Fin.ext h0
  refine Prod.ext rfl (funext fun a => ?_)
  fin_cases a
  · exact Fin.ext h1
  · exact Fin.ext h2

theorem rowE_surjective (i : S512x256.Idx) : ∃ kj, rowE kj = i := by
  have h0 : (i 0).val < 512 := (i 0).isLt
  refine ⟨(⟨(i 0).val / 32, Nat.div_lt_of_lt_mul h0⟩, fun a => match a with
    | ⟨0, _⟩ => (⟨(i 0).val % 32, Nat.mod_lt _ (by decide)⟩ : Fin 32) | ⟨1, _⟩ => (i 1 : Fin 256)), funext fun a => Fin.ext ?_⟩
  fin_cases a
  · exact (rowR_emb0 _ _).trans (Nat.div_add_mod _ _)
  · exact rowR_emb1 _ _
theorem blkE_surjective (i : S512x256.Idx) : ∃ kj, blkE kj = i := by
  have h0 : (i 0).val < 512 := (i 0).isLt
  refine ⟨(⟨(i 0).val / 128, Nat.div_lt_of_lt_mul h0⟩, fun a => match a with
    | ⟨0, _⟩ => (⟨(i 0).val % 128, Nat.mod_lt _ (by decide)⟩ : Fin 128) | ⟨1, _⟩ => (i 1 : Fin 256)), funext fun a => Fin.ext ?_⟩
  fin_cases a
  · exact (blkR_emb0 _ _).trans (Nat.div_add_mod _ _)
  · exact blkR_emb1 _ _
theorem slotE_surjective (i : S16x32x256.Idx) : ∃ kj, slotE kj = i := by
  refine ⟨((i 0 : Fin 16), fun a => match a with
    | ⟨0, _⟩ => (i 1 : Fin 32) | ⟨1, _⟩ => (i 2 : Fin 256)), funext fun a => Fin.ext ?_⟩
  fin_cases a
  · exact slotE0 _ _
  · exact slotE1 _ _
  · exact slotE2 _ _

/-! ## Element sets -/

/-- The stage a device's rows belong to. -/
theorem own_iff (s : Fin 4) (k : Dev nD) : k ∈ (own s).toFinset ↔ k.val / 4 = s.val := by revert s k; decide

theorem rowR_disjoint {k k' : Dev nD} (h : k ≠ k') : Disjoint (rowR k).set (rowR k').set := by
  refine Rect.unit_disjoint 0 ?_
  show 32 * k.val + 32 ≤ 32 * k'.val ∨ 32 * k'.val + 32 ≤ 32 * k.val
  rcases Nat.lt_or_gt_of_ne (Fin.val_ne_of_ne h) with h | h
  · exact .inl (by omega)
  · exact .inr (by omega)

theorem rowR_cover : (Finset.univ : Finset S512x256.Idx) = (Finset.univ : Finset (Dev nD)).biUnion fun k => (rowR k).set := by
  ext i
  obtain ⟨⟨k, j⟩, rfl⟩ := rowE_surjective i
  simp only [Finset.mem_univ, true_iff, Finset.mem_biUnion, true_and]
  exact ⟨k, (rowR k).map_emb_univ ▸ Finset.mem_map_of_mem _ (Finset.mem_univ j)⟩

theorem blkR_rows (s : Fin 4) : (blkR s).set = (own s).toFinset.biUnion fun k => (rowR k).set := by
  ext i
  rw [Finset.mem_biUnion]
  simp only [Rect.mem_set_unit, Fin.forall_fin_two, own_iff]
  have h1 : (i 1).val < 256 := (i 1).isLt
  have h0 : (i 0).val < 512 := (i 0).isLt
  have hs : s.val < 4 := s.isLt
  constructor
  · rintro ⟨⟨a, b⟩, -⟩
    have a : 128 * s.val ≤ (i 0).val := a
    have b : (i 0).val < 128 * s.val + 128 := b
    refine ⟨⟨(i 0).val / 32, Nat.div_lt_of_lt_mul h0⟩, by show (i 0).val / 32 / 4 = s.val; omega, ⟨?_, ?_⟩, Nat.zero_le _, ?_⟩
    · show 32 * ((i 0).val / 32) ≤ (i 0).val; omega
    · show (i 0).val < 32 * ((i 0).val / 32) + 32; omega
    · show (i 1).val < 0 + 256; omega
  · rintro ⟨k, hk, ⟨a, b⟩, -⟩
    have a : 32 * k.val ≤ (i 0).val := a
    have b : (i 0).val < 32 * k.val + 32 := b
    refine ⟨⟨?_, ?_⟩, Nat.zero_le _, ?_⟩
    · show 128 * s.val ≤ (i 0).val; omega
    · show (i 0).val < 128 * s.val + 128; omega
    · show (i 1).val < 0 + 256; omega

/-! ## The device's own part, written like any other's -/

theorem off35 (d : Dev nD) : k0_off35 d = ![32 * d.val, 0] := k0_off35_eq d

theorem ne_iff (d k : Dev nD) : ne (word d) k = 1#1 ↔ k ≠ d := by revert d k; decide +kernel

end Cert.Proof

end
-- ==== Proof.Cells.lean ====
/-
  The protocol. What every buffer holds in every layer (`Inputs.X`, `Inputs.P`, `Inputs.Y`, `Inputs.out`), the semaphores as
  CELLS of the rounds library with what the units of each hand over, what each device owes the others in the order it
  pays it, and the levels under which no wait can be circular.

  Device `c` has a barrier cell and, for every device `k`, four cells, each with three rounds (one a layer) of one duty:
  `rsR c k` (slot `k` of `c` has arrived), `rsS c k` (the transfer of `c`'s rows for `k` has left), `agR c k` (`k`'s
  rows have arrived), `agS c k` (the transfer of `c`'s own rows to `k` has left). A transfer's right to write the other
  device's buffer travels in messages: the entry barrier hands out the slots; the arrival of a slot carries the right to
  the sender's rows of the gathered activations; the arrival of gathered rows carries the right to the sender's slot back.
-/
module

public import proofs.«01_k».proof.Proof.Geom
public import Idealize.ShloMosaic.Lib.ShareLeaves

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Contents -/

/-- What the devices are given: the activations, and each layer's two shares of the weights. -/
structure Inputs (F : FTy → Type) [FloatOps F] where
  x : Dev nD → Vec F S512x256 .bf16
  wi : ℕ → Dev nD → Vec F S256x512 .bf16
  wo : ℕ → Dev nD → Vec F S512x256 .bf16

instance : Nonempty (Fin 4 × S128x256.Idx) := ⟨(0, fun a => match a with | ⟨0, _⟩ => (0 : Fin 128) | ⟨1, _⟩ => (0 : Fin 256))⟩
instance : Nonempty (Dev nD × S32x256.Idx) := ⟨(0, fun a => match a with | ⟨0, _⟩ => (0 : Fin 32) | ⟨1, _⟩ => (0 : Fin 256))⟩

/-- The partial product, stage by stage. -/
def prodV (w : Vec F S256x512 .bf16) (u : Vec F S512x256 .bf16) (x : Vec F S512x256 .bf16) : Vec F S512x256 .bf16 := fun i =>
  let sj := Function.invFun (β := S512x256.Idx) blkE i
  stageV w u (fun j => x (blkE (sj.1, j))) sj.2

/-- The slots of device `k`: its rows of every device's partial product. -/
def slotsV (p : Dev nD → Vec F S512x256 .bf16) (k : Dev nD) : Vec F S16x32x256 .bf16 := fun i =>
  let jr := Function.invFun (β := S16x32x256.Idx) slotE i
  p jr.1 (rowE (k, jr.2))

/-- Every device's rows of sums, put together. -/
def rowsV {e : EltTy} (g : Dev nD → S32x256.Idx → Elt F e) : S512x256.Idx → Elt F e := fun i =>
  let kj := Function.invFun (β := S512x256.Idx) rowE i
  g kj.1 kj.2

theorem prodV_blk (w : Vec F S256x512 .bf16) (u : Vec F S512x256 .bf16) (x : Vec F S512x256 .bf16) (s : Fin 4) (j : S128x256.Idx) :
    prodV w u x (blkE (s, j)) = stageV w u (fun j => x (blkE (s, j))) j := by
  unfold prodV; dsimp only; rw [Function.leftInverse_invFun blkE_injective (s, j)]
omit [FloatOps F] in
theorem slotsV_slot (p : Dev nD → Vec F S512x256 .bf16) (k j : Dev nD) (r : S32x256.Idx) : slotsV p k (slotE (j, r)) = p j (rowE (k, r)) := by
  unfold slotsV; dsimp only; rw [Function.leftInverse_invFun slotE_injective (j, r)]
omit [FloatOps F] in
theorem rowsV_row {e : EltTy} (g : Dev nD → S32x256.Idx → Elt F e) (k : Dev nD) (r : S32x256.Idx) : rowsV g (rowE (k, r)) = g k r := by
  unfold rowsV; dsimp only; rw [Function.leftInverse_invFun rowE_injective (k, r)]

namespace Inputs

variable (D : Inputs F)

/-- The activations layer `n` starts from. -/
def X : ℕ → Dev nD → Vec F S512x256 .bf16
  | 0 => D.x
  | n + 1 => fun _ => rowsV fun k => sumG (slotsV (fun j => prodV (D.wi n j) (D.wo n j) (X n j)) k)

/-- Device `j`'s partial product in layer `n`; the slots of device `k`; the activations after layer `n`; the result. -/
def P (n : ℕ) (j : Dev nD) : Vec F S512x256 .bf16 := prodV (D.wi n j) (D.wo n j) (D.X n j)
def Y (n : ℕ) (k : Dev nD) : Vec F S16x32x256 .bf16 := slotsV (D.P n) k
def G (n : ℕ) : Vec F S512x256 .bf16 := rowsV fun k => sumG (D.Y n k)
def out : Vec F S512x256 .f32 := rowsV fun k => sumY (D.Y 2 k)

theorem X_succ (n : ℕ) (c : Dev nD) : D.X (n + 1) c = D.G n := rfl

end Inputs

/-! ## The algebra -/

/-- Two copies of the rounds library: the pipeline's, and the protocol's with duties named by devices. -/
abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## Cells -/

abbrev barC (c : Dev nD) : GSem nD τ sig := ((c : Thread nD τ), .reg barS)
abbrev rsS (c k : Dev nD) : GSem nD τ sig := ((c : Thread nD τ), .dma (semAt cc0_scratch3 k))
abbrev rsR (c k : Dev nD) : GSem nD τ sig := ((c : Thread nD τ), .dma (semAt cc0_scratch4 k))
abbrev agS (c k : Dev nD) : GSem nD τ sig := ((c : Thread nD τ), .dma (semAt cc0_scratch5 k))
abbrev agR (c k : Dev nD) : GSem nD τ sig := ((c : Thread nD τ), .dma (semAt cc0_scratch6 k))

/-- The kind of a semaphore — 1 the barrier, 2 to 5 the four arrays, 0 any other — and its place in its array. -/
def kindOf : SemLoc sig → ℕ
  | .reg s => if s = barS then 1 else 0
  | .dma s => if s.val < 8 then 0 else (s.val - 8) / 16 + 2
def placeOf : SemLoc sig → Dev nD
  | .reg _ => 0
  | .dma s => ⟨(s.val - 8) % 16, Nat.mod_lt _ (by decide)⟩

theorem kind_bar : kindOf (.reg barS) = 1 := by decide
theorem kind_rsS (k : Dev nD) : kindOf (.dma (semAt cc0_scratch3 k)) = 2 := by revert k; decide
theorem kind_rsR (k : Dev nD) : kindOf (.dma (semAt cc0_scratch4 k)) = 3 := by revert k; decide
theorem kind_agS (k : Dev nD) : kindOf (.dma (semAt cc0_scratch5 k)) = 4 := by revert k; decide
theorem kind_agR (k : Dev nD) : kindOf (.dma (semAt cc0_scratch6 k)) = 5 := by revert k; decide
theorem place_rsS (k : Dev nD) : placeOf (.dma (semAt cc0_scratch3 k)) = k := by revert k; decide
theorem place_rsR (k : Dev nD) : placeOf (.dma (semAt cc0_scratch4 k)) = k := by revert k; decide
theorem place_agS (k : Dev nD) : placeOf (.dma (semAt cc0_scratch5 k)) = k := by revert k; decide
theorem place_agR (k : Dev nD) : placeOf (.dma (semAt cc0_scratch6 k)) = k := by revert k; decide

/-- What a transfer of 32 rows credits: in bf16, and in f32. -/
def NB : ℕ := (rowsAt gM 0).view.dmaCredit
def NF : ℕ := (rowsAt yM 0).view.dmaCredit
theorem NB_pos : 0 < NB := View.dmaCredit_pos _ (by decide)
theorem NF_pos : 0 < NF := View.dmaCredit_pos _ (by decide)
/-- What the gathering transfers of layer `n` credit. -/
def agN (n : ℕ) : ℕ := if n = 2 then NF else NB
theorem agN_pos (n : ℕ) : 0 < agN n := by unfold agN; split; exacts [NF_pos, NB_pos]

/-! ## What is held -/

/-- The rows of device `k` of a 512-row buffer of device `c`, and slot `k` of device `c`, at share `q` and contents `f`. -/
def rowPts {e : EltTy} (M : Memref sig .tc .vmem S512x256 e) (c k : Dev nD) (q : PosShare TreeShare)
    (f : Buf (Elt F) (M.view.loc (c : Thread nD τ))) : sProp 𝕄 :=
  M.view.loc (c : Thread nD τ) ↦[(rowsAt M k).view.set]{q} f
def slotPts (c k : Dev nD) (f : Buf (Elt F) (sM.view.loc (c : Thread nD τ))) : sProp 𝕄 :=
  sM.view.loc (c : Thread nD τ) ↦[(slotAt k).view.set]{fullShare} f
/-- The same at any contents. -/
def rowAny {e : EltTy} (M : Memref sig .tc .vmem S512x256 e) (c k : Dev nD) : sProp 𝕄 := iprop(∃ f, rowPts (F := F) M c k fullShare f)
def slotAny (c k : Dev nD) : sProp 𝕄 := iprop(∃ f, slotPts (F := F) c k f)

omit [FloatOps F] in
instance rowPts_storable {e : EltTy} (M : Memref sig .tc .vmem S512x256 e) (c k : Dev nD) (q : PosShare TreeShare)
    (f : Buf (Elt F) (M.view.loc (c : Thread nD τ))) : BI.Storable (upEmb : UEmb _ 𝕄) (rowPts (F := F) M c k q f) := by
  unfold rowPts; infer_instance
omit [FloatOps F] in
instance slotPts_storable (c k : Dev nD) (f : Buf (Elt F) (sM.view.loc (c : Thread nD τ))) : BI.Storable (upEmb : UEmb _ 𝕄) (slotPts (F := F) c k f) := by
  unfold slotPts; infer_instance
omit [FloatOps F] in
instance rowAny_storable {e : EltTy} (M : Memref sig .tc .vmem S512x256 e) (c k : Dev nD) : BI.Storable (upEmb : UEmb _ 𝕄) (rowAny (F := F) M c k) := by
  unfold rowAny; infer_instance
omit [FloatOps F] in
instance slotAny_storable (c k : Dev nD) : BI.Storable (upEmb : UEmb _ 𝕄) (slotAny (F := F) c k) := by
  unfold slotAny; infer_instance

/-- The share of its own rows a device lends the transfer to device `k`. -/
def lent (k : Dev nD) : PosShare TreeShare := ShareLeaves.leaf 4 fullShare k

variable (D : Inputs F)

/-- Where layer `n`'s sums go: the rows of device `k` on device `c`, at the sums, and at anything. -/
def dst (n : ℕ) (c k : Dev nD) (q : PosShare TreeShare) : sProp 𝕄 :=
  if n = 2 then rowPts (F := F) yM c k q D.out else rowPts (F := F) gM c k q (D.G n)
def dstAny (n : ℕ) (c k : Dev nD) : sProp 𝕄 := if n = 2 then rowAny (F := F) yM c k else rowAny (F := F) gM c k

/-- What goes with the gathered rows: slot `k` of device `c` back, and that its next round is open. -/
def slotBack (n : ℕ) (c k : Dev nD) : sProp 𝕄 :=
  if n = 2 then iprop(emp) else iprop(slotAny (F := F) c k ∗ reached ER (rsR c k) (n + 1))

/-- What the arrival in slot `k` of device `c` hands over in layer `n`. -/
def rsPay (n : ℕ) (c k : Dev nD) : sProp 𝕄 :=
  iprop(slotPts (F := F) c k (D.Y n c)
    ∗ if k = c then rowPts (F := F) pM c c fullShare (D.P n c) else iprop(dstAny (F := F) n k c ∗ reached ER (agR k c) n))
/-- What the arrival of device `k`'s rows on device `c` hands over. -/
def agPay (n : ℕ) (c k : Dev nD) : sProp 𝕄 := iprop(dst D n c k fullShare ∗ slotBack (F := F) n k c)

instance dst_storable (n : ℕ) (c k : Dev nD) (q : PosShare TreeShare) : BI.Storable (upEmb : UEmb _ 𝕄) (dst D n c k q) := by
  unfold dst; split <;> infer_instance
omit [FloatOps F] in
instance dstAny_storable (n : ℕ) (c k : Dev nD) : BI.Storable (upEmb : UEmb _ 𝕄) (dstAny (F := F) n c k) := by
  unfold dstAny; split <;> infer_instance
omit [FloatOps F] in
instance slotBack_storable (n : ℕ) (c k : Dev nD) : BI.Storable (upEmb : UEmb _ 𝕄) (slotBack (F := F) n c k) := by
  unfold slotBack; split <;> infer_instance
instance rsPay_storable (n : ℕ) (c k : Dev nD) : BI.Storable (upEmb : UEmb _ 𝕄) (rsPay D n c k) := by
  unfold rsPay; split <;> infer_instance
instance agPay_storable (n : ℕ) (c k : Dev nD) : BI.Storable (upEmb : UEmb _ 𝕄) (agPay D n c k) := by
  unfold agPay; infer_instance

/-! ## The schedule -/

/-- The rounds' duties, by kind. -/
def dutiesOf (kd : ℕ) (c k : Dev nD) (r : ℕ) : Finset (Dev nD) :=
  if kd = 1 then (if r = 0 then Finset.univ else ∅)
  else if kd = 3 then (if r < 3 then {0} else ∅)
  else if kd = 0 then ∅ else (if r < 3 ∧ k ≠ c then {0} else ∅)
def amountOf (kd r : ℕ) : ℕ := if kd = 1 then 1 else if kd ≤ 3 then NB else agN r
def payOf (kd : ℕ) (c k : Dev nD) (r : ℕ) (d : Dev nD) : sProp 𝕄 :=
  if kd = 1 then slotAny (F := F) d c
  else if kd = 2 then rowPts (F := F) pM c k fullShare (D.P r c)
  else if kd = 3 then rsPay D r c k
  else if kd = 4 then dst D r c c (lent k)
  else agPay D r c k

/-- The protocol's schedule. -/
def Rd : Rounds.Schedule (GSem nD τ sig) (Dev nD) 𝕄 where
  duties g r := if g.1.2 = .tc then dutiesOf (kindOf g.2) g.1.1 (placeOf g.2) r else ∅
  amount g r _ := amountOf (kindOf g.2) r
  payload g r d := payOf D (kindOf g.2) g.1.1 (placeOf g.2) r d
  unitless _ := False
  amount_pos g r _ _ := by
    unfold amountOf; split
    · exact Nat.one_pos
    · split
      exacts [NB_pos, agN_pos _]

instance Rd_payload_storable (g : GSem nD τ sig) (r : ℕ) (d : Dev nD) : BI.Storable (upEmb : UEmb _ 𝕄) ((Rd D).payload g r d) := by
  show BI.Storable upEmb (payOf D (kindOf g.2) g.1.1 (placeOf g.2) r d)
  unfold payOf
  (repeat' split) <;> infer_instance

section Sched

variable (c k : Dev nD) (r : ℕ) (d : Dev nD)

theorem duties_tc (sm : SemLoc sig) : (Rd D).duties ((c : Thread nD τ), sm) r = dutiesOf (kindOf sm) c (placeOf sm) r := by
  unfold Rd; dsimp only; exact if_pos rfl
theorem amount_eq (sm : SemLoc sig) : (Rd D).amount ((c : Thread nD τ), sm) r d = amountOf (kindOf sm) r := rfl
theorem payload_eq (sm : SemLoc sig) : (Rd D).payload ((c : Thread nD τ), sm) r d = payOf D (kindOf sm) c (placeOf sm) r d := rfl

theorem duties_bar : (Rd D).duties (barC c) 0 = Finset.univ := by
  rw [duties_tc, kind_bar]; rfl
theorem duties_rsR (h : r < 3) : (Rd D).duties (rsR c k) r = {0} := by
  rw [duties_tc, kind_rsR]; unfold dutiesOf; simp [h]
theorem duties_rsS (h : r < 3) (hk : k ≠ c) : (Rd D).duties (rsS c k) r = {0} := by
  rw [duties_tc, kind_rsS, place_rsS]; unfold dutiesOf; simp [h, hk]
theorem duties_agR (h : r < 3) (hk : k ≠ c) : (Rd D).duties (agR c k) r = {0} := by
  rw [duties_tc, kind_agR, place_agR]; unfold dutiesOf; simp [h, hk]
theorem duties_agS (h : r < 3) (hk : k ≠ c) : (Rd D).duties (agS c k) r = {0} := by
  rw [duties_tc, kind_agS, place_agS]; unfold dutiesOf; simp [h, hk]
/-- No cell has a duty after the third round; the barrier none after the first; a device's cells for itself have none but
    the arrival's. -/
theorem duties_late (g : GSem nD τ sig) : ∀ r, 3 ≤ r → (Rd D).duties g r = ∅ := fun r hr => by
  unfold Rd; dsimp only
  split
  · unfold dutiesOf; (repeat' split) <;> first | rfl | omega
  · rfl
theorem duties_bar_late : ∀ r, 1 ≤ r → (Rd D).duties (barC c) r = ∅ := fun r hr => by
  rw [duties_tc, kind_bar]; unfold dutiesOf; rw [if_pos rfl, if_neg (by omega)]
theorem duties_rsS_self : ∀ r, 0 ≤ r → (Rd D).duties (rsS c c) r = ∅ := fun r _ => by
  rw [duties_tc, kind_rsS, place_rsS]; unfold dutiesOf; simp
theorem duties_agS_self : ∀ r, 0 ≤ r → (Rd D).duties (agS c c) r = ∅ := fun r _ => by
  rw [duties_tc, kind_agS, place_agS]; unfold dutiesOf; simp
theorem duties_agR_self : ∀ r, 0 ≤ r → (Rd D).duties (agR c c) r = ∅ := fun r _ => by
  rw [duties_tc, kind_agR, place_agR]; unfold dutiesOf; simp

theorem amount_bar : (Rd D).amount (barC c) r d = 1 := by rw [amount_eq, kind_bar]; rfl
theorem amount_rsS : (Rd D).amount (rsS c k) r d = NB := by rw [amount_eq, kind_rsS]; rfl
theorem amount_rsR : (Rd D).amount (rsR c k) r d = NB := by rw [amount_eq, kind_rsR]; rfl
theorem amount_agS : (Rd D).amount (agS c k) r d = agN r := by rw [amount_eq, kind_agS]; rfl
theorem amount_agR : (Rd D).amount (agR c k) r d = agN r := by rw [amount_eq, kind_agR]; rfl

theorem payload_bar : (Rd D).payload (barC c) r d = slotAny (F := F) d c := by rw [payload_eq, kind_bar]; rfl
theorem payload_rsS : (Rd D).payload (rsS c k) r d = rowPts (F := F) pM c k fullShare (D.P r c) := by
  rw [payload_eq, kind_rsS, place_rsS]; rfl
theorem payload_rsR : (Rd D).payload (rsR c k) r d = rsPay D r c k := by
  rw [payload_eq, kind_rsR, place_rsR]; rfl
theorem payload_agS : (Rd D).payload (agS c k) r d = dst D r c c (lent k) := by
  rw [payload_eq, kind_agS, place_agS]; rfl
theorem payload_agR : (Rd D).payload (agR c k) r d = agPay D r c k := by
  rw [payload_eq, kind_agR, place_agR]; rfl

theorem expect_bar : (Rd D).expect (barC c) 0 = 16 := by
  unfold Schedule.expect Schedule.amountOf; rw [duties_bar, Finset.sum_congr rfl fun d _ => amount_bar D c 0 d]; rfl
theorem expect_rsS (h : r < 3) (hk : k ≠ c) : (Rd D).expect (rsS c k) r = NB := by
  unfold Schedule.expect Schedule.amountOf; rw [duties_rsS D c k r h hk, Finset.sum_singleton, amount_rsS]
theorem expect_rsR (h : r < 3) : (Rd D).expect (rsR c k) r = NB := by
  unfold Schedule.expect Schedule.amountOf; rw [duties_rsR D c k r h, Finset.sum_singleton, amount_rsR]
theorem expect_agS (h : r < 3) (hk : k ≠ c) : (Rd D).expect (agS c k) r = agN r := by
  unfold Schedule.expect Schedule.amountOf; rw [duties_agS D c k r h hk, Finset.sum_singleton, amount_agS]
theorem expect_agR (h : r < 3) (hk : k ≠ c) : (Rd D).expect (agR c k) r = agN r := by
  unfold Schedule.expect Schedule.amountOf; rw [duties_agR D c k r h hk, Finset.sum_singleton, amount_agR]

/-- What a whole round hands over. -/
theorem rest_bar : bigSep ((Rd D).duties (barC c) 0 \ ∅) (fun d => (Rd D).payload (barC c) 0 d) = bigSep Finset.univ fun d => slotAny (F := F) d c := by
  rw [Finset.sdiff_empty, duties_bar]; exact bigSep_congr fun d _ => payload_bar D c 0 d
theorem rest_rsS (h : r < 3) (hk : k ≠ c) : bigSep ((Rd D).duties (rsS c k) r \ ∅) (fun d => (Rd D).payload (rsS c k) r d) = rowPts (F := F) pM c k fullShare (D.P r c) := by
  rw [Finset.sdiff_empty, duties_rsS D c k r h hk, bigSep_singleton, payload_rsS]
theorem rest_rsR (h : r < 3) : bigSep ((Rd D).duties (rsR c k) r \ ∅) (fun d => (Rd D).payload (rsR c k) r d) = rsPay D r c k := by
  rw [Finset.sdiff_empty, duties_rsR D c k r h, bigSep_singleton, payload_rsR]
theorem rest_agS (h : r < 3) (hk : k ≠ c) : bigSep ((Rd D).duties (agS c k) r \ ∅) (fun d => (Rd D).payload (agS c k) r d) = dst D r c c (lent k) := by
  rw [Finset.sdiff_empty, duties_agS D c k r h hk, bigSep_singleton, payload_agS]
theorem rest_agR (h : r < 3) (hk : k ≠ c) : bigSep ((Rd D).duties (agR c k) r \ ∅) (fun d => (Rd D).payload (agR c k) r d) = agPay D r c k := by
  rw [Finset.sdiff_empty, duties_agR D c k r h hk, bigSep_singleton, payload_agR]

end Sched

/-! ## What each device owes, and the levels -/

/-- The `i`-th of what device `c` owes the others: sixteen in each of seven phases — the barrier, and each layer's slots
    and gathered rows. -/
def term (c : Dev nD) (i : ℕ) : CellTallies nD τ sig ℕ :=
  let k : Dev nD := ⟨i % 16, Nat.mod_lt _ (by decide)⟩
  if i / 16 = 0 then tallyAt (barC k) 0 1
  else if k = c then 0
  else if i / 16 % 2 = 1 then tallyAt (rsR k c) (i / 16 / 2) NB
  else tallyAt (agR k c) (i / 16 / 2 - 1) (agN (i / 16 / 2 - 1))

/-- What device `c` owes from the `n`-th on. -/
def owed (c : Dev nD) (n : ℕ) : CellTallies nD τ sig ℕ := ∑ i ∈ Finset.Ico n 112, term c i

theorem owed_step (c : Dev nD) {n : ℕ} (h : n < 112) : owed c n = owed c (n + 1) + term c n := by
  unfold owed; have e : Finset.Ico n 112 = insert n (Finset.Ico (n + 1) 112) := by ext i; simp only [Finset.mem_insert, Finset.mem_Ico]; omega
  rw [e, Finset.sum_insert (by simp), add_comm]
theorem owed_end (c : Dev nD) : owed c 112 = 0 := by unfold owed; rw [Finset.Ico_self, Finset.sum_empty]

theorem term_bar (c k : Dev nD) : term c k.val = tallyAt (barC k) 0 1 := by
  have hk : k.val < 16 := k.isLt
  have e : (⟨k.val % 16, Nat.mod_lt _ (by decide)⟩ : Dev nD) = k := Fin.ext (Nat.mod_eq_of_lt hk)
  unfold term; dsimp only; rw [if_pos (by omega), e]
theorem term_self (c : Dev nD) {p : ℕ} (hp : 0 < p) : term c (16 * p + c.val) = 0 := by
  have hk : c.val < 16 := c.isLt
  have e : (⟨(16 * p + c.val) % 16, Nat.mod_lt _ (by decide)⟩ : Dev nD) = c := Fin.ext (by show (16 * p + c.val) % 16 = c.val; omega)
  unfold term; dsimp only; rw [if_neg (by omega), e, if_pos rfl]
theorem term_rs (c k : Dev nD) (hk : k ≠ c) (n : ℕ) : term c (16 * (2 * n + 1) + k.val) = tallyAt (rsR k c) n NB := by
  have h : k.val < 16 := k.isLt
  have e : (⟨(16 * (2 * n + 1) + k.val) % 16, Nat.mod_lt _ (by decide)⟩ : Dev nD) = k := Fin.ext (by show (16 * (2 * n + 1) + k.val) % 16 = k.val; omega)
  have e1 : (16 * (2 * n + 1) + k.val) / 16 = 2 * n + 1 := by omega
  unfold term; dsimp only; rw [e, e1, if_neg (by omega), if_neg hk, if_pos (by omega), show (2 * n + 1) / 2 = n by omega]
theorem term_ag (c k : Dev nD) (hk : k ≠ c) (n : ℕ) : term c (16 * (2 * n + 2) + k.val) = tallyAt (agR k c) n (agN n) := by
  have h : k.val < 16 := k.isLt
  have e : (⟨(16 * (2 * n + 2) + k.val) % 16, Nat.mod_lt _ (by decide)⟩ : Dev nD) = k := Fin.ext (by show (16 * (2 * n + 2) + k.val) % 16 = k.val; omega)
  have e1 : (16 * (2 * n + 2) + k.val) / 16 = 2 * n + 2 := by omega
  unfold term; dsimp only; rw [e, e1, if_neg (by omega), if_neg hk, if_neg (by omega), show (2 * n + 2) / 2 - 1 = n by omega]

/-- Every TensorCore cell has its three rounds levelled; -/
def L (g : GSem nD τ sig) : Finset ℕ := if g.1.2 = .tc then {0, 1, 2} else ∅
/-- the barrier at 1, the slots' arrivals in layer `n` at `2 + 2 n`, the gathered rows' at `3 + 2 n`, all else at 0. -/
def lv (g : GSem nD τ sig) (n : ℕ) : ℕ :=
  if kindOf g.2 = 1 then 1 else if kindOf g.2 = 3 then 2 + 2 * n else if kindOf g.2 = 5 then 3 + 2 * n else 0

theorem L_of_ne (g : GSem nD τ sig) (h : g.1.2 ≠ .tc) : L g = ∅ := if_neg h
theorem L_tc (c : Dev nD) (sm : SemLoc sig) : L ((c : Thread nD τ), sm) = {0, 1, 2} := if_pos rfl
theorem mem_L {c : Dev nD} {sm : SemLoc sig} {n : ℕ} (h : n < 3) : n ∈ L ((c : Thread nD τ), sm) := by
  rw [L_tc]; simp only [Finset.mem_insert, Finset.mem_singleton]; omega

theorem tallyAt_pos {g g' : GSem nD τ sig} {u u' k : ℕ} (h : 0 < (tallyAt g u k : CellTallies nD τ sig ℕ) g' u') : g' = g ∧ u' = u := by
  rw [tallyAt_apply] at h
  by_contra hn
  rw [if_neg hn] at h
  exact Nat.lt_irrefl 0 h

/-- What is owed in phase `p` is levelled, at `p + 1`. -/
theorem term_level {c : Dev nD} {i : ℕ} (hi : i < 112) {g : GSem nD τ sig} {u : ℕ} (h : 0 < term c i g u) : u ∈ L g ∧ lv g u = i / 16 + 1 := by
  unfold term at h
  split at h
  · obtain ⟨rfl, rfl⟩ := tallyAt_pos h
    refine ⟨mem_L (by decide), ?_⟩
    unfold lv; rw [if_pos kind_bar]; omega
  · split at h
    · exact absurd h (Nat.lt_irrefl 0)
    · split at h
      · obtain ⟨rfl, rfl⟩ := tallyAt_pos h
        refine ⟨mem_L (by omega), ?_⟩
        unfold lv; rw [kind_rsR]; rw [if_neg (by decide), if_pos rfl]; omega
      · obtain ⟨rfl, rfl⟩ := tallyAt_pos h
        refine ⟨mem_L (by omega), ?_⟩
        unfold lv; rw [kind_agR, if_neg (by decide), if_neg (by decide), if_pos rfl]; omega

theorem owed_level {c : Dev nD} {n : ℕ} {g : GSem nD τ sig} {u : ℕ} (h : 0 < owed c n g u) : u ∈ L g ∧ n / 16 + 1 ≤ lv g u := by
  unfold owed at h
  rw [Finset.sum_apply, Finsupp.finset_sum_apply] at h
  obtain ⟨i, hi, hp⟩ := Finset.exists_ne_zero_of_sum_ne_zero h.ne'
  obtain ⟨a, b⟩ := Finset.mem_Ico.mp hi
  obtain ⟨l, e⟩ := term_level b (Nat.pos_of_ne_zero hp)
  exact ⟨l, by rw [e]; have := Nat.div_le_div_right (c := 16) a; omega⟩

omit [FloatOps F] in
/-- A device owing only what comes after phase `b` may wait on a cell at level at most `b`. -/
theorem mayWait (c : Dev nD) (sm : SemLoc sig) {u n : ℕ} (hu : u < 3) (h : lv ((c : Thread nD τ), sm) u ≤ n / 16) :
    (levAts L lv : sProp 𝕄) ⊢ MayWait (c : Thread nD τ) sm u (owed c n) :=
  MayOwe.of_cut (L := L) (lev := lv) (n / 16) (fun p hp => by rw [Finset.mem_singleton.mp hp]; exact mem_L hu)
    (fun g u hg => (owed_level hg).1) (fun p hp => by rw [Finset.mem_singleton.mp hp]; exact h)
    (fun g u hg => (owed_level hg).2)

end Cert.Proof

end
-- ==== Proof.Own.lean ====
/-
  Ownership by parts: a buffer of 512 rows is the sixteen devices' rows, a stage's rows are its four devices', the slots are the
  sixteen slots; and the operations on the device's own part read like those on any other's.
-/
module

public import proofs.«01_k».proof.Proof.Cells

@[expose] public section

noncomputable section

namespace Cert.Proof

open Cert.KernelIdeal Cert.KernelIdeal.Gen

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Separated families -/

section Stars

variable {N : Type*} [URA N] {I : Type} [DecidableEq I] {s t : Finset I} {i : I} {Φ : I → sProp N}

theorem star_insert (h : i ∉ s) : bigSep (insert i s) Φ = iprop(Φ i ∗ bigSep s Φ) := bigSep_insert h
theorem star_take (h : i ∈ s) : bigSep s Φ = iprop(Φ i ∗ bigSep (s.erase i) Φ) := bigSep_erase h
theorem star_union (h : Disjoint s t) : bigSep (s ∪ t) Φ = iprop(bigSep s Φ ∗ bigSep t Φ) := bigSep_union h

end Stars

/-! ## Element sets of views -/

theorem map_biUnion {α β T : Type} [DecidableEq α] [DecidableEq β] (S : Finset T) (K : T → Finset α) (f : α ↪ β) :
    (S.biUnion K).map f = S.biUnion fun t => (K t).map f := by
  ext i
  simp only [Finset.mem_map, Finset.mem_biUnion]
  constructor
  · rintro ⟨a, ⟨t, ht, ha⟩, rfl⟩; exact ⟨t, ht, a, ha, rfl⟩
  · rintro ⟨t, ht, a, ha, rfl⟩; exact ⟨a, ⟨t, ht, ha⟩, rfl⟩

section Rows

variable {e : EltTy} (M : Memref sig .tc .vmem S512x256 e) (c : Dev nD)

theorem rows_set (k : Dev nD) : (rowsAt M k).view.set = (rowR k).set.map M.view.emb := View.set_slice (v := M.view) (rowR k)
theorem rows_disjoint {k k' : Dev nD} (h : k ≠ k') : Disjoint (rowsAt M k).view.set (rowsAt M k').view.set := by
  rw [rows_set, rows_set]; exact (Finset.disjoint_map _).mpr (rowR_disjoint h)
theorem rows_cover : M.view.set = Finset.univ.biUnion fun k : Dev nD => (rowsAt M k).view.set := by
  rw [Finset.biUnion_congr rfl fun k _ => rows_set M k, ← map_biUnion, ← rowR_cover]; rfl
theorem rows_blk (s : Fin 4) : (M.access (blkR s)).set = (own s).toFinset.biUnion fun k : Dev nD => (rowsAt M k).view.set := by
  rw [show (M.access (blkR s)).set = (blkR s).set.map M.view.emb from View.set_slice (v := M.view) (blkR s), blkR_rows,
    map_biUnion]
  exact Finset.biUnion_congr rfl fun k _ => (rows_set M k).symm

variable (q : PosShare TreeShare) (f : Buf (Elt F) (M.view.loc (c : Thread nD τ)))

omit [FloatOps F] in
theorem pts_rows : (M.view.loc (c : Thread nD τ) ↦[M.view.set]{q} f : sProp 𝕄) = bigSep Finset.univ fun k : Dev nD => rowPts (F := F) M c k q f := by
  rw [rows_cover]; exact pointsTo_biUnion _ _ fun _ _ _ _ h => rows_disjoint M h
omit [FloatOps F] in
theorem pts_blk (s : Fin 4) : (M.view.loc (c : Thread nD τ) ↦[(M.access (blkR s)).set]{q} f : sProp 𝕄) = bigSep (own s).toFinset fun k : Dev nD => rowPts (F := F) M c k q f := by
  rw [rows_blk]; exact pointsTo_biUnion _ _ fun _ _ _ _ h => rows_disjoint M h

/-- Rows at any contents, together. -/
theorem any_of {T : Type} {ℓ : Loc nD τ sig} [Nonempty (Buf (Elt F) ℓ)] (S : Finset T) (K : T → Finset (Idx ℓ))
    (h : ∀ t ∈ S, ∀ t' ∈ S, t ≠ t' → Disjoint (K t) (K t')) :
    bigSep S (fun t => iprop(∃ f : Buf (Elt F) ℓ, ℓ ↦[K t]{fullShare} f)) ⊢ (iprop(∃ g : Buf (Elt F) ℓ, ℓ ↦[S.biUnion K]{fullShare} g) : sProp 𝕄) := by
  classical
  induction S using Finset.induction_on with
  | empty =>
    rw [Finset.biUnion_empty, bigSep_empty]
    iintro -
    iexists (Classical.arbitrary _)
    rw [pointsTo_empty]; iempintro
  | insert t S ht ih =>
    rw [star_insert ht, Finset.biUnion_insert]
    iintro ⟨⟨%f, Hf⟩, HS⟩
    ihave HS := (ih fun a ha b hb => h a (Finset.mem_insert_of_mem ha) b (Finset.mem_insert_of_mem hb)) $$ HS
    icases HS with ⟨%g, Hg⟩
    have hd : Disjoint (K t) (S.biUnion K) := by
      rw [Finset.disjoint_biUnion_right]
      exact fun b hb => h t (Finset.mem_insert_self ..) b (Finset.mem_insert_of_mem hb) fun e => ht (e ▸ hb)
    iexists _
    iapply (pointsTo_join (f := f) (g := g) hd) $$ [Hf Hg]
    isplitl [Hf]; · iexact Hf
    iexact Hg

theorem any_rows [Nonempty (Buf (Elt F) (M.view.loc (c : Thread nD τ)))] :
    bigSep Finset.univ (fun k : Dev nD => rowAny (F := F) M c k) ⊢ (iprop(∃ g, M.view.loc (c : Thread nD τ) ↦[M.view.set]{fullShare} g) : sProp 𝕄) := by
  rw [rows_cover]; exact any_of _ _ fun _ _ _ _ h => rows_disjoint M h
theorem any_blk [Nonempty (Buf (Elt F) (M.view.loc (c : Thread nD τ)))] (s : Fin 4) :
    bigSep (own s).toFinset (fun k : Dev nD => rowAny (F := F) M c k) ⊢ (iprop(∃ g, M.view.loc (c : Thread nD τ) ↦[(M.access (blkR s)).set]{fullShare} g) : sProp 𝕄) := by
  rw [rows_blk]; exact any_of _ _ fun _ _ _ _ h => rows_disjoint M h

end Rows

section Slots

theorem slots_set (k : Dev nD) : (slotAt k).view.set = (slotR k).set.map sM.view.emb :=
  (View.set_reshape ..).trans (View.set_slice (v := sM.view) (slotR k))
theorem slots_disjoint {k k' : Dev nD} (h : k ≠ k') : Disjoint (slotAt k).view.set (slotAt k').view.set := by
  rw [slots_set, slots_set]
  refine (Finset.disjoint_map _).mpr (Rect.unit_disjoint 0 ?_)
  show k.val + 1 ≤ k'.val ∨ k'.val + 1 ≤ k.val
  rcases Nat.lt_or_gt_of_ne (Fin.val_ne_of_ne h) with h | h
  · exact .inl h
  · exact .inr h
theorem slots_cover : sM.view.set = Finset.univ.biUnion fun k : Dev nD => (slotAt k).view.set := by
  ext i
  obtain ⟨⟨k, j⟩, rfl⟩ := slotE_surjective i
  simp only [Finset.mem_biUnion, Finset.mem_univ, true_and]
  exact ⟨fun _ => ⟨k, Finset.mem_map_of_mem _ (Finset.mem_univ j)⟩, fun _ => by rw [show sM.view.set = Finset.univ from View.set_whole _]; exact Finset.mem_univ _⟩

variable (c : Dev nD) (f : Buf (Elt F) (sM.view.loc (c : Thread nD τ)))

omit [FloatOps F] in
theorem pts_slots : (sM.view.loc (c : Thread nD τ) ↦[sM.view.set]{fullShare} f : sProp 𝕄) = bigSep Finset.univ fun k : Dev nD => slotPts (F := F) c k f := by
  rw [slots_cover]; exact pointsTo_biUnion _ _ fun _ _ _ _ h => slots_disjoint h
theorem any_slots [Nonempty (Buf (Elt F) (sM.view.loc (c : Thread nD τ)))] :
    bigSep Finset.univ (fun k : Dev nD => slotAny (F := F) c k) ⊢ (iprop(∃ g, sM.view.loc (c : Thread nD τ) ↦[sM.view.set]{fullShare} g) : sProp 𝕄) := by
  rw [slots_cover]; exact any_of _ _ fun _ _ _ _ h => slots_disjoint h

end Slots

/-! ## The device's own part -/

theorem semAtD_eq (A : DmaSems sig S16) (d : Dev nD) : semAtD A d = semAt A d := by
  have g : ∀ (o : Fin 1 → ℕ) (h : ∀ a, o a + S1.size a ≤ S16.size a), o = ![d.val] →
      ((A.slice (Rect.unit (s := S16) o S1.size h)).squeeze S_ squeezes_S1_S_).sem = semAt A d := by
    rintro o h rfl; rfl
  exact g _ _ (k0_off33_eq d)
theorem rowsAtD_eq {e : EltTy} (M : Memref sig .tc .vmem S512x256 e) (d : Dev nD) : rowsAtD M d = rowsAt M d := by
  have g : ∀ (o : Fin 2 → ℕ) (h : ∀ a, o a + S32x256.size a ≤ S512x256.size a), o = ![32 * d.val, 0] →
      M.slice (Rect.unit (s := S512x256) o S32x256.size h) (fun _ => rfl) = rowsAt M d := by
    rintro o h rfl; rfl
  exact g _ _ (k0_off35_eq d)
theorem slotAtD_eq (d : Dev nD) : slotAtD d = slotAt d := by
  have g : ∀ (o : Fin 3 → ℕ) (h : ∀ a, o a + S1x32x256.size a ≤ S16x32x256.size a), o = ![d.val, 0, 0] →
      (sM.slice (Rect.unit (s := S16x32x256) o S1x32x256.size h) (fun _ => rfl)).squeeze S32x256 squeezes_S1x32x256_S32x256 = slotAt d := by
    rintro o h rfl; rfl
  exact g _ _ (k0_off34_eq d)

section Ops

variable {α : Type}

/-- The load and the stores of the device's own rows, at the rows' rectangle. -/
theorem loadRow_eq {e : EltTy} (M : Memref sig .tc .vmem S512x256 e) (d : Dev nD) (r : Vec F S32x256 e → Text F α) :
    loadRow M d r = .op (.load M (rowR d).toLoadRect (View.loadsAt_vmem h_S32x256)) r := by
  have g : ∀ (o : Fin 2 → ℕ) (h : ∀ a, o a + S32x256.size a ≤ S512x256.size a), o = ![32 * d.val, 0] →
      (.op (.load M (Rect.unit (s := S512x256) o S32x256.size h).toLoadRect (View.loadsAt_vmem h_S32x256)) r : Text F α)
        = .op (.load M (rowR d).toLoadRect (View.loadsAt_vmem h_S32x256)) r := by
    rintro o h rfl; rfl
  exact g _ _ (k0_off36_eq d)
theorem storeG_eq (d : Dev nD) (v : FVec F S32x256 .bf16) (r : Text F α) :
    ∃ hx, storeG d v r = .op (.store gM (rowR d) v Finset.univ hx (.inl rfl)) fun _ => r := by
  have g : ∀ (o : Fin 2 → ℕ) (h : ∀ a, o a + S32x256.size a ≤ S512x256.size a), o = ![32 * d.val, 0] →
      ∀ hx, ∃ hx', (.op (.store gM (Rect.unit (s := S512x256) o S32x256.size h) v Finset.univ hx (.inl rfl)) fun _ => r : Text F α)
        = .op (.store gM (rowR d) v Finset.univ hx' (.inl rfl)) fun _ => r := by
    rintro o h rfl hx; exact ⟨hx, rfl⟩
  exact g _ _ (k0_off36_eq d) _
theorem storeY_eq (d : Dev nD) (v : FVec F S32x256 .f32) (r : Text F α) :
    ∃ hx, storeY d v r = .op (.store yM (rowR d) v Finset.univ hx (.inl rfl)) fun _ => r := by
  have g : ∀ (o : Fin 2 → ℕ) (h : ∀ a, o a + S32x256.size a ≤ S512x256.size a), o = ![32 * d.val, 0] →
      ∀ hx, ∃ hx', (.op (.store yM (Rect.unit (s := S512x256) o S32x256.size h) v Finset.univ hx (.inl rfl)) fun _ => r : Text F α)
        = .op (.store yM (rowR d) v Finset.univ hx' (.inl rfl)) fun _ => r := by
    rintro o h rfl hx; exact ⟨hx, rfl⟩
  exact g _ _ (k0_off36_eq d) _

end Ops

/-! ## Contents -/

variable (D : Inputs F)

/-- The rows of stage `s` stored are the partial product's. -/
theorem stored_blk (n : ℕ) (c : Dev nD) (s : Fin 4) (f : Buf (Elt F) (pM.view.loc (c : Thread nD τ))) :
    (pM.view.loc (c : Thread nD τ) ↦[(pM.access (blkR s)).set]{fullShare}
        (pM.access (blkR s)).write (Elt F) f (stageV (D.wi n c) (D.wo n c) fun j => D.X n c (blkE (s, j))) Finset.univ : sProp 𝕄)
      = (pM.view.loc (c : Thread nD τ) ↦[(pM.access (blkR s)).set]{fullShare} D.P n c) := by
  refine pointsTo_congr fun i hi => ?_
  obtain ⟨j, -, rfl⟩ := Finset.mem_map.mp hi
  exact (View.write_emb_of_mem _ _ (Finset.mem_univ j)).trans (prodV_blk _ _ _ s j).symm

/-- The device's rows of the sums stored. -/
theorem stored_G (n : ℕ) (c : Dev nD) (f : Buf (Elt F) (gM.view.loc (c : Thread nD τ))) :
    (gM.view.loc (c : Thread nD τ) ↦[(rowsAt gM c).view.set]{fullShare} (gM.access (rowR c)).write (Elt F) f (sumG (D.Y n c)) Finset.univ : sProp 𝕄)
      = rowPts (F := F) gM c c fullShare (D.G n) := by
  refine pointsTo_congr fun i hi => ?_
  obtain ⟨j, -, rfl⟩ := Finset.mem_map.mp hi
  exact (View.write_emb_of_mem (v := gM.access (rowR c)) _ _ (Finset.mem_univ j)).trans (rowsV_row (e := .bf16) (fun k => sumG (D.Y n k)) c j).symm
theorem stored_Y (c : Dev nD) (f : Buf (Elt F) (yM.view.loc (c : Thread nD τ))) :
    (yM.view.loc (c : Thread nD τ) ↦[(rowsAt yM c).view.set]{fullShare} (yM.access (rowR c)).write (Elt F) f (sumY (D.Y 2 c)) Finset.univ : sProp 𝕄)
      = rowPts (F := F) yM c c fullShare D.out := by
  refine pointsTo_congr fun i hi => ?_
  obtain ⟨j, -, rfl⟩ := Finset.mem_map.mp hi
  exact (View.write_emb_of_mem (v := yM.access (rowR c)) _ _ (Finset.mem_univ j)).trans (rowsV_row (e := .f32) (fun k => sumY (D.Y 2 k)) c j).symm

/-- Device `d`'s rows for device `k`, landed in slot `d` of device `k`. -/
theorem landed_slot (n : ℕ) (k d : Dev nD) (f : Buf (Elt F) (sM.view.loc (k : Thread nD τ))) :
    (sM.view.loc (k : Thread nD τ) ↦[(slotAt d).view.set]{fullShare}
        (slotAt d).view.write (Elt F) f ((rowsAt pM k).view.read (Elt F) (D.P n d : Buf (Elt F) (pM.view.loc (d : Thread nD τ)))) Finset.univ : sProp 𝕄)
      = slotPts (F := F) k d (D.Y n k) := by
  refine pointsTo_congr fun i hi => ?_
  obtain ⟨j, -, rfl⟩ := Finset.mem_map.mp hi
  exact (View.write_emb_of_mem (v := (slotAt d).view) _ _ (Finset.mem_univ j)).trans (slotsV_slot (D.P n) k d j).symm

/-- Rows landed where they come from hold what they held. -/
theorem landed_rows {e : EltTy} (M : Memref sig .tc .vmem S512x256 e) (k d : Dev nD) (f : Buf (Elt F) (M.view.loc (k : Thread nD τ)))
    (Z : Buf (Elt F) (M.view.loc (d : Thread nD τ))) :
    (M.view.loc (k : Thread nD τ) ↦[(rowsAt M d).view.set]{fullShare}
        (rowsAt M d).view.write (Elt F) f ((rowsAt M d).view.read (Elt F) Z) Finset.univ : sProp 𝕄)
      = rowPts (F := F) M k d fullShare Z := by
  refine pointsTo_congr fun i hi => ?_
  obtain ⟨j, -, rfl⟩ := Finset.mem_map.mp hi
  rw [View.write_emb_of_mem _ _ (Finset.mem_univ j), View.read_apply, cast_cast, cast_eq]

/-- What the loads read. -/
theorem read_blk_x (c : Dev nD) (f : Buf (Elt F) (xM.view.loc (c : Thread nD τ))) (s : Fin 4) :
    (xM.access (blkR s)).read (Elt F) f = fun j => f (blkE (s, j)) := rfl
theorem read_blk_g (c : Dev nD) (f : Buf (Elt F) (gM.view.loc (c : Thread nD τ))) (s : Fin 4) :
    (gM.access (blkR s)).read (Elt F) f = fun j => f (blkE (s, j)) := rfl
theorem read_slots (c : Dev nD) (f : Buf (Elt F) (sM.view.loc (c : Thread nD τ))) :
    (sM.access (Rect.unit (s := S16x32x256) ![0, 0, 0] S16x32x256.size inb_S16x32x256_S16x32x256_0_0_0)).read (Elt F) f = f := by
  funext j
  refine congrArg f (funext fun a => Fin.ext ?_)
  fin_cases a <;> exact (Nat.zero_add _).trans (Nat.one_mul _)

end Cert.Proof

end
-- ==== Proof.Steps.lean ====
/-
  One rule per operation of the body, for a symbolic device and peer: what it takes, what it leaves.
-/
module

public import proofs.«01_k».proof.Proof.Own

@[expose] public section

noncomputable section

namespace Cert.Proof

open Cert.KernelIdeal Cert.KernelIdeal.Gen

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

abbrev 𝒱₀ : Variants := Variants.none

variable (D : Inputs F) {α : Type}

/-- What the rest of a device's program needs. -/
abbrev WP (c : Dev nD) (p : Text F α) (Q : α → sProp 𝕄) : sProp 𝕄 := wp frame (wpE (defs₀ (F := F)) 𝒱₀ (c : Thread nD τ) none) Set.univ p Q

/-! ## The protocol's cells, all known from the start -/

/-- The sixty-four transfer semaphores and the barrier. -/
abbrev csem (j : Fin 65) : SemLoc sig := if h : j.val < 64 then .dma ⟨8 + j.val, Nat.add_lt_add_left h 8⟩ else .reg barS
abbrev kcell (cj : Dev nD × Fin 65) : GSem nD τ sig := ((cj.1 : Thread nD τ), csem cj.2)

theorem csem_rsS (k : Dev nD) : csem ⟨k.val, by have : k.val < 16 := k.isLt; omega⟩ = .dma (semAt cc0_scratch3 k) := by revert k; decide +kernel
theorem csem_rsR (k : Dev nD) : csem ⟨16 + k.val, by have : k.val < 16 := k.isLt; omega⟩ = .dma (semAt cc0_scratch4 k) := by revert k; decide +kernel
theorem csem_agS (k : Dev nD) : csem ⟨32 + k.val, by have : k.val < 16 := k.isLt; omega⟩ = .dma (semAt cc0_scratch5 k) := by revert k; decide +kernel
theorem csem_agR (k : Dev nD) : csem ⟨48 + k.val, by have : k.val < 16 := k.isLt; omega⟩ = .dma (semAt cc0_scratch6 k) := by revert k; decide +kernel

/-- That the protocol governs a cell, and has opened its first round. -/
def known (g : GSem nD τ sig) : sProp 𝕄 := iprop((∃ κ, cellInv ER (Rd D) κ g) ∗ reached ER g 0)
instance known_persistent (g : GSem nD τ sig) : BI.Persistent (known D g) := by unfold known; infer_instance

/-- The levels of all the cells. -/
@[irreducible] def levs : sProp 𝕄 := levAts L lv
omit [FloatOps F] in
theorem mayWait' (c : Dev nD) (sm : SemLoc sig) {u n : ℕ} (hu : u < 3) (h : lv ((c : Thread nD τ), sm) u ≤ n / 16) :
    levs (F := F) ⊢ MayWait (c : Thread nD τ) sm u (owed c n) := by unfold levs; exact mayWait c sm hu h
omit [FloatOps F] in
instance levs_persistent : BI.Persistent (levs (F := F)) := by unfold levs; infer_instance

def Ctx : sProp 𝕄 := iprop((bigSep Finset.univ fun cj : Dev nD × Fin 65 => known D (kcell cj)) ∗ levs (F := F))
instance Ctx_persistent : BI.Persistent (Ctx D) := by unfold Ctx; infer_instance

theorem Ctx_at (cj : Dev nD × Fin 65) {g : GSem nD τ sig} (h : kcell cj = g) : Ctx D ⊢ known D g := by
  have e : (bigSep Finset.univ fun cj : Dev nD × Fin 65 => known D (kcell cj)) ⊢ known D (kcell cj) := bigSep_elim (Finset.mem_univ cj)
  unfold Ctx; rw [← h]
  iintro ⟨H, -⟩
  iapply e; iexact H
theorem Ctx_lev : Ctx D ⊢ levs (F := F) := by
  unfold Ctx
  iintro ⟨-, H⟩; iexact H

theorem known_bar (c : Dev nD) : Ctx D ⊢ known D (barC c) := Ctx_at D (c, 64) rfl
theorem known_rsS (c k : Dev nD) : Ctx D ⊢ known D (rsS c k) :=
  Ctx_at D (c, ⟨k.val, by have : k.val < 16 := k.isLt; omega⟩) (Prod.ext rfl (csem_rsS k))
theorem known_rsR (c k : Dev nD) : Ctx D ⊢ known D (rsR c k) :=
  Ctx_at D (c, ⟨16 + k.val, by have : k.val < 16 := k.isLt; omega⟩) (Prod.ext rfl (csem_rsR k))
theorem known_agS (c k : Dev nD) : Ctx D ⊢ known D (agS c k) :=
  Ctx_at D (c, ⟨32 + k.val, by have : k.val < 16 := k.isLt; omega⟩) (Prod.ext rfl (csem_agS k))
theorem known_agR (c k : Dev nD) : Ctx D ⊢ known D (agR c k) :=
  Ctx_at D (c, ⟨48 + k.val, by have : k.val < 16 := k.isLt; omega⟩) (Prod.ext rfl (csem_agR k))

/-! ## State -/

/-- Device `c` owes all from the `n`-th on. -/
def owe (c : Dev nD) (n : ℕ) : sProp 𝕄 := iprop(∃ W, owes (c : Thread nD τ) (owed c n) W)
theorem owe_open (c : Dev nD) (n : ℕ) : owe (F := F) c n ⊢ iprop(∃ W, owes (c : Thread nD τ) (owed c n) W) := .rfl
theorem owe_close (c : Dev nD) (n : ℕ) {W : Waits sig ℕ} : owes (c : Thread nD τ) (owed c n) W ⊢ owe (F := F) c n := by
  unfold owe; iintro H; iexists W; iexact H
theorem known_inv (g : GSem nD τ sig) : known D g ⊢ iprop(∃ κ, cellInv ER (Rd D) κ g) := by
  unfold known; iintro ⟨H, -⟩; iexact H
/-- Round `n` of a cell is the next to be awaited. -/
def stands (g : GSem nD τ sig) (n : ℕ) : sProp 𝕄 := iprop(atPos ER g n ∅ 0 ∗ reached ER g n)

/-- Awaiting a round of a transfer semaphore. -/
theorem wp_take {sp sp' : Space} {s : Shape} {e : EltTy} {src : Memref sig .tc sp s e} {dst : Memref sig .tc sp' s e}
    {hs : src.view.WordExact} {hd : dst.view.WordExact} (c : Dev nD) (q : DmaSem sig) (n m N : ℕ) (Pay : sProp 𝕄)
    (hn : n < 3) (hN : dst.view.dmaCredit = N) (hexp : (Rd D).expect ((c : Thread nD τ), .dma q) n = N)
    (hrest : bigSep ((Rd D).duties ((c : Thread nD τ), .dma q) n \ ∅) (fun d => (Rd D).payload ((c : Thread nD τ), .dma q) n d) = Pay)
    (hlv : lv ((c : Thread nD τ), .dma q) n ≤ m / 16) (r : Text F α) (Q : α → sProp 𝕄) :
    iprop(known D ((c : Thread nD τ), .dma q) ∗ levs (F := F) ∗ cred (tallyAt ((c : Thread nD τ), .dma q) n N) ∗ owe (F := F) c m
        ∗ stands (F := F) ((c : Thread nD τ), .dma q) n
        ∗ ((owe (F := F) c m ∗ stands (F := F) ((c : Thread nD τ), .dma q) (n + 1) ∗ Pay) -∗ WP c r Q))
      ⊢ WP c (.op (.waitDma2 q src dst hs hd) fun _ => r) Q := by
  unfold known owe stands
  iintro ⟨⟨⟨%κ, #Hi⟩, -⟩, #Hl, Hc, ⟨%W, HO⟩, ⟨Hp, -⟩, Hk⟩
  iapply (Rounds.wp_wait_rest_token 𝒱₀ ER (Rd D) (c : Thread nD τ) none (κ := κ)
      (wpE_waitDma2_eq 𝒱₀ (c : Thread nD τ) none Set.univ) (Set.mem_univ _) n (O := owed c m) (W := W) (R := n) (m := 0) (T := ∅)
      (by rw [Nat.zero_add, hexp, hN])) $$ [Hc HO Hp]
  · isplitr; · iexact Hi
    isplitl [Hc]; · rw [hN]; iexact Hc
    isplitl [HO]; · iexact HO
    isplitr; · iapply (mayWait' c (.dma q) hn hlv); iexact Hl
    iexact Hp
  iintro ⟨HO, Hp, Hr, Hpay⟩
  ihave Hpay := (Entails.of_eq hrest) $$ Hpay
  iapply Hk
  isplitl [HO]; · iexists _; iexact HO
  isplitl [Hp Hr]
  · isplitl [Hp]; · iexact Hp
    iexact Hr
  iexact Hpay

/-- A loop over consecutive devices, one step at a time. -/
theorem wp_each {Rp : sProp 𝕄} [BI.Persistent Rp] (c : Dev nD) (f : Dev nD → Text F α → Text F α) (I : ℕ → sProp 𝕄) (A B : Dev nD → sProp 𝕄)
    (Q : α → sProp 𝕄)
    (hstep : ∀ k r, iprop(Rp ∗ I k.val ∗ A k ∗ ((I (k.val + 1) ∗ B k) -∗ WP c r Q)) ⊢ WP c (f k r) Q) (l : List (Dev nD)) :
    ∀ a : ℕ, l.map (fun k => k.val) = List.range' a l.length → ∀ r,
      iprop(Rp ∗ I a ∗ bigSep l.toFinset A ∗ ((I (a + l.length) ∗ bigSep l.toFinset B) -∗ WP c r Q)) ⊢ WP c (each l f r) Q := by
  induction l with
  | nil =>
    intro a _ r
    rw [List.toFinset_nil, bigSep_empty, bigSep_empty]
    show _ ⊢ WP c r Q
    iintro ⟨-, HI, -, Hk⟩
    iapply Hk
    isplitl [HI]; · iexact HI
    iempintro
  | cons k l ih =>
    intro a h r
    rw [List.map_cons, List.length_cons, List.range'_succ] at h
    obtain ⟨ha, ht⟩ := List.cons.inj h
    have hk : k ∉ l.toFinset := fun hm => by
      have hm : k.val ∈ l.map (fun k => k.val) := List.mem_map_of_mem (List.mem_toFinset.mp hm)
      rw [ht, List.mem_range'_1] at hm
      omega
    rw [List.toFinset_cons, star_insert hk, star_insert hk]
    show _ ⊢ WP c (f k (each l f r)) Q
    iintro ⟨#HR, HI, ⟨HA, HAs⟩, Hk⟩
    iapply (hstep k (each l f r))
    isplitr; · iexact HR
    rw [ha]
    isplitl [HI]; · iexact HI
    isplitl [HA]; · iexact HA
    iintro ⟨HI, HB⟩
    iapply (ih (a + 1) ht r)
    isplitr; · iexact HR
    isplitl [HI]; · iexact HI
    isplitl [HAs]; · iexact HAs
    iintro ⟨HI, HBs⟩
    iapply Hk
    isplitl [HI]; · rw [List.length_cons, show a + (l.length + 1) = a + 1 + l.length by omega]; iexact HI
    isplitl [HB]; · iexact HB
    iexact HBs

theorem all_range : all.map (fun k => k.val) = List.range' 0 all.length := by decide
theorem own_range (s : Fin 4) : (own s).map (fun k => k.val) = List.range' (4 * s.val) (own s).length := by revert s; decide
theorem own_length (s : Fin 4) : (own s).length = 4 := by revert s; decide
theorem all_univ : all.toFinset = Finset.univ := by decide

/-- The next `i`-th of what is owed falls due. -/
theorem owe_nothing (c : Dev nD) {n : ℕ} (h : n < 112) (h0 : term c n = 0) : owe (F := F) c n ⊢ owe (F := F) c (n + 1) := by
  unfold owe; rw [owed_step c h, h0, add_zero]

/-! ## The barrier -/

theorem signal_eq (k : Dev nD) (r : Text F α) : signal k r = .op (.semSignal (k, .tc) barS 1) fun _ => r := rfl
theorem awaitAll_eq (r : Text F α) : awaitAll r = .op (.semWait barS 16) fun _ => r := rfl

theorem wp_signal_one (c k : Dev nD) (r : Text F α) (Q : α → sProp 𝕄) :
    iprop(Ctx D ∗ owe (F := F) c k.val ∗ (dutyTok ER (barC k) 0 c ∗ slotAny (F := F) c k) ∗ ((owe (F := F) c (k.val + 1) ∗ emp) -∗ WP c r Q))
      ⊢ WP c (signal k r) Q := by
  have hk : k.val < 16 := k.isLt
  rw [signal_eq]
  iintro ⟨#HC, HO, ⟨Ht, Hs⟩, Hk⟩
  ihave H := (known_bar D k) $$ HC
  unfold known owe
  icases H with ⟨⟨%κ, #Hi⟩, #Hr⟩
  icases HO with ⟨%W, HO⟩
  iapply (Rounds.wp_signal 𝒱₀ ER (Rd D) (c : Thread nD τ) none (dst := (k : Thread nD τ)) (κ := κ)
      (d := c) (by rw [duties_bar]; exact Finset.mem_univ _) (amount_bar D k 0 c) 0 (O₀ := owed c k.val) (owed c (k.val + 1))
      (by rw [owed_step c (show k.val < 112 by omega), term_bar])) $$ [HO Ht Hs]
  · isplitr; · iexact Hi
    isplitl [HO]; · iexact HO
    isplitl [Ht]; · iexact Ht
    isplitl [Hs]; · rw [payload_bar]; iexact Hs
    iexact Hr
  iintro HO
  iapply Hk
  isplitl [HO]; · iexists W; iexact HO
  iempintro

theorem wp_awaitAll (c : Dev nD) {n : ℕ} (hn : 1 ≤ n / 16) (r : Text F α) (Q : α → sProp 𝕄) :
    iprop(Ctx D ∗ owe (F := F) c n ∗ atPos ER (barC c) 0 ∅ 0 ∗ cred (tallyAt (barC c) 0 16)
        ∗ ((owe (F := F) c n ∗ atPos ER (barC c) 1 ∅ 0 ∗ bigSep Finset.univ fun k => slotAny (F := F) k c) -∗ WP c r Q))
      ⊢ WP c (awaitAll r) Q := by
  rw [awaitAll_eq]
  iintro ⟨#HC, HO, Hp, Hc, Hk⟩
  ihave H := (known_bar D c) $$ HC
  ihave #Hl := (Ctx_lev D) $$ HC
  ihave H := (known_inv D (barC c)) $$ H
  icases H with ⟨%κ, #Hi⟩
  ihave HO := (owe_open c n) $$ HO
  icases HO with ⟨%W, HO⟩
  iapply (Rounds.wp_wait_rest_token 𝒱₀ ER (Rd D) (c : Thread nD τ) none (κ := κ)
      (wpE_semWait_eq 𝒱₀ (c : Thread nD τ) none Set.univ) (Set.mem_univ _) 0 (O := owed c n) (W := W) (R := 0) (m := 0) (T := ∅)
      ((Nat.zero_add 16).trans (expect_bar D c).symm)) $$ [Hc HO Hp]
  · isplitr; · iexact Hi
    isplitl [Hc]; · iexact Hc
    isplitl [HO]; · iexact HO
    isplitr; · iapply (mayWait' c (.reg barS) (u := 0) (n := n) (by decide) (by unfold lv; rw [if_pos kind_bar]; exact hn)); iexact Hl
    iexact Hp
  iintro ⟨HO, Hp, -, Hpay⟩
  ihave Hpay := (Entails.of_eq (rest_bar D c)) $$ Hpay
  iapply Hk
  isplitl [HO]; · iapply (owe_close c n); iexact HO
  isplitl [Hp]; · iexact Hp
  iexact Hpay

end Cert.Proof

end
-- ==== Proof.Peers.lean ====
/-
  What a device holds towards each peer as a layer goes by, and the operations' rules at it.
-/
module

public import proofs.«01_k».proof.Proof.Steps

@[expose] public section

noncomputable section

namespace Cert.Proof

open Cert.KernelIdeal Cert.KernelIdeal.Gen

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (D : Inputs F) {α : Type} (n : ℕ) (c k : Dev nD)

/-! ## Families -/

/-- The tokens and credits of the rounds from `n` on, between device `c` and another. -/
def toks : sProp 𝕄 := bigSep (Finset.Ico n 3) fun r => iprop(dutyTok ER (rsS c k) r (0 : Dev nD) ∗ dutyTok ER (rsR k c) r (0 : Dev nD)
  ∗ dutyTok ER (agS c k) r (0 : Dev nD) ∗ dutyTok ER (agR k c) r (0 : Dev nD) ∗ cred (tallyAt (rsR c k) r NB) ∗ cred (tallyAt (agR c k) r (agN r)))
/-- The tokens of the device's own slot. -/
def ownToks : sProp 𝕄 := bigSep (Finset.Ico n 3) fun r => dutyTok ER (rsR c c) r (0 : Dev nD)

theorem Ico_step {n : ℕ} (h : n < 3) : Finset.Ico n 3 = insert n (Finset.Ico (n + 1) 3) := by
  ext i; simp only [Finset.mem_insert, Finset.mem_Ico]; omega
omit [FloatOps F] in
theorem toks_step (h : n < 3) : toks (F := F) n c k = iprop((dutyTok ER (rsS c k) n (0 : Dev nD) ∗ dutyTok ER (rsR k c) n (0 : Dev nD)
    ∗ dutyTok ER (agS c k) n (0 : Dev nD) ∗ dutyTok ER (agR k c) n (0 : Dev nD) ∗ cred (tallyAt (rsR c k) n NB) ∗ cred (tallyAt (agR c k) n (agN n)))
    ∗ toks (F := F) (n + 1) c k) := by
  unfold toks; rw [Ico_step h, star_insert (by simp)]
omit [FloatOps F] in
theorem ownToks_step (h : n < 3) : ownToks (F := F) n c = iprop(dutyTok ER (rsR c c) n (0 : Dev nD) ∗ ownToks (F := F) (n + 1) c) := by
  unfold ownToks; rw [Ico_step h, star_insert (by simp)]

/-- The device's unused cells for itself. -/
def idle : sProp 𝕄 := iprop(stands (F := F) (rsS c c) 0 ∗ stands (F := F) (agS c c) 0 ∗ stands (F := F) (agR c c) 0)

/-- The gathered rows at the start of layer `n`. -/
def gRow : sProp 𝕄 := match n with
  | 0 => rowAny (F := F) gM c k
  | n + 1 => rowPts (F := F) gM c k fullShare (D.G n)
/-- What layer `n` does not write of a pair of rows. -/
def left : sProp 𝕄 := if n = 2 then gRow D n c k else rowAny (F := F) yM c k

theorem gRow_any : gRow D n c k ⊢ rowAny (F := F) gM c k := by
  cases n with
  | zero => exact .rfl
  | succ n => unfold gRow rowAny; iintro H; iexists _; iexact H
theorem rows_dst : iprop(gRow D n c k ∗ rowAny (F := F) yM c k) ⊢ iprop(dstAny (F := F) n c k ∗ left D n c k) := by
  unfold dstAny left
  by_cases h : n = 2
  · rw [if_pos h, if_pos h]; iintro ⟨H, H'⟩; isplitl [H'] <;> iassumption
  · rw [if_neg h, if_neg h]
    iintro ⟨H, H'⟩
    isplitl [H]; · iapply (gRow_any D n c k); iexact H
    iexact H'

/-- What goes unused until the rows are sent. -/
def mid : sProp 𝕄 := iprop(dutyTok ER (agS c k) n (0 : Dev nD) ∗ dutyTok ER (agR k c) n (0 : Dev nD) ∗ cred (tallyAt (agR c k) n (agN n))
  ∗ toks (F := F) (n + 1) c k ∗ cred (tallyAt (rsS c k) n NB) ∗ stands (F := F) (rsS c k) n ∗ stands (F := F) (agS c k) n ∗ stands (F := F) (agR c k) n)

/-- Before a stage, apart from the rows of the partial product. -/
def S1r : sProp 𝕄 := iprop(gRow D n c k ∗ rowAny (F := F) yM c k
  ∗ if k = c then iprop(ownToks (F := F) n c ∗ stands (F := F) (rsR c c) n ∗ slotAny (F := F) c c ∗ idle (F := F) c)
    else iprop(toks (F := F) n c k ∗ stands (F := F) (rsS c k) n ∗ stands (F := F) (rsR c k) n ∗ stands (F := F) (agS c k) n ∗ stands (F := F) (agR c k) n
      ∗ slotAny (F := F) k c ∗ reached ER (rsR k c) n))
/-- A slot's arrival awaited. -/
def S2w : sProp 𝕄 := iprop(cred (tallyAt (rsR c k) n NB) ∗ stands (F := F) (rsR c k) n ∗ left D n c k
  ∗ if k = c then iprop(dstAny (F := F) n c c ∗ ownToks (F := F) (n + 1) c ∗ idle (F := F) c) else mid (F := F) n c k)
/-- The same, the device's own rows not yet copied. -/
def ownS2 : sProp 𝕄 := iprop(rowPts (F := F) pM c c fullShare (D.P n c) ∗ left D n c c ∗ dstAny (F := F) n c c ∗ ownToks (F := F) n c
  ∗ stands (F := F) (rsR c c) n ∗ slotAny (F := F) c c ∗ idle (F := F) c)
def S2 : sProp 𝕄 := if k = c then ownS2 D n c else S2w D n c k
/-- A slot arrived; the rest. -/
def S3r : sProp 𝕄 := iprop(stands (F := F) (rsR c k) (n + 1) ∗ left D n c k
  ∗ if k = c then iprop(rowPts (F := F) pM c c fullShare (D.P n c) ∗ ownToks (F := F) (n + 1) c ∗ idle (F := F) c)
    else iprop(dstAny (F := F) n k c ∗ reached ER (agR k c) n ∗ mid (F := F) n c k))
def S3 : sProp 𝕄 := iprop(slotPts (F := F) c k (D.Y n c) ∗ (if k = c then dstAny (F := F) n c c else iprop(emp)) ∗ S3r D n c k)

/-- The two transfers to a peer awaited; done. -/
def W4 : sProp 𝕄 := if k = c then iprop(dst D n c c (lent c) ∗ rowAny (F := F) pM c c)
  else iprop(cred (tallyAt (agS c k) n (agN n)) ∗ cred (tallyAt (rsS c k) n NB) ∗ stands (F := F) (rsS c k) n ∗ stands (F := F) (agS c k) n)
def W5 : sProp 𝕄 := iprop(dst D n c c (lent k) ∗ rowAny (F := F) pM c k
  ∗ if k = c then iprop(emp) else iprop(stands (F := F) (rsS c k) (n + 1) ∗ stands (F := F) (agS c k) (n + 1)))
/-- A peer's rows awaited; arrived. -/
def V4 : sProp 𝕄 := if k = c then iprop(emp) else iprop(cred (tallyAt (agR c k) n (agN n)) ∗ stands (F := F) (agR c k) n)
def V5 : sProp 𝕄 := if k = c then iprop(emp) else iprop(agPay D n c k ∗ stands (F := F) (agR c k) (n + 1))
/-- The rest. -/
def H4 : sProp 𝕄 := iprop(stands (F := F) (rsR c k) (n + 1) ∗ left D n c k
  ∗ if k = c then iprop(slotAny (F := F) c c ∗ ownToks (F := F) (n + 1) c ∗ idle (F := F) c)
    else iprop((if n = 2 then slotAny (F := F) c k else iprop(emp)) ∗ toks (F := F) (n + 1) c k))

/-! ## The slots -/

section Rs

variable (hn : n < 3) (r : Text F α) (Q : α → sProp (MT nD τ sig ℕ (Elt F) ℕ UU ℕ))

theorem slotPts_any (f : Buf (Elt F) (sM.view.loc (c : Thread nD τ))) : slotPts (F := F) c k f ⊢ slotAny (F := F) c k := by
  unfold slotAny; iintro H; iexists f; iexact H
theorem rowPts_any {e : EltTy} (M : Memref sig .tc .vmem S512x256 e) (f : Buf (Elt F) (M.view.loc (c : Thread nD τ))) :
    rowPts (F := F) M c k fullShare f ⊢ rowAny (F := F) M c k := by
  unfold rowAny; iintro H; iexists f; iexact H

include hn in
theorem wp_rsSend (hk : k ≠ c) {dst : Memref sig .tc .vmem S32x256 .bf16} {sem : DmaSem sig} (hdst : dst = slotAt c) (hsem : sem = semAt cc0_scratch4 c)
    {hsc} {h1 h2 h3} :
    iprop(known D (rsS c k) ∗ known D (rsR k c) ∗ rowPts (F := F) pM c k fullShare (D.P n c) ∗ slotAny (F := F) k c
        ∗ dstAny (F := F) n c k ∗ reached ER (agR c k) n ∗ owe (F := F) c (16 * (2 * n + 1) + k.val)
        ∗ dutyTok ER (rsS c k) n (0 : Dev nD) ∗ reached ER (rsS c k) n ∗ dutyTok ER (rsR k c) n (0 : Dev nD) ∗ reached ER (rsR k c) n
        ∗ ((cred (tallyAt (rsS c k) n NB) ∗ owe (F := F) c (16 * (2 * n + 1) + k.val + 1)) -∗ WP c r Q))
      ⊢ WP c (.op (.enqueueDma (rowsAt pM k) (.remote (Dev.tc k) dst (.dma (semAt cc0_scratch3 k)) hsc) (.dma sem) h1 h2 h3) fun _ => r) Q := by
  subst hdst hsem
  have hlt : k.val < 16 := k.isLt
  unfold known owe slotAny
  iintro ⟨⟨⟨%κ₁, #Hi₁⟩, -⟩, ⟨⟨%κ₂, #Hi₂⟩, -⟩, Hp, ⟨%fd, Hs⟩, Hd, #Hra, ⟨%W, HO⟩, Ht₁, #Hr₁, Ht₂, #Hr₂, Hk⟩
  iapply (Rounds.wp_send_pointsTo_with 𝒱₀ ER (Rd D) (c : Thread nD τ) none (c' := (k : Thread nD τ)) (src := rowsAt pM k) (dst := slotAt c)
    (κ₁ := κ₁) (κ₂ := κ₂) (q := fullShare) (fs := D.P n c) (fd := fd)
    (F := iprop(dstAny (F := F) n c k ∗ reached ER (agR c k) n))
    (r₁ := n) (r₂ := n) (d₁ := (0 : Dev nD)) (d₂ := (0 : Dev nD))
    (by rw [duties_rsS D c k n hn hk]; exact Finset.mem_singleton_self _) (by rw [duties_rsR D k c n hn]; exact Finset.mem_singleton_self _)
    n n NB rfl (amount_rsS D c k n 0) (amount_rsR D k c n 0) (O₀ := owed c (16 * (2 * n + 1) + k.val)) (owed c (16 * (2 * n + 1) + k.val + 1))
    (by rw [owed_step c (show 16 * (2 * n + 1) + k.val < 112 by omega), term_rs c k hk n]) (W := W)
    (by rw [payload_rsS]; exact .rfl)
    (by rw [payload_rsR]; unfold rsPay; rw [if_neg (Ne.symm hk)]; exact sep_mono_left (Entails.of_eq (landed_slot D n k c fd)))) $$ [Hp Hs Hd HO Ht₁ Ht₂]
  · isplitr; · iexact Hi₁
    isplitr; · iexact Hi₂
    isplitl [Hp]; · unfold rowPts; iexact Hp
    isplitl [Hs Hd]
    · isplitl [Hs]; · unfold slotPts; iexact Hs
      isplitl [Hd]; · iexact Hd
      iexact Hra
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

include hn in
theorem wp_rsStart_one :
    iprop(Ctx D ∗ owe (F := F) c (16 * (2 * n + 1) + k.val) ∗ (rowPts (F := F) pM c k fullShare (D.P n c) ∗ S1r D n c k)
        ∗ ((owe (F := F) c (16 * (2 * n + 1) + (k.val + 1)) ∗ S2 D n c k) -∗ WP c r Q))
      ⊢ WP c (rsStart c k r) Q := by
  have hlt : k.val < 16 := k.isLt
  unfold rsStart S1r S2
  by_cases hk : k = c
  · subst hk
    rw [dif_neg (fun h => (ne_iff k k).mp h rfl), if_pos rfl, if_pos rfl]
    unfold ownS2
    iintro ⟨-, HO, ⟨Hp, Hg, Hy, Ht, Hst, Hs, Hi⟩, Hk⟩
    iapply Hk
    isplitl [HO]; · iapply (owe_nothing k (n := 16 * (2 * n + 1) + k.val) (by omega) (term_self k (by omega))); iexact HO
    ihave H := (rows_dst D n k k) $$ [Hg Hy]
    · isplitl [Hg] <;> iassumption
    icases H with ⟨Hd, Hl⟩
    isplitl [Hp]; · iexact Hp
    isplitl [Hl]; · iexact Hl
    isplitl [Hd]; · iexact Hd
    isplitl [Ht]; · iexact Ht
    isplitl [Hst]; · iexact Hst
    isplitl [Hs] <;> iassumption
  · rw [dif_pos ((ne_iff c k).mpr hk), if_neg hk, if_neg hk, toks_step n c k hn]
    unfold S2w stands
    rw [if_neg hk]
    unfold mid stands
    iintro ⟨#HC, HO, ⟨Hp, Hg, Hy, ⟨⟨Ht₁, Ht₂, Ht₃, Ht₄, Hc₁, Hc₂⟩, Ht⟩, ⟨Hp₁, #Hr₁⟩, ⟨Hp₂, #Hr₂⟩, ⟨Hp₃, #Hr₃⟩, ⟨Hp₄, #Hr₄⟩, Hs, #Hr⟩, Hk⟩
    ihave H := (rows_dst D n c k) $$ [Hg Hy]
    · isplitl [Hg] <;> iassumption
    icases H with ⟨Hd, Hl⟩
    iapply (wp_rsSend D n c k hn r Q hk (slotAtD_eq c) (semAtD_eq cc0_scratch4 c))
    isplitr; · iapply (known_rsS D c k); iexact HC
    isplitr; · iapply (known_rsR D k c); iexact HC
    isplitl [Hp]; · iexact Hp
    isplitl [Hs]; · iexact Hs
    isplitl [Hd]; · iexact Hd
    isplitr; · iexact Hr₄
    isplitl [HO]; · iexact HO
    isplitl [Ht₁]; · iexact Ht₁
    isplitr; · iexact Hr₁
    isplitl [Ht₂]; · iexact Ht₂
    isplitr; · iexact Hr
    iintro ⟨Hc, HO⟩
    iapply Hk
    isplitl [HO]; · iexact HO
    isplitl [Hc₁]; · iexact Hc₁
    isplitl [Hp₂]
    · isplitl [Hp₂]; · iexact Hp₂
      iexact Hr₂
    isplitl [Hl]; · iexact Hl
    isplitl [Ht₃]; · iexact Ht₃
    isplitl [Ht₄]; · iexact Ht₄
    isplitl [Hc₂]; · iexact Hc₂
    isplitl [Ht]; · iexact Ht
    isplitl [Hc]; · iexact Hc
    isplitl [Hp₁]
    · isplitl [Hp₁]; · iexact Hp₁
      iexact Hr₁
    isplitl [Hp₃]
    · isplitl [Hp₃]; · iexact Hp₃
      iexact Hr₃
    isplitl [Hp₄]; · iexact Hp₄
    iexact Hr₄

include hn in
theorem wp_rsCopy {src dst : Memref sig .tc .vmem S32x256 .bf16} {sem : DmaSem sig} (hsrc : src = rowsAt pM c) (hdst : dst = slotAt c)
    (hsem : sem = semAt cc0_scratch4 c) {h1 h2 h3} :
    iprop(known D (rsR c c) ∗ rowPts (F := F) pM c c fullShare (D.P n c) ∗ slotAny (F := F) c c
        ∗ dutyTok ER (rsR c c) n (0 : Dev nD) ∗ reached ER (rsR c c) n ∗ (cred (tallyAt (rsR c c) n NB) -∗ WP c r Q))
      ⊢ WP c (.op (.enqueueDma src (.here dst) (.dma sem) h1 h2 h3) fun _ => r) Q := by
  subst hsrc hdst hsem
  unfold known slotAny
  iintro ⟨⟨⟨%κ, #Hi⟩, -⟩, Hp, ⟨%fd, Hs⟩, Ht, #Hr, Hk⟩
  iapply (Rounds.wp_copy_pointsTo 𝒱₀ ER (Rd D) (c : Thread nD τ) none (src := rowsAt pM c) (dst := slotAt c) (κ := κ) (q := fullShare)
    (fs := D.P n c) (fd := fd) (r := n) (d := (0 : Dev nD))
    (by rw [duties_rsR D c c n hn]; exact Finset.mem_singleton_self _) n NB rfl (amount_rsR D c c n 0)
    (by
      rw [payload_rsR]; unfold rsPay; rw [if_pos rfl]
      iintro ⟨H, H'⟩
      isplitl [H]
      · iapply (Entails.of_eq (landed_slot D n c c fd)); iexact H
      · unfold rowPts; iexact H')) $$ [Hp Hs Ht]
  · isplitr; · iexact Hi
    isplitl [Hp]; · unfold rowPts; iexact Hp
    isplitl [Hs]; · unfold slotPts; iexact Hs
    isplitl [Ht]; · iexact Ht
    iexact Hr
  iintro Hc
  iapply Hk; iexact Hc

include hn in
theorem wp_rsOwn_one : iprop(Ctx D ∗ S2 D n c c ∗ (S2w D n c c -∗ WP c r Q)) ⊢ WP c (rsOwn c r) Q := by
  unfold rsOwn S2; rw [if_pos rfl]; unfold S2w ownS2 stands; rw [if_pos rfl, ownToks_step n c hn]
  iintro ⟨#HC, ⟨Hp, Hl, Hd, ⟨Ht, Hts⟩, ⟨Hst, #Hr⟩, Hs, Hi⟩, Hk⟩
  iapply (wp_rsCopy D n c hn r Q (rowsAtD_eq pM c) (slotAtD_eq c) (semAtD_eq cc0_scratch4 c))
  isplitr; · iapply (known_rsR D c c); iexact HC
  isplitl [Hp]; · iexact Hp
  isplitl [Hs]; · iexact Hs
  isplitl [Ht]; · iexact Ht
  isplitr; · iexact Hr
  iintro Hc
  iapply Hk
  isplitl [Hc]; · iexact Hc
  isplitl [Hst]
  · isplitl [Hst]; · iexact Hst
    iexact Hr
  isplitl [Hl]; · iexact Hl
  isplitl [Hd]; · iexact Hd
  isplitl [Hts] <;> iassumption

include hn in
theorem wp_rsWait_one {m : ℕ} (hm : 2 + 2 * n ≤ m / 16) :
    iprop(Ctx D ∗ owe (F := F) c m ∗ S2w D n c k ∗ ((owe (F := F) c m ∗ S3 D n c k) -∗ WP c r Q)) ⊢ WP c (rsWait k r) Q := by
  unfold rsWait S2w
  iintro ⟨#HC, HO, ⟨Hc, Hst, Hl, Hx⟩, Hk⟩
  iapply (wp_take D (src := rowsAt pM 0) (dst := slotAt k) c (semAt cc0_scratch4 k) n m NB (rsPay D n c k) hn rfl (expect_rsR D c k n hn) (rest_rsR D c k n hn)
    (by unfold lv; rw [kind_rsR, if_neg (by decide), if_pos rfl]; exact hm) r Q)
  isplitr; · iapply (known_rsR D c k); iexact HC
  isplitr; · iapply (Ctx_lev D); iexact HC
  isplitl [Hc]; · iexact Hc
  isplitl [HO]; · iexact HO
  isplitl [Hst]; · iexact Hst
  iintro ⟨HO, Hst, Hpay⟩
  iapply Hk
  isplitl [HO]; · iexact HO
  unfold rsPay S3 S3r
  icases Hpay with ⟨Hs, Hpay⟩
  isplitl [Hs]; · iexact Hs
  by_cases hk : k = c
  · subst hk
    simp only [if_pos]
    icases Hx with ⟨Hd, Hx⟩
    isplitl [Hd]; · iexact Hd
    isplitl [Hst]; · iexact Hst
    isplitl [Hl]; · iexact Hl
    isplitl [Hpay] <;> iassumption
  · simp only [if_neg hk]
    icases Hpay with ⟨Hd, Hr⟩
    isplitr; · iempintro
    isplitl [Hst]; · iexact Hst
    isplitl [Hl]; · iexact Hl
    isplitl [Hd]; · iexact Hd
    isplitl [Hr] <;> iassumption

end Rs

/-! ## The gathered rows -/

section Ag

variable (hn : n < 3) {e : EltTy} (M : Memref sig .tc .vmem S512x256 e) (hM : ∀ d, (rowsAtD M d).view.WordExact)
  (hMk : ∀ d, (rowsAt M d).view.WordExact) (hl : M.view.ref.isScScratch = false)
  (Z : Buf (Elt F) (M.view.loc ((0 : Dev nD) : Thread nD τ))) (hdst : ∀ (c k : Dev nD) (q : PosShare TreeShare), dst D n c k q = rowPts (F := F) M c k q Z)
  (hany : ∀ c k : Dev nD, dstAny (F := F) n c k = rowAny (F := F) M c k) (hcr : ∀ k, (rowsAt M k).view.dmaCredit = agN n)
  (r : Text F α) (Q : α → sProp (MT nD τ sig ℕ (Elt F) ℕ UU ℕ))

include hn hdst hany hcr in
theorem wp_agSend (hk : k ≠ c) {src dst' : Memref sig .tc .vmem S32x256 e} {sem : DmaSem sig} (hsrc : src = rowsAt M c) (hd : dst' = rowsAt M c)
    (hsem : sem = semAt cc0_scratch6 c) {hsc} {h1 h2 h3} :
    iprop(known D (agS c k) ∗ known D (agR k c) ∗ dst D n c c (lent k) ∗ dstAny (F := F) n k c
        ∗ slotBack (F := F) n c k ∗ owe (F := F) c (16 * (2 * n + 2) + k.val)
        ∗ dutyTok ER (agS c k) n (0 : Dev nD) ∗ reached ER (agS c k) n ∗ dutyTok ER (agR k c) n (0 : Dev nD) ∗ reached ER (agR k c) n
        ∗ ((cred (tallyAt (agS c k) n (agN n)) ∗ owe (F := F) c (16 * (2 * n + 2) + k.val + 1)) -∗ WP c r Q))
      ⊢ WP c (.op (.enqueueDma src (.remote (Dev.tc k) dst' (.dma (semAt cc0_scratch5 k)) hsc) (.dma sem) h1 h2 h3) fun _ => r) Q := by
  subst hsrc hd hsem
  have hlt : k.val < 16 := k.isLt
  rw [hdst, hany]
  unfold known owe rowAny
  iintro ⟨⟨⟨%κ₁, #Hi₁⟩, -⟩, ⟨⟨%κ₂, #Hi₂⟩, -⟩, Hp, ⟨%fd, Hs⟩, Hd, ⟨%W, HO⟩, Ht₁, #Hr₁, Ht₂, #Hr₂, Hk⟩
  iapply (Rounds.wp_send_pointsTo_with 𝒱₀ ER (Rd D) (c : Thread nD τ) none (c' := (k : Thread nD τ)) (src := rowsAt M c) (dst := rowsAt M c)
    (κ₁ := κ₁) (κ₂ := κ₂) (q := lent k) (fs := Z) (fd := fd)
    (F := slotBack (F := F) n c k)
    (r₁ := n) (r₂ := n) (d₁ := (0 : Dev nD)) (d₂ := (0 : Dev nD))
    (by rw [duties_agS D c k n hn hk]; exact Finset.mem_singleton_self _) (by rw [duties_agR D k c n hn (Ne.symm hk)]; exact Finset.mem_singleton_self _)
    n n (agN n) (by rw [View.amount_dma]; exact hcr c) (amount_agS D c k n 0) (amount_agR D k c n 0) (O₀ := owed c (16 * (2 * n + 2) + k.val)) (owed c (16 * (2 * n + 2) + k.val + 1))
    (by rw [owed_step c (show 16 * (2 * n + 2) + k.val < 112 by omega), term_ag c k hk n]) (W := W)
    (by rw [payload_agS, hdst]; exact .rfl)
    (by rw [payload_agR]; unfold agPay; rw [hdst]; exact sep_mono_left (Entails.of_eq (landed_rows M k c fd Z)))) $$ [Hp Hs Hd HO Ht₁ Ht₂]
  · isplitr; · iexact Hi₁
    isplitr; · iexact Hi₂
    isplitl [Hp]; · unfold rowPts; iexact Hp
    isplitl [Hs Hd]
    · isplitl [Hs]; · unfold rowPts; iexact Hs
      iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

include hn hdst hany hcr in
theorem wp_agStart_one :
    iprop(Ctx D ∗ owe (F := F) c (16 * (2 * n + 2) + k.val) ∗ (slotPts (F := F) c k (D.Y n c) ∗ dst D n c c (lent k) ∗ S3r D n c k)
        ∗ ((owe (F := F) c (16 * (2 * n + 2) + (k.val + 1)) ∗ (W4 D n c k ∗ V4 (F := F) n c k ∗ H4 D n c k)) -∗ WP c r Q))
      ⊢ WP c (agStart M hM hl c k r) Q := by
  have hlt : k.val < 16 := k.isLt
  unfold agStart S3r W4 V4 H4
  by_cases hk : k = c
  · subst hk
    rw [dif_neg (fun h => (ne_iff k k).mp h rfl)]
    simp only [if_pos]
    iintro ⟨-, HO, ⟨Hs, Hd, Hst, Hl, Hp, Ht, Hi⟩, Hk⟩
    iapply Hk
    isplitl [HO]; · iapply (owe_nothing k (n := 16 * (2 * n + 2) + k.val) (by omega) (term_self k (by omega))); iexact HO
    isplitl [Hd Hp]
    · isplitl [Hd]; · iexact Hd
      iapply (rowPts_any k k pM _); iexact Hp
    isplitr; · iempintro
    isplitl [Hst]; · iexact Hst
    isplitl [Hl]; · iexact Hl
    isplitl [Hs]; · iapply (slotPts_any k k _); iexact Hs
    isplitl [Ht] <;> iassumption
  · rw [dif_pos ((ne_iff c k).mpr hk)]
    simp only [if_neg hk]
    unfold mid stands
    iintro ⟨#HC, HO, ⟨Hs, Hd, ⟨Hst, #Hr⟩, Hl, Ha, #Hra, Ht₃, Ht₄, Hc₂, Ht, Hc, ⟨Hp₁, #Hr₁⟩, ⟨Hp₃, #Hr₃⟩, ⟨Hp₄, #Hr₄⟩⟩, Hk⟩
    have hsplit : iprop(slotPts (F := F) c k (D.Y n c) ∗ reached ER (rsR c k) (n + 1))
        ⊢ iprop(slotBack (F := F) n c k ∗ if n = 2 then slotAny (F := F) c k else iprop(emp)) := by
      unfold slotBack
      by_cases h2 : n = 2
      · rw [if_pos h2, if_pos h2]
        iintro ⟨H, -⟩
        isplitr; · iempintro
        iapply (slotPts_any c k _); iexact H
      · rw [if_neg h2, if_neg h2]
        iintro ⟨H, H'⟩
        isplitl
        · isplitl [H]; · iapply (slotPts_any c k _); iexact H
          iexact H'
        · iempintro
    ihave Hs := hsplit $$ [Hs]
    · isplitl [Hs]; · iexact Hs
      iexact Hr
    icases Hs with ⟨Hb, Hs⟩
    iapply (wp_agSend D n c k hn M Z hdst hany hcr r Q hk (rowsAtD_eq M c) (rowsAtD_eq M c) (semAtD_eq cc0_scratch6 c))
    isplitr; · iapply (known_agS D c k); iexact HC
    isplitr; · iapply (known_agR D k c); iexact HC
    isplitl [Hd]; · iexact Hd
    isplitl [Ha]; · iexact Ha
    isplitl [Hb]; · iexact Hb
    isplitl [HO]; · iexact HO
    isplitl [Ht₃]; · iexact Ht₃
    isplitr; · iexact Hr₃
    isplitl [Ht₄]; · iexact Ht₄
    isplitr; · iexact Hra
    iintro ⟨Hc', HO⟩
    iapply Hk
    isplitl [HO]; · iexact HO
    isplitl [Hc' Hc Hp₁ Hp₃]
    · isplitl [Hc']; · iexact Hc'
      isplitl [Hc]; · iexact Hc
      isplitl [Hp₁]
      · isplitl [Hp₁]; · iexact Hp₁
        iexact Hr₁
      isplitl [Hp₃]; · iexact Hp₃
      iexact Hr₃
    isplitl [Hc₂ Hp₄]
    · isplitl [Hc₂]; · iexact Hc₂
      isplitl [Hp₄]; · iexact Hp₄
      iexact Hr₄
    isplitl [Hst]
    · isplitl [Hst]; · iexact Hst
      iexact Hr
    isplitl [Hl]; · iexact Hl
    isplitl [Hs]; · iexact Hs
    iexact Ht

include hn hcr in
theorem wp_agWait_one {m : ℕ} (hm : 3 + 2 * n ≤ m / 16) :
    iprop(Ctx D ∗ owe (F := F) c m ∗ V4 (F := F) n c k ∗ ((owe (F := F) c m ∗ V5 D n c k) -∗ WP c r Q)) ⊢ WP c (agWait M hMk (word c) k r) Q := by
  unfold agWait V4 V5
  by_cases hk : k = c
  · subst hk
    rw [dif_neg (fun h => (ne_iff k k).mp h rfl)]
    simp only [if_pos]
    iintro ⟨-, HO, -, Hk⟩
    iapply Hk
    isplitl [HO]; · iexact HO
    iempintro
  · rw [dif_pos ((ne_iff c k).mpr hk)]
    simp only [if_neg hk]
    iintro ⟨#HC, HO, ⟨Hc, Hst⟩, Hk⟩
    iapply (wp_take D c (semAt cc0_scratch6 k) n m (agN n) (agPay D n c k) hn (hcr k) (expect_agR D c k n hn hk) (rest_agR D c k n hn hk)
      (by unfold lv; rw [kind_agR, if_neg (by decide), if_neg (by decide), if_pos rfl]; exact hm) r Q)
    isplitr; · iapply (known_agR D c k); iexact HC
    isplitr; · iapply (Ctx_lev D); iexact HC
    isplitl [Hc]; · iexact Hc
    isplitl [HO]; · iexact HO
    isplitl [Hst]; · iexact Hst
    iintro ⟨HO, Hst, Hpay⟩
    iapply Hk
    isplitl [HO]; · iexact HO
    isplitl [Hpay] <;> iassumption

theorem lv_rsS (c k : Dev nD) (n m : ℕ) : lv (rsS c k) n ≤ m := by
  unfold lv; rw [kind_rsS, if_neg (by decide), if_neg (by decide), if_neg (by decide)]; exact Nat.zero_le _
theorem lv_agS (c k : Dev nD) (n m : ℕ) : lv (agS c k) n ≤ m := by
  unfold lv; rw [kind_agS, if_neg (by decide), if_neg (by decide), if_neg (by decide)]; exact Nat.zero_le _

include hn hcr in
theorem wp_sendWait_one {m : ℕ} :
    iprop(Ctx D ∗ owe (F := F) c m ∗ W4 D n c k ∗ ((owe (F := F) c m ∗ W5 D n c k) -∗ WP c r Q)) ⊢ WP c (sendWait M hM c k r) Q := by
  unfold sendWait W4 W5
  by_cases hk : k = c
  · subst hk
    rw [dif_neg (fun h => (ne_iff k k).mp h rfl)]
    simp only [if_pos]
    iintro ⟨-, HO, ⟨Hd, Hp⟩, Hk⟩
    iapply Hk
    isplitl [HO]; · iexact HO
    isplitl [Hd]; · iexact Hd
    isplitl [Hp]; · iexact Hp
    iempintro
  · rw [dif_pos ((ne_iff c k).mpr hk)]
    simp only [if_neg hk]
    iintro ⟨#HC, HO, ⟨Hc, Hc', Hst, Hst'⟩, Hk⟩
    iapply (wp_take D (src := slotAt k) (dst := rowsAt pM 0) c (semAt cc0_scratch3 k) n m NB (rowPts (F := F) pM c k fullShare (D.P n c)) hn rfl (expect_rsS D c k n hn hk) (rest_rsS D c k n hn hk)
      (lv_rsS c k n _) _ Q)
    isplitr; · iapply (known_rsS D c k); iexact HC
    isplitr; · iapply (Ctx_lev D); iexact HC
    isplitl [Hc']; · iexact Hc'
    isplitl [HO]; · iexact HO
    isplitl [Hst]; · iexact Hst
    iintro ⟨HO, Hst, Hp⟩
    iapply (wp_take D c (semAt cc0_scratch5 k) n m (agN n) (dst D n c c (lent k)) hn (by rw [rowsAtD_eq]; exact hcr c) (expect_agS D c k n hn hk)
      (rest_agS D c k n hn hk) (lv_agS c k n _) r Q)
    isplitr; · iapply (known_agS D c k); iexact HC
    isplitr; · iapply (Ctx_lev D); iexact HC
    isplitl [Hc]; · iexact Hc
    isplitl [HO]; · iexact HO
    isplitl [Hst']; · iexact Hst'
    iintro ⟨HO, Hst', Hd⟩
    iapply Hk
    isplitl [HO]; · iexact HO
    isplitl [Hd]; · iexact Hd
    isplitl [Hp]; · iapply (rowPts_any c k pM _); iexact Hp
    isplitl [Hst] <;> iassumption

end Ag

end Cert.Proof

end
-- ==== Proof.Layer.lean ====
/-
  One layer of the body, from what is held before it to what is held after.
-/
module

public import proofs.«01_k».proof.Proof.Peers

@[expose] public section

noncomputable section

namespace Cert.Proof

open Cert.KernelIdeal Cert.KernelIdeal.Gen

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

/-! ## Families -/

theorem star_mono {N : Type*} [URA N] {I : Type} {s : Finset I} {Φ Ψ : I → sProp N} (h : ∀ i, Φ i ⊢ Ψ i) : bigSep s Φ ⊢ bigSep s Ψ :=
  bigSep_mono fun i _ => h i
theorem star_sep {N : Type*} [URA N] {I : Type} {s : Finset I} (Φ Ψ : I → sProp N) :
    bigSep s (fun i => iprop(Φ i ∗ Ψ i)) = iprop(bigSep s Φ ∗ bigSep s Ψ) := bigSep_sep' s Φ Ψ
/-- A family with one member. -/
theorem star_only {N : Type*} [URA N] (c : Dev nD) (Φ : sProp N) :
    bigSep Finset.univ (fun k : Dev nD => if k = c then Φ else iprop(emp)) = Φ := by
  have he : bigSep (Finset.univ.erase c) (fun k : Dev nD => if k = c then Φ else iprop(emp)) = iprop(emp) :=
    (bigSep_congr fun k hk => if_neg (Finset.ne_of_mem_erase hk)).trans (bigSep_emp_const _)
  rw [star_take (Finset.mem_univ c), he, if_pos rfl]
  exact equiv_iff.mp BI.sep_emp
/-- A family in four. -/
theorem star_own {N : Type*} [URA N] (Φ : Dev nD → sProp N) :
    bigSep Finset.univ Φ = iprop(bigSep (own 0).toFinset Φ ∗ bigSep (own 1).toFinset Φ ∗ bigSep (own 2).toFinset Φ ∗ bigSep (own 3).toFinset Φ) := by
  rw [show (Finset.univ : Finset (Dev nD)) = (own 0).toFinset ∪ ((own 1).toFinset ∪ ((own 2).toFinset ∪ (own 3).toFinset)) by decide,
    star_union (by decide), star_union (by decide), star_union (by decide)]

section Text

variable {α : Type} (Q : α → sProp (MT nD τ sig ℕ (Elt F) ℕ UU ℕ)) (c : Dev nD)

/-- A loop over all the devices. -/
theorem wp_all {Rp : sProp 𝕄} [BI.Persistent Rp] (f : Dev nD → Text F α → Text F α) (I : ℕ → sProp 𝕄) (A B : Dev nD → sProp 𝕄)
    (hstep : ∀ k r, iprop(Rp ∗ I k.val ∗ A k ∗ ((I (k.val + 1) ∗ B k) -∗ WP c r Q)) ⊢ WP c (f k r) Q) (r : Text F α) :
    iprop(Rp ∗ I 0 ∗ bigSep Finset.univ A ∗ ((I 16 ∗ bigSep Finset.univ B) -∗ WP c r Q)) ⊢ WP c (each all f r) Q := by
  have h := wp_each c f I A B Q hstep all 0 all_range r
  rw [all_univ] at h
  exact h
theorem wp_own {Rp : sProp 𝕄} [BI.Persistent Rp] (s : Fin 4) (f : Dev nD → Text F α → Text F α) (I : ℕ → sProp 𝕄) (A B : Dev nD → sProp 𝕄)
    (hstep : ∀ k r, iprop(Rp ∗ I k.val ∗ A k ∗ ((I (k.val + 1) ∗ B k) -∗ WP c r Q)) ⊢ WP c (f k r) Q) (r : Text F α) :
    iprop(Rp ∗ I (4 * s.val) ∗ bigSep (own s).toFinset A ∗ ((I (4 * s.val + 4) ∗ bigSep (own s).toFinset B) -∗ WP c r Q)) ⊢ WP c (each (own s) f r) Q := by
  have h := wp_each c f I A B Q hstep (own s) (4 * s.val) (own_range s) r
  rw [own_length] at h
  exact h
/-- Four steps, one for each stage. -/
theorem wp_four {Rp : sProp 𝕄} [BI.Persistent Rp] (f : Fin 4 → Text F α → Text F α) (I : ℕ → sProp 𝕄) (A B : Dev nD → sProp 𝕄)
    (hstep : ∀ s r, iprop(Rp ∗ I (4 * s.val) ∗ bigSep (own s).toFinset A ∗ ((I (4 * s.val + 4) ∗ bigSep (own s).toFinset B) -∗ WP c r Q)) ⊢ WP c (f s r) Q)
    (r : Text F α) :
    iprop(Rp ∗ I 0 ∗ bigSep Finset.univ A ∗ ((I 16 ∗ bigSep Finset.univ B) -∗ WP c r Q)) ⊢ WP c (f 0 <| f 1 <| f 2 <| f 3 r) Q := by
  rw [star_own A, star_own B]
  iintro ⟨#HR, HI, ⟨H0, H1, H2, H3⟩, Hk⟩
  iapply (hstep 0 _)
  isplitr; · iexact HR
  isplitl [HI]; · iexact HI
  isplitl [H0]; · iexact H0
  iintro ⟨HI, H0⟩
  iapply (hstep 1 _)
  isplitr; · iexact HR
  isplitl [HI]; · iexact HI
  isplitl [H1]; · iexact H1
  iintro ⟨HI, H1⟩
  iapply (hstep 2 _)
  isplitr; · iexact HR
  isplitl [HI]; · iexact HI
  isplitl [H2]; · iexact H2
  iintro ⟨HI, H2⟩
  iapply (hstep 3 _)
  isplitr; · iexact HR
  isplitl [HI]; · iexact HI
  isplitl [H3]; · iexact H3
  iintro ⟨HI, H3⟩
  iapply Hk
  isplitl [HI]; · iexact HI
  isplitl [H0]; · iexact H0
  isplitl [H1]; · iexact H1
  isplitl [H2] <;> iassumption

theorem slice_sub {sp : Space} {s : Shape} {e : EltTy} (M : Memref sig .tc sp s e) (R : Rect s) : (M.access R).set ⊆ M.view.set :=
  (View.set_slice (v := M.view) R).le.trans (Finset.map_subset_map.mpr (Finset.subset_univ _))

/-- A buffer of the device held whole. -/
def whole {s : Shape} {e : EltTy} (M : Memref sig .tc .vmem s e) (f : Buf (Elt F) (M.view.loc (c : Thread nD τ))) : sProp 𝕄 :=
  M.view.loc (c : Thread nD τ) ↦[M.view.set]{fullShare} f

theorem wp_loadI (M : Memref sig .tc .vmem S256x512 .bf16) (f : Buf (Elt F) (M.view.loc (c : Thread nD τ))) (w : Vec F S256x512 .bf16)
    (hw : (M.access (Rect.unit (s := S256x512) ![0, 0] S256x512.size inb_S256x512_S256x512_0_0)).read (Elt F) f = w) (r : Vec F S256x512 .bf16 → Text F α) :
    iprop(whole c M f ∗ (whole c M f -∗ WP c (r w) Q)) ⊢ WP c (loadI M r) Q := by
  unfold loadI whole
  iintro ⟨H, Hk⟩
  iapply (wp_load_rect 𝒱₀ (c : Thread nD τ) none Set.univ (m := M) (f := f)
    (r := Rect.unit (s := S256x512) ![0, 0] S256x512.size inb_S256x512_S256x512_0_0) (S := M.view.set) (slice_sub M _)) $$ H
  iintro H
  rw [hw]
  iapply Hk; iexact H
theorem wp_loadO (M : Memref sig .tc .vmem S512x256 .bf16) (f : Buf (Elt F) (M.view.loc (c : Thread nD τ))) (w : Vec F S512x256 .bf16)
    (hw : (M.access (Rect.unit (s := S512x256) ![0, 0] S512x256.size inb_S512x256_S512x256_0_0)).read (Elt F) f = w) (r : Vec F S512x256 .bf16 → Text F α) :
    iprop(whole c M f ∗ (whole c M f -∗ WP c (r w) Q)) ⊢ WP c (loadO M r) Q := by
  unfold loadO whole
  iintro ⟨H, Hk⟩
  iapply (wp_load_rect 𝒱₀ (c : Thread nD τ) none Set.univ (m := M) (f := f)
    (r := Rect.unit (s := S512x256) ![0, 0] S512x256.size inb_S512x256_S512x256_0_0) (S := M.view.set) (slice_sub M _)) $$ H
  iintro H
  rw [hw]
  iapply Hk; iexact H

variable (D : Inputs F) (n : ℕ)

/-- A stage's loads and its store. -/
theorem wp_block (M : Memref sig .tc .vmem S512x256 .bf16) (Z : Buf (Elt F) (M.view.loc (c : Thread nD τ))) (s : Fin 4)
    (hZ : (M.access (blkR s)).read (Elt F) Z = fun j => D.X n c (blkE (s, j))) (r : Text F α) :
    iprop(bigSep (own s).toFinset (fun k => rowPts (F := F) M c k fullShare Z) ∗ bigSep (own s).toFinset (fun k => rowAny (F := F) pM c k)
        ∗ ((bigSep (own s).toFinset (fun k => rowPts (F := F) M c k fullShare Z)
              ∗ bigSep (own s).toFinset (fun k => rowPts (F := F) pM c k fullShare (D.P n c))) -∗ WP c r Q))
      ⊢ WP c (loadS M s fun x => loadS pM s fun _ => storeS s (stageV (D.wi n c) (D.wo n c) x) r) Q := by
  haveI : Nonempty (Buf (Elt F) (pM.view.loc (c : Thread nD τ))) := ⟨D.P n c⟩
  rw [← pts_blk M c fullShare Z s, ← pts_blk pM c fullShare (D.P n c) s, ← stored_blk D n c s (D.P n c)]
  unfold loadS storeS
  iintro ⟨HM, Hp, Hk⟩
  ihave Hp := (any_blk pM c s) $$ Hp
  icases Hp with ⟨%g, Hp⟩
  iapply (wp_load_rect 𝒱₀ (c : Thread nD τ) none Set.univ (m := M) (r := blkR s) (f := Z) (Finset.Subset.refl _)) $$ HM
  iintro HM
  iapply (wp_load_rect 𝒱₀ (c : Thread nD τ) none Set.univ (m := pM) (r := blkR s) (f := g) (Finset.Subset.refl _)) $$ Hp
  iintro Hp
  iapply (wp_store 𝒱₀ (c : Thread nD τ) none Set.univ (m := pM) (r := blkR s) (f := g) (Mk := Finset.univ)
    (S := (pM.access (blkR s)).set) (View.setOn_univ _).le) $$ Hp
  iintro Hp
  iapply Hk
  isplitl [HM]; · iexact HM
  rw [hZ]
  iapply (Entails.of_eq ((stored_blk D n c s g).trans (stored_blk D n c s (D.P n c)).symm)); iexact Hp

/-- Before a stage. -/
def S1 (k : Dev nD) : sProp 𝕄 := iprop(rowAny (F := F) pM c k ∗ S1r D n c k)

/-- A stage's sends. -/
theorem wp_sends (hn : n < 3) (s : Fin 4) (r : Text F α) :
    iprop(Ctx D ∗ owe (F := F) c (16 * (2 * n + 1) + 4 * s.val)
        ∗ bigSep (own s).toFinset (fun k => iprop(rowPts (F := F) pM c k fullShare (D.P n c) ∗ S1r D n c k))
        ∗ ((owe (F := F) c (16 * (2 * n + 1) + (4 * s.val + 4)) ∗ bigSep (own s).toFinset (fun k => S2 D n c k)) -∗ WP c r Q))
      ⊢ WP c (each (own s) (rsStart c) r) Q :=
  wp_own Q c (Rp := Ctx D) s (rsStart c) (fun a => owe (F := F) c (16 * (2 * n + 1) + a)) _ _ (fun k r => wp_rsStart_one D n c k hn r Q) r

/-- The own rows copied, and all the slots awaited. -/
theorem wp_collect (hn : n < 3) (r : Text F α) :
    iprop(Ctx D ∗ owe (F := F) c (16 * (2 * n + 2)) ∗ bigSep Finset.univ (fun k => S2 D n c k)
        ∗ ((owe (F := F) c (16 * (2 * n + 2)) ∗ bigSep Finset.univ (fun k => S3 D n c k)) -∗ WP c r Q))
      ⊢ WP c (collect c r) Q := by
  have hrest : bigSep (Finset.univ.erase c) (fun k => S2 D n c k) = bigSep (Finset.univ.erase c) (fun k => S2w D n c k) :=
    bigSep_congr fun k hk => if_neg (Finset.ne_of_mem_erase hk)
  have hback : iprop(S2w D n c c ∗ bigSep (Finset.univ.erase c) (fun k => S2w D n c k)) = bigSep Finset.univ (fun k => S2w D n c k) :=
    (star_take (Finset.mem_univ c)).symm
  rw [star_take (Φ := fun k => S2 D n c k) (Finset.mem_univ c), hrest]
  unfold collect
  iintro ⟨#HC, HO, ⟨Ho, Hs⟩, Hk⟩
  iapply (wp_rsOwn_one D n c hn _ Q)
  isplitr; · iexact HC
  isplitl [Ho]; · iexact Ho
  iintro Ho
  iapply (wp_all Q c (Rp := Ctx D) rsWait (fun _ => owe (F := F) c (16 * (2 * n + 2))) (fun k => S2w D n c k) (fun k => S3 D n c k)
    (fun k r => wp_rsWait_one D n c k hn r Q (by omega)) r)
  isplitr; · iexact HC
  isplitl [HO]; · iexact HO
  isplitl [Ho Hs]
  · rw [← hback]
    isplitl [Ho] <;> iassumption
  iexact Hk

/-! ## The first layer -/

theorem wp_firstLayer (fi : Buf (Elt F) (iM0.view.loc (c : Thread nD τ))) (fo : Buf (Elt F) (oM0.view.loc (c : Thread nD τ)))
    (hi : (iM0.access (Rect.unit (s := S256x512) ![0, 0] S256x512.size inb_S256x512_S256x512_0_0)).read (Elt F) fi = D.wi 0 c)
    (ho : (oM0.access (Rect.unit (s := S512x256) ![0, 0] S512x256.size inb_S512x256_S512x256_0_0)).read (Elt F) fo = D.wo 0 c) (r : Text F α) :
    iprop(Ctx D ∗ owe (F := F) c 16 ∗ whole c iM0 fi ∗ whole c oM0 fo ∗ whole c xM (D.x c) ∗ bigSep Finset.univ (fun k => S1 c D 0 k)
        ∗ ((owe (F := F) c 32 ∗ whole c iM0 fi ∗ whole c oM0 fo ∗ whole c xM (D.x c) ∗ bigSep Finset.univ (fun k => S3 D 0 c k)) -∗ WP c r Q))
      ⊢ WP c (firstLayer c r) Q := by
  have hx : whole c xM (D.x c) = bigSep Finset.univ fun k : Dev nD => rowPts (F := F) xM c k fullShare (D.x c) := pts_rows xM c fullShare (D.x c)
  rw [hx]
  unfold firstLayer
  iintro ⟨#HC, HO, Hi, Hw, Hx, Hs, Hk⟩
  iapply (wp_loadI Q c iM0 fi _ hi)
  isplitl [Hi]; · iexact Hi
  iintro Hi
  iapply (wp_loadO Q c oM0 fo _ ho)
  isplitl [Hw]; · iexact Hw
  iintro Hw
  iapply (wp_four Q c (Rp := Ctx D) (fun s => stage xM (D.wi 0 c) (D.wo 0 c) c s) (fun a => owe (F := F) c (16 * (2 * 0 + 1) + a))
    (fun k => iprop(rowPts (F := F) xM c k fullShare (D.x c) ∗ S1 c D 0 k)) (fun k => iprop(rowPts (F := F) xM c k fullShare (D.x c) ∗ S2 D 0 c k))
    (fun s r => by
      unfold S1
      rw [star_sep, star_sep, star_sep]
      unfold stage
      iintro ⟨#HC, HO, ⟨Hx, Hp, Hs⟩, Hk⟩
      iapply (wp_block Q c D 0 xM (D.x c) s (read_blk_x c (D.x c) s) _)
      isplitl [Hx]; · iexact Hx
      isplitl [Hp]; · iexact Hp
      iintro ⟨Hx, Hp⟩
      iapply (wp_sends Q c D 0 (by decide) s r)
      isplitr; · iexact HC
      isplitl [HO]; · iexact HO
      isplitl [Hp Hs]
      · rw [star_sep]
        isplitl [Hp] <;> iassumption
      iintro ⟨HO, Hs⟩
      iapply Hk
      isplitl [HO]; · iexact HO
      isplitl [Hx] <;> iassumption) (collect c r))
  isplitr; · iexact HC
  isplitl [HO]; · iexact HO
  isplitl [Hx Hs]
  · rw [star_sep]
    isplitl [Hx] <;> iassumption
  rw [star_sep]
  iintro ⟨HO, Hx, Hs⟩
  iapply (wp_collect Q c D 0 (by decide) r)
  isplitr; · iexact HC
  isplitl [HO]; · iexact HO
  isplitl [Hs]; · iexact Hs
  iintro ⟨HO, Hs⟩
  iapply Hk
  isplitl [HO]; · iexact HO
  isplitl [Hi]; · iexact Hi
  isplitl [Hw]; · iexact Hw
  isplitl [Hx] <;> iassumption

/-! ## A later layer -/

/-- What is held at the start of layer `n + 1`, apart from the rows awaited. -/
def R0 (k : Dev nD) : sProp 𝕄 := iprop(rowAny (F := F) pM c k ∗ rowAny (F := F) yM c k
  ∗ if k = c then iprop(rowPts (F := F) gM c c fullShare (D.G n) ∗ ownToks (F := F) (n + 1) c ∗ stands (F := F) (rsR c c) (n + 1) ∗ slotAny (F := F) c c ∗ idle (F := F) c)
    else iprop(toks (F := F) (n + 1) c k ∗ stands (F := F) (rsS c k) (n + 1) ∗ stands (F := F) (rsR c k) (n + 1) ∗ stands (F := F) (agS c k) (n + 1)))

/-- What is left before a stage besides the two pairs of rows. -/
def R1 (k : Dev nD) : sProp 𝕄 := iprop(rowAny (F := F) yM c k
  ∗ if k = c then iprop(ownToks (F := F) (n + 1) c ∗ stands (F := F) (rsR c c) (n + 1) ∗ slotAny (F := F) c c ∗ idle (F := F) c)
    else iprop(toks (F := F) (n + 1) c k ∗ stands (F := F) (rsS c k) (n + 1) ∗ stands (F := F) (rsR c k) (n + 1) ∗ stands (F := F) (agS c k) (n + 1)
      ∗ stands (F := F) (agR c k) (n + 1) ∗ slotAny (F := F) k c ∗ reached ER (rsR k c) (n + 1)))

theorem arrived (h : n ≠ 2) (k : Dev nD) :
    iprop(V5 D n c k ∗ R0 c D n k) ⊢ iprop(rowPts (F := F) gM c k fullShare (D.G n) ∗ rowAny (F := F) pM c k ∗ R1 (F := F) c n k) := by
  unfold V5 R0 R1 agPay dst slotBack
  rw [if_neg h, if_neg h]
  by_cases hk : k = c
  · subst hk
    simp only [if_pos]
    iintro ⟨-, Hp, Hy, Hg, Hx⟩
    isplitl [Hg]; · iexact Hg
    isplitl [Hp]; · iexact Hp
    isplitl [Hy] <;> iassumption
  · simp only [if_neg hk]
    iintro ⟨⟨⟨Hg, Hs, Hr⟩, Hst⟩, Hp, Hy, Ht, H1, H2, H3⟩
    isplitl [Hg]; · iexact Hg
    isplitl [Hp]; · iexact Hp
    isplitl [Hy]; · iexact Hy
    isplitl [Ht]; · iexact Ht
    isplitl [H1]; · iexact H1
    isplitl [H2]; · iexact H2
    isplitl [H3]; · iexact H3
    isplitl [Hst]; · iexact Hst
    isplitl [Hs] <;> iassumption
theorem S1r_of (k : Dev nD) : iprop(rowPts (F := F) gM c k fullShare (D.G n) ∗ R1 (F := F) c n k) ⊢ S1r D (n + 1) c k := .rfl

theorem wp_laterLayer (h1 : n + 1 < 3) (iM : Memref sig .tc .vmem S256x512 .bf16) (oM : Memref sig .tc .vmem S512x256 .bf16)
    (fi : Buf (Elt F) (iM.view.loc (c : Thread nD τ))) (fo : Buf (Elt F) (oM.view.loc (c : Thread nD τ)))
    (hi : (iM.access (Rect.unit (s := S256x512) ![0, 0] S256x512.size inb_S256x512_S256x512_0_0)).read (Elt F) fi = D.wi (n + 1) c)
    (ho : (oM.access (Rect.unit (s := S512x256) ![0, 0] S512x256.size inb_S512x256_S512x256_0_0)).read (Elt F) fo = D.wo (n + 1) c) (r : Text F α) :
    iprop(Ctx D ∗ owe (F := F) c (16 * (2 * (n + 1) + 1)) ∗ whole c iM fi ∗ whole c oM fo
        ∗ bigSep Finset.univ (fun k => iprop(V4 (F := F) n c k ∗ R0 c D n k))
        ∗ ((owe (F := F) c (16 * (2 * (n + 1) + 2)) ∗ whole c iM fi ∗ whole c oM fo ∗ bigSep Finset.univ (fun k => S3 D (n + 1) c k)) -∗ WP c r Q))
      ⊢ WP c (laterLayer iM oM c r) Q := by
  have hcr : ∀ k : Dev nD, (rowsAt gM k).view.dmaCredit = agN n := fun k => by unfold agN; rw [if_neg (by omega)]; rfl
  unfold laterLayer
  iintro ⟨#HC, HO, Hi, Hw, Hs, Hk⟩
  iapply (wp_loadI Q c iM fi _ hi)
  isplitl [Hi]; · iexact Hi
  iintro Hi
  iapply (wp_loadO Q c oM fo _ ho)
  isplitl [Hw]; · iexact Hw
  iintro Hw
  iapply (wp_four Q c (Rp := Ctx D) (fun s r => each (own s) (agWait gM gX (word c)) <| stage gM (D.wi (n + 1) c) (D.wo (n + 1) c) c s r)
    (fun a => owe (F := F) c (16 * (2 * (n + 1) + 1) + a))
    (fun k => iprop(V4 (F := F) n c k ∗ R0 c D n k)) (fun k => S2 D (n + 1) c k)
    (fun s r => by
      have harr : bigSep (own s).toFinset (fun k => iprop(V5 D n c k ∗ R0 c D n k))
          ⊢ bigSep (own s).toFinset fun k => iprop(rowPts (F := F) gM c k fullShare (D.G n) ∗ rowAny (F := F) pM c k ∗ R1 (F := F) c n k) :=
        star_mono fun k => arrived c D n (by omega) k
      have hs1 : bigSep (own s).toFinset (fun k => iprop(rowPts (F := F) gM c k fullShare (D.G n) ∗ R1 (F := F) c n k))
          ⊢ bigSep (own s).toFinset fun k => S1r D (n + 1) c k := star_mono fun k => S1r_of c D n k
      rw [star_sep, star_sep, star_sep] at harr
      rw [star_sep] at hs1
      rw [star_sep]
      unfold stage
      iintro ⟨#HC, HO, ⟨Hv, Hs⟩, Hk⟩
      iapply (wp_own Q c (Rp := Ctx D) s (agWait gM gX (word c)) (fun _ => owe (F := F) c (16 * (2 * (n + 1) + 1) + 4 * s.val)) (fun k => V4 (F := F) n c k)
        (fun k => V5 D n c k) (fun k r => wp_agWait_one D n c k (by omega) gM gX hcr r Q (by omega)) _)
      isplitr; · iexact HC
      isplitl [HO]; · iexact HO
      isplitl [Hv]; · iexact Hv
      iintro ⟨HO, Hv⟩
      ihave H := harr $$ [Hv Hs]
      · isplitl [Hv] <;> iassumption
      icases H with ⟨Hg, Hp, Hs⟩
      iapply (wp_block Q c D (n + 1) gM (D.G n) s (read_blk_g c (D.G n) s) _)
      isplitl [Hg]; · iexact Hg
      isplitl [Hp]; · iexact Hp
      iintro ⟨Hg, Hp⟩
      ihave Hs := hs1 $$ [Hg Hs]
      · isplitl [Hg] <;> iassumption
      iapply (wp_sends Q c D (n + 1) h1 s r)
      isplitr; · iexact HC
      isplitl [HO]; · iexact HO
      isplitl [Hp Hs]
      · rw [star_sep]
        isplitl [Hp] <;> iassumption
      iexact Hk) (collect c r))
  isplitr; · iexact HC
  isplitl [HO]; · iexact HO
  isplitl [Hs]; · iexact Hs
  iintro ⟨HO, Hs⟩
  iapply (wp_collect Q c D (n + 1) h1 r)
  isplitr; · iexact HC
  isplitl [HO]; · iexact HO
  isplitl [Hs]; · iexact Hs
  iintro ⟨HO, Hs⟩
  iapply Hk
  isplitl [HO]; · iexact HO
  isplitl [Hi]; · iexact Hi
  isplitl [Hw] <;> iassumption

/-! ## The sums -/

/-- The device's own rows in sixteen shares. -/
theorem dst_leaves : dst D n c c fullShare = bigSep Finset.univ fun k : Dev nD => dst D n c c (lent k) := by
  unfold dst
  by_cases h : n = 2
  · simp only [if_pos h]; exact ShareLeaves.pointsTo_leaves _ _ 4 fullShare
  · simp only [if_neg h]; exact ShareLeaves.pointsTo_leaves _ _ 4 fullShare

/-- The slots summed into the device's own rows. -/
theorem wp_sum {e : EltTy} (M : Memref sig .tc .vmem S512x256 e) (st : Text F α → Text F α) (v : Vec F S32x256 e)
    (Z : Buf (Elt F) (M.view.loc (c : Thread nD τ))) (hany : dstAny (F := F) n c c = rowAny (F := F) M c c)
    (hst : ∀ r, ∃ hx, st r = .op (.store M (rowR c) v Finset.univ hx (.inl rfl)) fun _ => r)
    (hpost : ∀ f : Buf (Elt F) (M.view.loc (c : Thread nD τ)), (M.view.loc (c : Thread nD τ) ↦[(rowsAt M c).view.set]{fullShare} (M.access (rowR c)).write (Elt F) f v Finset.univ : sProp 𝕄)
      = dst D n c c fullShare)
    (tl : Vec F S16x32x256 .bf16 → Text F α) (r : Text F α) (htl : tl (D.Y n c) = loadRow M c fun _ => st r) :
    iprop(bigSep Finset.univ (fun k => S3 D n c k)
        ∗ (bigSep Finset.univ (fun k => iprop(slotPts (F := F) c k (D.Y n c) ∗ dst D n c c (lent k) ∗ S3r D n c k)) -∗ WP c r Q))
      ⊢ WP c (loadSlots tl) Q := by
  obtain ⟨hx, hst⟩ := hst r
  unfold S3
  rw [star_sep, star_sep, star_sep, star_sep, star_only c, hany, ← dst_leaves c D n, ← pts_slots c (D.Y n c)]
  unfold loadSlots
  unfold rowAny
  iintro ⟨⟨Hs, ⟨%f, Hd⟩, Hr⟩, Hk⟩
  iapply (wp_load_rect 𝒱₀ (c : Thread nD τ) none Set.univ (m := sM) (f := D.Y n c)
    (r := Rect.unit (s := S16x32x256) ![0, 0, 0] S16x32x256.size inb_S16x32x256_S16x32x256_0_0_0) (S := sM.view.set) (slice_sub sM _)) $$ Hs
  iintro Hs
  rw [read_slots c, htl, loadRow_eq, hst]
  unfold rowPts
  iapply (wp_load_rect 𝒱₀ (c : Thread nD τ) none Set.univ (m := M) (r := rowR c) (f := f) (S := (rowsAt M c).view.set)
    (Finset.Subset.refl _)) $$ Hd
  iintro Hd
  iapply (wp_store 𝒱₀ (c : Thread nD τ) none Set.univ (m := M) (r := rowR c) (f := f) (Mk := Finset.univ)
    (S := (rowsAt M c).view.set) (View.setOn_univ _).le) $$ Hd
  iintro Hd
  iapply Hk
  isplitl [Hs]; · iexact Hs
  isplitl [Hd]; · iapply (Entails.of_eq (hpost f)); iexact Hd
  iexact Hr

/-- Own rows back, and what the next layer starts from. -/
theorem rejoin (h : n < 2) : bigSep Finset.univ (fun k => iprop(W5 D n c k ∗ H4 D n c k)) ⊢ bigSep Finset.univ (fun k => R0 c D n k) := by
  have h2 : n ≠ 2 := by omega
  have hd : bigSep Finset.univ (fun k : Dev nD => dst D n c c (lent k))
      = bigSep Finset.univ (fun k : Dev nD => if k = c then rowPts (F := F) gM c c fullShare (D.G n) else iprop(emp)) := by
    rw [star_only, ← dst_leaves c D n]; exact if_neg h2
  unfold W5
  rw [star_sep, star_sep, hd, ← star_sep, ← star_sep]
  refine star_mono fun k => ?_
  unfold H4 left R0
  rw [if_neg h2, if_neg h2]
  by_cases hk : k = c
  · subst hk
    simp only [if_pos]
    iintro ⟨⟨Hg, Hp, -⟩, Hst, Hy, Hs, Ht, Hi⟩
    isplitl [Hp]; · iexact Hp
    isplitl [Hy]; · iexact Hy
    isplitl [Hg]; · iexact Hg
    isplitl [Ht]; · iexact Ht
    isplitl [Hst]; · iexact Hst
    isplitl [Hs] <;> iassumption
  · simp only [if_neg hk]
    iintro ⟨⟨-, Hp, H1, H3⟩, H2, Hy, -, Ht⟩
    isplitl [Hp]; · iexact Hp
    isplitl [Hy]; · iexact Hy
    isplitl [Ht]; · iexact Ht
    isplitl [H1]; · iexact H1
    isplitl [H2] <;> iassumption

theorem wp_spread (h : n < 2) (r : Text F α) :
    iprop(Ctx D ∗ owe (F := F) c (16 * (2 * n + 2)) ∗ bigSep Finset.univ (fun k => S3 D n c k)
        ∗ ((owe (F := F) c (16 * (2 * (n + 1) + 1)) ∗ bigSep Finset.univ (fun k => iprop(V4 (F := F) n c k ∗ R0 c D n k))) -∗ WP c r Q))
      ⊢ WP c (spread c r) Q := by
  have h2 : n ≠ 2 := by omega
  have hn : n < 3 := by omega
  have hcr : ∀ k : Dev nD, (rowsAt gM k).view.dmaCredit = agN n := fun k => by unfold agN; rw [if_neg h2]; rfl
  have hre := rejoin c D n h
  rw [star_sep] at hre
  unfold spread
  iintro ⟨#HC, HO, Hs, Hk⟩
  iapply (wp_sum Q c D n gM (storeG c (sumG (D.Y n c))) (sumG (D.Y n c)) (D.G n) (if_neg h2) (fun r => storeG_eq c _ r)
    (fun f => (stored_G D n c f).trans (if_neg h2).symm) _ _ rfl)
  isplitl [Hs]; · iexact Hs
  iintro Hs
  iapply (wp_all Q c (Rp := Ctx D) (agStart gM gXD gL c) (fun a => owe (F := F) c (16 * (2 * n + 2) + a)) _ _
    (fun k r => wp_agStart_one D n c k hn gM gXD gL (D.G n) (fun _ _ _ => if_neg h2) (fun _ _ => if_neg h2) hcr r Q) _)
  isplitr; · iexact HC
  isplitl [HO]; · iexact HO
  isplitl [Hs]; · iexact Hs
  rw [star_sep (fun k => W4 D n c k), star_sep (fun k => V4 (F := F) n c k) (fun k => H4 D n c k)]
  iintro ⟨HO, Hw, Hv, Hh⟩
  iapply (wp_all Q c (Rp := Ctx D) (sendWait gM gXD c) (fun _ => owe (F := F) c (16 * (2 * n + 2) + 16)) (fun k => W4 D n c k) (fun k => W5 D n c k)
    (fun k r => wp_sendWait_one D n c k hn gM gXD hcr r Q) r)
  isplitr; · iexact HC
  isplitl [HO]; · iexact HO
  isplitl [Hw]; · iexact Hw
  iintro ⟨HO, Hw⟩
  iapply Hk
  isplitl [HO]; · iexact HO
  rw [star_sep]
  isplitl [Hv]; · iexact Hv
  iapply hre
  isplitl [Hw] <;> iassumption

/-! ## The result -/

/-- What is held at the end. -/
def F5 (k : Dev nD) : sProp 𝕄 := iprop(rowAny (F := F) pM c k ∗ slotAny (F := F) c k ∗ rowAny (F := F) gM c k ∗ rowPts (F := F) yM c k fullShare D.out
  ∗ stands (F := F) (rsR c k) 3
  ∗ if k = c then idle (F := F) c else iprop(stands (F := F) (rsS c k) 3 ∗ stands (F := F) (agS c k) 3 ∗ stands (F := F) (agR c k) 3))

theorem ended : bigSep Finset.univ (fun k => iprop(W5 D 2 c k ∗ V5 D 2 c k ∗ H4 D 2 c k)) ⊢ bigSep Finset.univ (fun k => F5 c D k) := by
  have hd : bigSep Finset.univ (fun k : Dev nD => dst D 2 c c (lent k))
      = bigSep Finset.univ (fun k : Dev nD => if k = c then rowPts (F := F) yM c c fullShare D.out else iprop(emp)) := by
    rw [star_only, ← dst_leaves c D 2]; exact if_pos rfl
  unfold W5
  rw [star_sep, star_sep, hd, ← star_sep, ← star_sep]
  refine star_mono fun k => ?_
  unfold V5 agPay H4 left dst
  rw [if_pos rfl, if_pos rfl]
  have hg := gRow_any D 2 c k
  unfold F5
  by_cases hk : k = c
  · subst hk
    simp only [if_pos]
    iintro ⟨⟨Hy, Hp, -⟩, -, Hst, Hg, Hs, -, Hi⟩
    isplitl [Hp]; · iexact Hp
    isplitl [Hs]; · iexact Hs
    isplitl [Hg]; · iapply hg; iexact Hg
    isplitl [Hy]; · iexact Hy
    isplitl [Hst] <;> iassumption
  · simp only [if_neg hk, ↓reduceIte]
    iintro ⟨⟨-, Hp, H1, H3⟩, ⟨⟨Hy, -⟩, H4⟩, H2, Hg, Hs, -⟩
    isplitl [Hp]; · iexact Hp
    isplitl [Hs]; · iexact Hs
    isplitl [Hg]; · iapply hg; iexact Hg
    isplitl [Hy]; · iexact Hy
    isplitl [H2]; · iexact H2
    isplitl [H1]; · iexact H1
    isplitl [H3] <;> iassumption

theorem wp_finish (r : Text F α) :
    iprop(Ctx D ∗ owe (F := F) c (16 * (2 * 2 + 2)) ∗ bigSep Finset.univ (fun k => S3 D 2 c k)
        ∗ ((owe (F := F) c 112 ∗ bigSep Finset.univ (fun k => F5 c D k)) -∗ WP c r Q))
      ⊢ WP c (finish c r) Q := by
  have hcr : ∀ k : Dev nD, (rowsAt yM k).view.dmaCredit = agN 2 := fun k => rfl
  have hend := ended c D
  rw [star_sep, star_sep] at hend
  unfold finish
  iintro ⟨#HC, HO, Hs, Hk⟩
  iapply (wp_sum Q c D 2 yM (storeY c (sumY (D.Y 2 c))) (sumY (D.Y 2 c)) D.out (if_pos rfl) (fun r => storeY_eq c _ r)
    (fun f => (stored_Y D c f).trans (if_pos rfl).symm) _ _ rfl)
  isplitl [Hs]; · iexact Hs
  iintro Hs
  iapply (wp_all Q c (Rp := Ctx D) (agStart yM yXD yL c) (fun a => owe (F := F) c (16 * (2 * 2 + 2) + a)) _ _
    (fun k r => wp_agStart_one D 2 c k (by decide) yM yXD yL D.out (fun _ _ _ => if_pos rfl) (fun _ _ => if_pos rfl) hcr r Q) _)
  isplitr; · iexact HC
  isplitl [HO]; · iexact HO
  isplitl [Hs]; · iexact Hs
  rw [star_sep, star_sep]
  iintro ⟨HO, Hw, Hv, Hh⟩
  iapply (wp_all Q c (Rp := Ctx D) (agWait yM yX (word c)) (fun _ => owe (F := F) c 112) (fun k => V4 (F := F) 2 c k) (fun k => V5 D 2 c k)
    (fun k r => wp_agWait_one D 2 c k (by decide) yM yX hcr r Q (by decide)) _)
  isplitr; · iexact HC
  isplitl [HO]; · iexact HO
  isplitl [Hv]; · iexact Hv
  iintro ⟨HO, Hv⟩
  iapply (wp_all Q c (Rp := Ctx D) (sendWait yM yXD c) (fun _ => owe (F := F) c 112) (fun k => W4 D 2 c k) (fun k => W5 D 2 c k)
    (fun k r => wp_sendWait_one D 2 c k (by decide) yM yXD hcr r Q) r)
  isplitr; · iexact HC
  isplitl [HO]; · iexact HO
  isplitl [Hw]; · iexact Hw
  iintro ⟨HO, Hw⟩
  iapply Hk
  isplitl [HO]; · iexact HO
  iapply hend
  isplitl [Hw]; · iexact Hw
  isplitl [Hv] <;> iassumption

end Text

end Cert.Proof

end
-- ==== Proof.Parts.lean ====
/-
  The printed body, part by part, as the operations of `Text`.
-/
module

public import proofs.«01_k».proof.Proof.Text

@[expose] public section

noncomputable section

namespace Cert.Proof

open Cert.KernelIdeal Cert.KernelIdeal.Gen

open Idealize.ShloMosaic
open Idealize.ShloMosaic.TcCoe
open Idealize.SL Idealize.SL.Sem

variable {F : FTy → Type} [FloatOps F]

set_option maxHeartbeats 4000000
set_option maxRecDepth 65536

theorem part1 :
    k0_part1 (F := F) xM hx iM0 hi0 oM0 ho0 iM1 hi1 oM1 ho1 iM2 hi2 oM2 ho2 yM hy pM hp sM hs gM hg cc0_scratch3 cc0_scratch4 cc0_scratch5 cc0_scratch6
      = (.op .deviceId fun d => each [0, 1, 2, 3, 4, 5, 6] signal <| pure ⟨d, word d, SemArray.scalar (sig.barrier 0 rfl), Scalar.muli 7#32 1#32⟩) := by
  rw [k0_part1_eq_skeleton]; unfold k0_part1_skel each; rfl

theorem part2 (v18 : BitVec 32) :
    k0_part2 (F := F) xM hx iM0 hi0 oM0 ho0 iM1 hi1 oM1 ho1 iM2 hi2 oM2 ho2 yM hy pM hp sM hs gM hg cc0_scratch3 cc0_scratch4 cc0_scratch5 cc0_scratch6 (SemArray.scalar (sig.barrier 0 rfl)) v18
      = (each [7, 8, 9, 10, 11, 12, 13, 14, 15] signal <| pure ⟨⟩) := by
  rw [k0_part2_eq_skeleton]; unfold k0_part2_skel each; rfl

theorem part3 (d : Dev nD) :
    k0_part3 (F := F) xM hx iM0 hi0 oM0 ho0 iM1 hi1 oM1 ho1 iM2 hi2 oM2 ho2 yM hy pM hp sM hs gM hg cc0_scratch3 cc0_scratch4 cc0_scratch5 cc0_scratch6 d (word d) (SemArray.scalar (sig.barrier 0 rfl))
      = (awaitAll <| loadI iM0 fun v36 => loadO oM0 fun v38 => loadS xM 0 fun v40 => loadS pM 0 fun _ => storeS 0 (k0_pay3 v36 v38 v40) <| each [0, 1, 2, 3] (rsStart d) <| loadS xM 1 fun v63 => pure ⟨k0_pay1 v36, k0_pay2 v38, v63⟩) := by
  rw [k0_part3_eq_skeleton]; unfold k0_part3_skel each; rfl

theorem part4 (d : Dev nD) (v37 : FVec F S256x512 .bf16) (v39 : FVec F S512x256 .bf16) (v63 : Vec F S128x256 .bf16) :
    k0_part4 (F := F) xM hx iM0 hi0 oM0 ho0 iM1 hi1 oM1 ho1 iM2 hi2 oM2 ho2 yM hy pM hp sM hs gM hg cc0_scratch3 cc0_scratch4 cc0_scratch5 cc0_scratch6 d (word d) v37 v39 v63
      = (loadS pM 1 fun _ => storeS 1 (k0_pay4 v37 v39 v63) <| each [4, 5, 6, 7] (rsStart d) <| loadS xM 2 fun v86 => loadS pM 2 fun v94 => pure ⟨k0_pay5 v37 v39 v86, v94⟩) := by
  rw [k0_part4_eq_skeleton]; unfold k0_part4_skel each; rfl

theorem part5 (d : Dev nD) (v37 : FVec F S256x512 .bf16) (v39 : FVec F S512x256 .bf16) (v93 : FVec F S128x256 .bf16) (v94 : Vec F S128x256 .bf16) :
    k0_part5 (F := F) xM hx iM0 hi0 oM0 ho0 iM1 hi1 oM1 ho1 iM2 hi2 oM2 ho2 yM hy pM hp sM hs gM hg cc0_scratch3 cc0_scratch4 cc0_scratch5 cc0_scratch6 d (word d) v37 v39 v93 v94
      = (storeS 2 (k0_pay6 v93) <| each [8, 9, 10, 11] (rsStart d) <| loadS xM 3 fun v109 => loadS pM 3 fun _ => storeS 3 (k0_pay7 v37 v39 v109) <| each [12] (rsStart d) <| pure (Scalar.extui (Scalar.cmpi .ne (word d) 13#32))) := by
  rw [k0_part5_eq_skeleton]; unfold k0_part5_skel each; rfl

theorem part6 (d : Dev nD) (v124 : BitVec 32) :
    k0_part6 (F := F) xM hx iM0 hi0 oM0 ho0 iM1 hi1 oM1 ho1 iM2 hi2 oM2 ho2 yM hy pM hp sM hs gM hg cc0_scratch3 cc0_scratch4 cc0_scratch5 cc0_scratch6 d (word d) v124
      = (each [13, 14, 15] (rsStart d) <| rsOwn d <| each [0] rsWait <| pure ⟨⟩) := by
  rw [k0_part6_eq_skeleton]; unfold k0_part6_skel each; rfl

theorem part7 :
    k0_part7 (F := F) xM hx iM0 hi0 oM0 ho0 iM1 hi1 oM1 ho1 iM2 hi2 oM2 ho2 yM hy pM hp sM hs gM hg cc0_scratch3 cc0_scratch4 cc0_scratch5 cc0_scratch6
      = (each [1, 2, 3, 4] rsWait <| pure ⟨⟩) := by
  rw [k0_part7_eq_skeleton]; unfold k0_part7_skel each; rfl

theorem part8 :
    k0_part8 (F := F) xM hx iM0 hi0 oM0 ho0 iM1 hi1 oM1 ho1 iM2 hi2 oM2 ho2 yM hy pM hp sM hs gM hg cc0_scratch3 cc0_scratch4 cc0_scratch5 cc0_scratch6
      = (each [5, 6, 7] rsWait <| pure ⟨Scalar.muli 8#32 1#32, 0#32⟩) := by
  rw [k0_part8_eq_skeleton]; unfold k0_part8_skel each; rfl

theorem part9 (v194 : BitVec 32) (c0_i32_213 : BitVec 32) :
    k0_part9 (F := F) xM hx iM0 hi0 oM0 ho0 iM1 hi1 oM1 ho1 iM2 hi2 oM2 ho2 yM hy pM hp sM hs gM hg cc0_scratch3 cc0_scratch4 cc0_scratch5 cc0_scratch6 v194 c0_i32_213
      = (each [8, 9, 10] rsWait <| pure ⟨⟩) := by
  rw [k0_part9_eq_skeleton]; unfold k0_part9_skel each; rfl

theorem part10 :
    k0_part10 (F := F) xM hx iM0 hi0 oM0 ho0 iM1 hi1 oM1 ho1 iM2 hi2 oM2 ho2 yM hy pM hp sM hs gM hg cc0_scratch3 cc0_scratch4 cc0_scratch5 cc0_scratch6
      = (each [11, 12, 13, 14] rsWait <| pure ⟨⟩) := by
  rw [k0_part10_eq_skeleton]; unfold k0_part10_skel each; rfl

theorem part11 (d : Dev nD) :
    k0_part11 (F := F) xM hx iM0 hi0 oM0 ho0 iM1 hi1 oM1 ho1 iM2 hi2 oM2 ho2 yM hy pM hp sM hs gM hg cc0_scratch3 cc0_scratch4 cc0_scratch5 cc0_scratch6 d (word d)
      = (each [15] rsWait <| loadSlots fun v250 => loadRow gM d fun _ => storeG d (k0_pay8 v250) <| each [0, 1] (agStart gM gXD gL d) <| pure 2#32) := by
  rw [k0_part11_eq_skeleton]; unfold k0_part11_skel each; rfl

theorem part12 (d : Dev nD) (c2_i32_306 : BitVec 32) :
    k0_part12 (F := F) xM hx iM0 hi0 oM0 ho0 iM1 hi1 oM1 ho1 iM2 hi2 oM2 ho2 yM hy pM hp sM hs gM hg cc0_scratch3 cc0_scratch4 cc0_scratch5 cc0_scratch6 d (word d) c2_i32_306
      = (each [2, 3, 4, 5, 6] (agStart gM gXD gL d) <| pure ⟨⟩) := by
  rw [k0_part12_eq_skeleton]; unfold k0_part12_skel each; rfl

theorem part13 (d : Dev nD) :
    k0_part13 (F := F) xM hx iM0 hi0 oM0 ho0 iM1 hi1 oM1 ho1 iM2 hi2 oM2 ho2 yM hy pM hp sM hs gM hg cc0_scratch3 cc0_scratch4 cc0_scratch5 cc0_scratch6 d (word d)
      = (each [7, 8, 9, 10, 11, 12] (agStart gM gXD gL d) <| pure ⟨⟩) := by
  rw [k0_part13_eq_skeleton]; unfold k0_part13_skel each; rfl

theorem part14 (d : Dev nD) :
    k0_part14 (F := F) xM hx iM0 hi0 oM0 ho0 iM1 hi1 oM1 ho1 iM2 hi2 oM2 ho2 yM hy pM hp sM hs gM hg cc0_scratch3 cc0_scratch4 cc0_scratch5 cc0_scratch6 d (word d)
      = (each [13, 14, 15] (agStart gM gXD gL d) <| each [0, 1] (sendWait gM gXD d) <| pure 32#32) := by
  rw [k0_part14_eq_skeleton]; unfold k0_part14_skel each; rfl

theorem part15 (d : Dev nD) (c32_i32_391 : BitVec 32) :
    k0_part15 (F := F) xM hx iM0 hi0 oM0 ho0 iM1 hi1 oM1 ho1 iM2 hi2 oM2 ho2 yM hy pM hp sM hs gM hg cc0_scratch3 cc0_scratch4 cc0_scratch5 cc0_scratch6 d (word d) c32_i32_391
      = (each [2, 3, 4, 5] (sendWait gM gXD d) <| pure (Scalar.extui (Scalar.cmpi .ne (word d) 6#32))) := by
  rw [k0_part15_eq_skeleton]; unfold k0_part15_skel each; rfl

theorem part16 (d : Dev nD) (v372 : BitVec 32) :
    k0_part16 (F := F) xM hx iM0 hi0 oM0 ho0 iM1 hi1 oM1 ho1 iM2 hi2 oM2 ho2 yM hy pM hp sM hs gM hg cc0_scratch3 cc0_scratch4 cc0_scratch5 cc0_scratch6 d (word d) v372
      = (each [6, 7, 8, 9] (sendWait gM gXD d) <| pure (Scalar.extui (Scalar.cmpi .ne (word d) 10#32))) := by
  rw [k0_part16_eq_skeleton]; unfold k0_part16_skel each; rfl

theorem part17 (d : Dev nD) (v392 : BitVec 32) :
    k0_part17 (F := F) xM hx iM0 hi0 oM0 ho0 iM1 hi1 oM1 ho1 iM2 hi2 oM2 ho2 yM hy pM hp sM hs gM hg cc0_scratch3 cc0_scratch4 cc0_scratch5 cc0_scratch6 d (word d) v392
      = (each [10, 11, 12, 13, 14] (sendWait gM gXD d) <| pure 32#32) := by
  rw [k0_part17_eq_skeleton]; unfold k0_part17_skel each; rfl

theorem part18 (d : Dev nD) (c32_i32_494 : BitVec 32) :
    k0_part18 (F := F) xM hx iM0 hi0 oM0 ho0 iM1 hi1 oM1 ho1 iM2 hi2 oM2 ho2 yM hy pM hp sM hs gM hg cc0_scratch3 cc0_scratch4 cc0_scratch5 cc0_scratch6 d (word d) c32_i32_494
      = (each [15] (sendWait gM gXD d) <| loadI iM1 fun v419 => loadO oM1 fun v421 => each [0, 1, 2, 3] (agWait gM gX (word d)) <| loadS gM 0 fun v435 => pure ⟨k0_pay9 v419, k0_pay10 v421, k0_pay11 v419 v435, k0_pay12 (F := F)⟩) := by
  rw [k0_part18_eq_skeleton]; unfold k0_part18_skel each; rfl

theorem part19 (d : Dev nD) (v422 : FVec F S512x256 .bf16) (v436 : FVec F S128x512 .f32) (v437 : FVec F S128x512 .f32) :
    k0_part19 (F := F) xM hx iM0 hi0 oM0 ho0 iM1 hi1 oM1 ho1 iM2 hi2 oM2 ho2 yM hy pM hp sM hs gM hg cc0_scratch3 cc0_scratch4 cc0_scratch5 cc0_scratch6 d (word d) v422 v436 v437
      = (loadS pM 0 fun _ => storeS 0 (k0_pay13 v422 v436 v437) <| each [0, 1, 2, 3] (rsStart d) <| each [4, 5] (agWait gM gX (word d)) <| pure (Scalar.extui (Scalar.cmpi .ne (word d) 6#32))) := by
  rw [k0_part19_eq_skeleton]; unfold k0_part19_skel each; rfl

theorem part20 (d : Dev nD) (v420 : FVec F S256x512 .bf16) (v422 : FVec F S512x256 .bf16) :
    k0_part20 (F := F) xM hx iM0 hi0 oM0 ho0 iM1 hi1 oM1 ho1 iM2 hi2 oM2 ho2 yM hy pM hp sM hs gM hg cc0_scratch3 cc0_scratch4 cc0_scratch5 cc0_scratch6 d (word d) v420 v422 (Scalar.extui (Scalar.cmpi .ne (word d) 6#32))
      = (each [6, 7] (agWait gM gX (word d)) <| loadS gM 1 fun v469 => loadS pM 1 fun _ => storeS 1 (k0_pay14 v420 v422 v469) <| each [4, 5, 6, 7] (rsStart d) <| pure (Scalar.extui (Scalar.cmpi .ne (word d) 8#32))) := by
  rw [k0_part20_eq_skeleton]; unfold k0_part20_skel each; rfl

theorem part21 (d : Dev nD) (v420 : FVec F S256x512 .bf16) (v422 : FVec F S512x256 .bf16) :
    k0_part21 (F := F) xM hx iM0 hi0 oM0 ho0 iM1 hi1 oM1 ho1 iM2 hi2 oM2 ho2 yM hy pM hp sM hs gM hg cc0_scratch3 cc0_scratch4 cc0_scratch5 cc0_scratch6 d (word d) v420 v422 (Scalar.extui (Scalar.cmpi .ne (word d) 8#32))
      = (each [8, 9, 10, 11] (agWait gM gX (word d)) <| loadS gM 2 fun v503 => loadS pM 2 fun _ => storeS 2 (k0_pay15 v420 v422 v503) <| each [8] (rsStart d) <| pure ⟨⟩) := by
  rw [k0_part21_eq_skeleton]; unfold k0_part21_skel each; rfl

theorem part22 (d : Dev nD) (v420 : FVec F S256x512 .bf16) (v422 : FVec F S512x256 .bf16) :
    k0_part22 (F := F) xM hx iM0 hi0 oM0 ho0 iM1 hi1 oM1 ho1 iM2 hi2 oM2 ho2 yM hy pM hp sM hs gM hg cc0_scratch3 cc0_scratch4 cc0_scratch5 cc0_scratch6 d (word d) v420 v422
      = (each [9, 10, 11] (rsStart d) <| each [12, 13, 14, 15] (agWait gM gX (word d)) <| loadS gM 3 fun v537 => pure (k0_pay16 v420 v422 v537)) := by
  rw [k0_part22_eq_skeleton]; unfold k0_part22_skel each; rfl

theorem part23 (d : Dev nD) (v543 : FVec F S128x256 .bf16) :
    k0_part23 (F := F) xM hx iM0 hi0 oM0 ho0 iM1 hi1 oM1 ho1 iM2 hi2 oM2 ho2 yM hy pM hp sM hs gM hg cc0_scratch3 cc0_scratch4 cc0_scratch5 cc0_scratch6 d (word d) v543
      = (loadS pM 3 fun _ => storeS 3 (k0_pay17 v543) <| each [12, 13, 14, 15] (rsStart d) <| rsOwn d <| pure ⟨⟩) := by
  rw [k0_part23_eq_skeleton]; unfold k0_part23_skel each; rfl

theorem part24 :
    k0_part24 (F := F) xM hx iM0 hi0 oM0 ho0 iM1 hi1 oM1 ho1 iM2 hi2 oM2 ho2 yM hy pM hp sM hs gM hg cc0_scratch3 cc0_scratch4 cc0_scratch5 cc0_scratch6
      = (each [0, 1, 2, 3] rsWait <| pure 4#32) := by
  rw [k0_part24_eq_skeleton]; unfold k0_part24_skel each; rfl

theorem part25 (c4_i32_693 : BitVec 32) :
    k0_part25 (F := F) xM hx iM0 hi0 oM0 ho0 iM1 hi1 oM1 ho1 iM2 hi2 oM2 ho2 yM hy pM hp sM hs gM hg cc0_scratch3 cc0_scratch4 cc0_scratch5 cc0_scratch6 c4_i32_693
      = (each [4, 5, 6] rsWait <| pure ⟨⟩) := by
  rw [k0_part25_eq_skeleton]; unfold k0_part25_skel each; rfl

theorem part26 :
    k0_part26 (F := F) xM hx iM0 hi0 oM0 ho0 iM1 hi1 oM1 ho1 iM2 hi2 oM2 ho2 yM hy pM hp sM hs gM hg cc0_scratch3 cc0_scratch4 cc0_scratch5 cc0_scratch6
      = (each [7, 8, 9] rsWait <| pure ⟨⟩) := by
  rw [k0_part26_eq_skeleton]; unfold k0_part26_skel each; rfl

theorem part27 :
    k0_part27 (F := F) xM hx iM0 hi0 oM0 ho0 iM1 hi1 oM1 ho1 iM2 hi2 oM2 ho2 yM hy pM hp sM hs gM hg cc0_scratch3 cc0_scratch4 cc0_scratch5 cc0_scratch6
      = (each [10, 11, 12, 13] rsWait <| pure 14#32) := by
  rw [k0_part27_eq_skeleton]; unfold k0_part27_skel each; rfl

theorem part28 (d : Dev nD) (c14_i32_793 : BitVec 32) :
    k0_part28 (F := F) xM hx iM0 hi0 oM0 ho0 iM1 hi1 oM1 ho1 iM2 hi2 oM2 ho2 yM hy pM hp sM hs gM hg cc0_scratch3 cc0_scratch4 cc0_scratch5 cc0_scratch6 d (word d) c14_i32_793
      = (each [14, 15] rsWait <| loadSlots fun v677 => loadRow gM d fun _ => storeG d (k0_pay18 v677) <| each [0] (agStart gM gXD gL d) <| pure 32#32) := by
  rw [k0_part28_eq_skeleton]; unfold k0_part28_skel each; rfl

theorem part29 (d : Dev nD) (c32_i32_821 : BitVec 32) :
    k0_part29 (F := F) xM hx iM0 hi0 oM0 ho0 iM1 hi1 oM1 ho1 iM2 hi2 oM2 ho2 yM hy pM hp sM hs gM hg cc0_scratch3 cc0_scratch4 cc0_scratch5 cc0_scratch6 d (word d) c32_i32_821
      = (each [1, 2, 3, 4, 5] (agStart gM gXD gL d) <| pure (Scalar.cmpi .ne (word d) 6#32)) := by
  rw [k0_part29_eq_skeleton]; unfold k0_part29_skel each; rfl

theorem part30 (d : Dev nD) (v718 : BitVec 1) :
    k0_part30 (F := F) xM hx iM0 hi0 oM0 ho0 iM1 hi1 oM1 ho1 iM2 hi2 oM2 ho2 yM hy pM hp sM hs gM hg cc0_scratch3 cc0_scratch4 cc0_scratch5 cc0_scratch6 d (word d) v718
      = (each [6, 7, 8, 9, 10, 11] (agStart gM gXD gL d) <| pure ⟨⟩) := by
  rw [k0_part30_eq_skeleton]; unfold k0_part30_skel each; rfl

theorem part31 (d : Dev nD) :
    k0_part31 (F := F) xM hx iM0 hi0 oM0 ho0 iM1 hi1 oM1 ho1 iM2 hi2 oM2 ho2 yM hy pM hp sM hs gM hg cc0_scratch3 cc0_scratch4 cc0_scratch5 cc0_scratch6 d (word d)
      = (each [12, 13, 14, 15] (agStart gM gXD gL d) <| each [0] (sendWait gM gXD d) <| pure ⟨⟩) := by
  rw [k0_part31_eq_skeleton]; unfold k0_part31_skel each; rfl

theorem part32 (d : Dev nD) :
    k0_part32 (F := F) xM hx iM0 hi0 oM0 ho0 iM1 hi1 oM1 ho1 iM2 hi2 oM2 ho2 yM hy pM hp sM hs gM hg cc0_scratch3 cc0_scratch4 cc0_scratch5 cc0_scratch6 d (word d)
      = (each [1, 2, 3, 4] (sendWait gM gXD d) <| pure (Scalar.cmpi .ne (word d) 5#32)) := by
  rw [k0_part32_eq_skeleton]; unfold k0_part32_skel each; rfl

theorem part33 (d : Dev nD) (v793 : BitVec 1) :
    k0_part33 (F := F) xM hx iM0 hi0 oM0 ho0 iM1 hi1 oM1 ho1 iM2 hi2 oM2 ho2 yM hy pM hp sM hs gM hg cc0_scratch3 cc0_scratch4 cc0_scratch5 cc0_scratch6 d (word d) v793
      = (each [5, 6, 7, 8] (sendWait gM gXD d) <| pure (Scalar.extui (Scalar.cmpi .ne (word d) 9#32))) := by
  rw [k0_part33_eq_skeleton]; unfold k0_part33_skel each; rfl

theorem part34 (d : Dev nD) (v814 : BitVec 32) :
    k0_part34 (F := F) xM hx iM0 hi0 oM0 ho0 iM1 hi1 oM1 ho1 iM2 hi2 oM2 ho2 yM hy pM hp sM hs gM hg cc0_scratch3 cc0_scratch4 cc0_scratch5 cc0_scratch6 d (word d) v814
      = (each [9, 10, 11, 12, 13] (sendWait gM gXD d) <| pure ⟨⟩) := by
  rw [k0_part34_eq_skeleton]; unfold k0_part34_skel each; rfl

theorem part35 (d : Dev nD) :
    k0_part35 (F := F) xM hx iM0 hi0 oM0 ho0 iM1 hi1 oM1 ho1 iM2 hi2 oM2 ho2 yM hy pM hp sM hs gM hg cc0_scratch3 cc0_scratch4 cc0_scratch5 cc0_scratch6 d (word d)
      = (each [14, 15] (sendWait gM gXD d) <| loadI iM2 fun v846 => loadO oM2 fun v848 => each [0, 1, 2] (agWait gM gX (word d)) <| pure ⟨k0_pay19 v846, k0_pay20 v848⟩) := by
  rw [k0_part35_eq_skeleton]; unfold k0_part35_skel each; rfl

theorem part36 (d : Dev nD) (v847 : FVec F S256x512 .bf16) (v849 : FVec F S512x256 .bf16) :
    k0_part36 (F := F) xM hx iM0 hi0 oM0 ho0 iM1 hi1 oM1 ho1 iM2 hi2 oM2 ho2 yM hy pM hp sM hs gM hg cc0_scratch3 cc0_scratch4 cc0_scratch5 cc0_scratch6 d (word d) v847 v849
      = (each [3] (agWait gM gX (word d)) <| loadS gM 0 fun v862 => loadS pM 0 fun _ => storeS 0 (k0_pay21 v847 v849 v862) <| each [0, 1, 2, 3] (rsStart d) <| pure ⟨Scalar.extui (Scalar.cmpi .ne (word d) 4#32), 0#32⟩) := by
  rw [k0_part36_eq_skeleton]; unfold k0_part36_skel each; rfl

theorem part37 (d : Dev nD) (v847 : FVec F S256x512 .bf16) (v849 : FVec F S512x256 .bf16) :
    k0_part37 (F := F) xM hx iM0 hi0 oM0 ho0 iM1 hi1 oM1 ho1 iM2 hi2 oM2 ho2 yM hy pM hp sM hs gM hg cc0_scratch3 cc0_scratch4 cc0_scratch5 cc0_scratch6 d (word d) v847 v849 (Scalar.extui (Scalar.cmpi .ne (word d) 4#32)) 0#32
      = (each [4, 5, 6, 7] (agWait gM gX (word d)) <| loadS gM 1 fun v896 => loadS pM 1 fun _ => storeS 1 (k0_pay22 v847 v849 v896) <| each [4, 5] (rsStart d) <| pure (Scalar.cmpi .ne (word d) 6#32)) := by
  rw [k0_part37_eq_skeleton]; unfold k0_part37_skel each; rfl

theorem part38 (d : Dev nD) (v847 : FVec F S256x512 .bf16) (v849 : FVec F S512x256 .bf16) (v912 : BitVec 1) :
    k0_part38 (F := F) xM hx iM0 hi0 oM0 ho0 iM1 hi1 oM1 ho1 iM2 hi2 oM2 ho2 yM hy pM hp sM hs gM hg cc0_scratch3 cc0_scratch4 cc0_scratch5 cc0_scratch6 d (word d) v847 v849 v912
      = (each [6, 7] (rsStart d) <| each [8, 9, 10, 11] (agWait gM gX (word d)) <| loadS gM 2 fun v930 => loadS pM 2 fun v937 => pure (k0_pay23 v847 v849 v930)) := by
  rw [k0_part38_eq_skeleton]; unfold k0_part38_skel each; rfl

theorem part39 (d : Dev nD) (v936 : FVec F S128x256 .bf16) :
    k0_part39 (F := F) xM hx iM0 hi0 oM0 ho0 iM1 hi1 oM1 ho1 iM2 hi2 oM2 ho2 yM hy pM hp sM hs gM hg cc0_scratch3 cc0_scratch4 cc0_scratch5 cc0_scratch6 d (word d) v936
      = (storeS 2 (k0_pay24 v936) <| each [8, 9, 10, 11] (rsStart d) <| each [12, 13, 14] (agWait gM gX (word d)) <| pure ⟨Scalar.extui (Scalar.cmpi .ne (word d) 15#32), 0#32⟩) := by
  rw [k0_part39_eq_skeleton]; unfold k0_part39_skel each; rfl

theorem part40 (d : Dev nD) (v847 : FVec F S256x512 .bf16) (v849 : FVec F S512x256 .bf16) :
    k0_part40 (F := F) xM hx iM0 hi0 oM0 ho0 iM1 hi1 oM1 ho1 iM2 hi2 oM2 ho2 yM hy pM hp sM hs gM hg cc0_scratch3 cc0_scratch4 cc0_scratch5 cc0_scratch6 d (word d) v847 v849 (Scalar.extui (Scalar.cmpi .ne (word d) 15#32)) 0#32
      = (each [15] (agWait gM gX (word d)) <| loadS gM 3 fun v964 => loadS pM 3 fun _ => storeS 3 (k0_pay25 v847 v849 v964) <| each [12, 13, 14, 15] (rsStart d) <| rsOwn d <| pure ⟨⟩) := by
  rw [k0_part40_eq_skeleton]; unfold k0_part40_skel each; rfl

theorem part41 :
    k0_part41 (F := F) xM hx iM0 hi0 oM0 ho0 iM1 hi1 oM1 ho1 iM2 hi2 oM2 ho2 yM hy pM hp sM hs gM hg cc0_scratch3 cc0_scratch4 cc0_scratch5 cc0_scratch6
      = (each [0, 1, 2] rsWait <| pure ⟨Scalar.muli 3#32 1#32, 0#32⟩) := by
  rw [k0_part41_eq_skeleton]; unfold k0_part41_skel each; rfl

theorem part42 (v1013 : BitVec 32) (c0_i32_1207 : BitVec 32) :
    k0_part42 (F := F) xM hx iM0 hi0 oM0 ho0 iM1 hi1 oM1 ho1 iM2 hi2 oM2 ho2 yM hy pM hp sM hs gM hg cc0_scratch3 cc0_scratch4 cc0_scratch5 cc0_scratch6 v1013 c0_i32_1207
      = (each [3, 4, 5] rsWait <| pure ⟨⟩) := by
  rw [k0_part42_eq_skeleton]; unfold k0_part42_skel each; rfl

theorem part43 :
    k0_part43 (F := F) xM hx iM0 hi0 oM0 ho0 iM1 hi1 oM1 ho1 iM2 hi2 oM2 ho2 yM hy pM hp sM hs gM hg cc0_scratch3 cc0_scratch4 cc0_scratch5 cc0_scratch6
      = (each [6, 7, 8, 9] rsWait <| pure ⟨⟩) := by
  rw [k0_part43_eq_skeleton]; unfold k0_part43_skel each; rfl

theorem part44 :
    k0_part44 (F := F) xM hx iM0 hi0 oM0 ho0 iM1 hi1 oM1 ho1 iM2 hi2 oM2 ho2 yM hy pM hp sM hs gM hg cc0_scratch3 cc0_scratch4 cc0_scratch5 cc0_scratch6
      = (each [10, 11, 12] rsWait <| pure ⟨Scalar.muli 13#32 1#32, 0#32⟩) := by
  rw [k0_part44_eq_skeleton]; unfold k0_part44_skel each; rfl

theorem part45 (d : Dev nD) (v1083 : BitVec 32) (c0_i32_1307 : BitVec 32) :
    k0_part45 (F := F) xM hx iM0 hi0 oM0 ho0 iM1 hi1 oM1 ho1 iM2 hi2 oM2 ho2 yM hy pM hp sM hs gM hg cc0_scratch3 cc0_scratch4 cc0_scratch5 cc0_scratch6 d (word d) v1083 c0_i32_1307
      = (each [13, 14, 15] rsWait <| loadSlots fun v1104 => loadRow yM d fun _ => storeY d (k0_pay26 v1104) <| pure ⟨⟩) := by
  rw [k0_part45_eq_skeleton]; unfold k0_part45_skel each; rfl

theorem part46 (d : Dev nD) :
    k0_part46 (F := F) xM hx iM0 hi0 oM0 ho0 iM1 hi1 oM1 ho1 iM2 hi2 oM2 ho2 yM hy pM hp sM hs gM hg cc0_scratch3 cc0_scratch4 cc0_scratch5 cc0_scratch6 d (word d)
      = (each [0, 1, 2, 3, 4] (agStart yM yXD yL d) <| pure 5#32) := by
  rw [k0_part46_eq_skeleton]; unfold k0_part46_skel each; rfl

theorem part47 (d : Dev nD) (c5_i32_1365 : BitVec 32) :
    k0_part47 (F := F) xM hx iM0 hi0 oM0 ho0 iM1 hi1 oM1 ho1 iM2 hi2 oM2 ho2 yM hy pM hp sM hs gM hg cc0_scratch3 cc0_scratch4 cc0_scratch5 cc0_scratch6 d (word d) c5_i32_1365
      = (each [5, 6, 7, 8, 9] (agStart yM yXD yL d) <| pure ⟨⟩) := by
  rw [k0_part47_eq_skeleton]; unfold k0_part47_skel each; rfl

theorem part48 (d : Dev nD) :
    k0_part48 (F := F) xM hx iM0 hi0 oM0 ho0 iM1 hi1 oM1 ho1 iM2 hi2 oM2 ho2 yM hy pM hp sM hs gM hg cc0_scratch3 cc0_scratch4 cc0_scratch5 cc0_scratch6 d (word d)
      = (each [10, 11, 12, 13, 14, 15] (agStart yM yXD yL d) <| pure (Scalar.extui (Scalar.cmpi .ne (word d) 0#32))) := by
  rw [k0_part48_eq_skeleton]; unfold k0_part48_skel each; rfl

theorem part49 (d : Dev nD) :
    k0_part49 (F := F) xM hx iM0 hi0 oM0 ho0 iM1 hi1 oM1 ho1 iM2 hi2 oM2 ho2 yM hy pM hp sM hs gM hg cc0_scratch3 cc0_scratch4 cc0_scratch5 cc0_scratch6 (word d) (Scalar.extui (Scalar.cmpi .ne (word d) 0#32))
      = (each [0, 1, 2, 3, 4, 5, 6, 7] (agWait yM yX (word d)) <| pure ⟨⟩) := by
  rw [k0_part49_eq_skeleton]; unfold k0_part49_skel each; rfl

theorem part50 (d : Dev nD) :
    k0_part50 (F := F) xM hx iM0 hi0 oM0 ho0 iM1 hi1 oM1 ho1 iM2 hi2 oM2 ho2 yM hy pM hp sM hs gM hg cc0_scratch3 cc0_scratch4 cc0_scratch5 cc0_scratch6 (word d)
      = (each [8, 9, 10, 11, 12, 13, 14] (agWait yM yX (word d)) <| pure (Scalar.extui (Scalar.cmpi .ne (word d) 15#32))) := by
  rw [k0_part50_eq_skeleton]; unfold k0_part50_skel each; rfl

theorem part51 (d : Dev nD) :
    k0_part51 (F := F) xM hx iM0 hi0 oM0 ho0 iM1 hi1 oM1 ho1 iM2 hi2 oM2 ho2 yM hy pM hp sM hs gM hg cc0_scratch3 cc0_scratch4 cc0_scratch5 cc0_scratch6 d (word d) (Scalar.extui (Scalar.cmpi .ne (word d) 15#32))
      = (each [15] (agWait yM yX (word d)) <| each [0, 1, 2, 3] (sendWait yM yXD d) <| pure ⟨⟩) := by
  rw [k0_part51_eq_skeleton]; unfold k0_part51_skel each; rfl

theorem part52 (d : Dev nD) :
    k0_part52 (F := F) xM hx iM0 hi0 oM0 ho0 iM1 hi1 oM1 ho1 iM2 hi2 oM2 ho2 yM hy pM hp sM hs gM hg cc0_scratch3 cc0_scratch4 cc0_scratch5 cc0_scratch6 d (word d)
      = (each [4, 5, 6, 7] (sendWait yM yXD d) <| pure ⟨⟩) := by
  rw [k0_part52_eq_skeleton]; unfold k0_part52_skel each; rfl

theorem part53 (d : Dev nD) :
    k0_part53 (F := F) xM hx iM0 hi0 oM0 ho0 iM1 hi1 oM1 ho1 iM2 hi2 oM2 ho2 yM hy pM hp sM hs gM hg cc0_scratch3 cc0_scratch4 cc0_scratch5 cc0_scratch6 d (word d)
      = (each [8, 9, 10, 11] (sendWait yM yXD d) <| pure (Scalar.extui (Scalar.cmpi .ne (word d) 12#32))) := by
  rw [k0_part53_eq_skeleton]; unfold k0_part53_skel each; rfl

end Cert.Proof

end
-- ==== Proof.Whole.lean ====
/-
  The printed body is `body`.
-/
module

public import proofs.«01_k».proof.Proof.Parts
public import Idealize.ShloMosaic.Lib.Pipeline.Value

@[expose] public section

noncomputable section

namespace Cert.Proof

open Cert.KernelIdeal Cert.KernelIdeal.Gen

open Idealize.ShloMosaic
open Idealize.ShloMosaic.TcCoe
open Idealize.SL Idealize.SL.Sem

variable {F : FTy → Type} [FloatOps F]

section Bind

variable {α β : Type} (K : α → Text F β)

theorem bind_dite {c : Prop} [Decidable c] (a : c → Text F α) (b : ¬ c → Text F α) :
    Prog.bind (dite c a b) K = dite c (fun h => Prog.bind (a h) K) (fun h => Prog.bind (b h) K) := by
  split <;> rfl

theorem bind_each {f : Dev nD → Text F α → Text F α} {g : Dev nD → Text F β → Text F β}
    (h : ∀ k r, Prog.bind (f k r) K = g k (Prog.bind r K)) (l : List (Dev nD)) (r : Text F α) :
    Prog.bind (each l f r) K = each l g (Prog.bind r K) := by
  induction l with
  | nil => rfl
  | cons k l ih => exact (h k _).trans (congrArg (g k) ih)

theorem bind_signal (l r) : Prog.bind (each l signal r) K = each l signal (Prog.bind r K) := bind_each K (fun _ _ => rfl) l r
theorem bind_rsWait (l r) : Prog.bind (each l rsWait r) K = each l rsWait (Prog.bind r K) := bind_each K (fun _ _ => rfl) l r
theorem bind_rsStart (d l r) : Prog.bind (each l (rsStart d) r) K = each l (rsStart d) (Prog.bind r K) :=
  bind_each K (fun _ _ => bind_dite K _ _) l r
theorem bind_agStart {e : EltTy} (M : Memref sig .tc .vmem S512x256 e) (hM hl d l r) :
    Prog.bind (each l (agStart M hM hl d) r) K = each l (agStart M hM hl d) (Prog.bind r K) :=
  bind_each K (fun _ _ => bind_dite K _ _) l r
theorem bind_agWait {e : EltTy} (M : Memref sig .tc .vmem S512x256 e) (hM d l r) :
    Prog.bind (each l (agWait M hM d) r) K = each l (agWait M hM d) (Prog.bind r K) :=
  bind_each K (fun _ _ => bind_dite K _ _) l r
theorem bind_sendWait {e : EltTy} (M : Memref sig .tc .vmem S512x256 e) (hM d l r) :
    Prog.bind (each l (sendWait M hM d) r) K = each l (sendWait M hM d) (Prog.bind r K) :=
  bind_each K (fun _ _ => bind_dite K _ _) l r
theorem ret_bind (a : α) : Prog.bind (.ret a) K = K a := rfl
theorem op_bind {β' : Type} (e : TpuEff nD τ sig (Elt F) Λ₀ .tc β') (k : β' → Text F α) : Prog.bind (.op e k) K = .op e fun b => Prog.bind (k b) K := rfl
theorem bind_awaitAll (r : Text F α) : Prog.bind (awaitAll r) K = awaitAll (Prog.bind r K) := rfl
theorem bind_loadI (M r) : Prog.bind (loadI M r) K = loadI M fun v => Prog.bind (r v) K := rfl
theorem bind_loadO (M r) : Prog.bind (loadO M r) K = loadO M fun v => Prog.bind (r v) K := rfl
theorem bind_loadS (M s r) : Prog.bind (loadS M s r) K = loadS M s fun v => Prog.bind (r v) K := rfl
theorem bind_loadSlots (r) : Prog.bind (loadSlots r) K = loadSlots fun v => Prog.bind (r v) K := rfl
theorem bind_loadRow {e : EltTy} (M : Memref sig .tc .vmem S512x256 e) (d r) : Prog.bind (loadRow M d r) K = loadRow M d fun v => Prog.bind (r v) K := rfl
theorem bind_storeS (s v r) : Prog.bind (storeS s v r) K = storeS s v (Prog.bind r K) := rfl
theorem bind_storeG (s v r) : Prog.bind (storeG s v r) K = storeG s v (Prog.bind r K) := rfl
theorem bind_storeY (s v r) : Prog.bind (storeY s v r) K = storeY s v (Prog.bind r K) := rfl
theorem bind_rsOwn (d r) : Prog.bind (rsOwn d r) K = rsOwn d (Prog.bind r K) := rfl

end Bind

theorem each_append {α : Type} (l l' : List (Dev nD)) (f : Dev nD → Text F α → Text F α) (r : Text F α) :
    each l f (each l' f r) = each (l ++ l') f r := (List.foldr_append ..).symm

section Payloads

variable (w : Vec F S256x512 .bf16) (u : Vec F S512x256 .bf16) (x : Vec F S128x256 .bf16)

theorem pay_a : k0_pay3 w u x = stageV w u x := by
  unfold stageV; exact congrArg (k0_pay25 (k0_pay19 w) (k0_pay20 u)) (shapeCast_self x shapeCasts_S128x256_S128x256)
theorem pay_b : k0_pay4 (k0_pay1 w) (k0_pay2 u) x = stageV w u x := by
  unfold stageV; exact congrArg (k0_pay25 (k0_pay19 w) (k0_pay20 u)) (shapeCast_self x shapeCasts_S128x256_S128x256)
theorem pay_c : k0_pay6 (k0_pay5 (k0_pay1 w) (k0_pay2 u) x) = stageV w u x := by
  unfold stageV; exact congrArg (k0_pay25 (k0_pay19 w) (k0_pay20 u)) (shapeCast_self x shapeCasts_S128x256_S128x256)
theorem pay_d : k0_pay7 (k0_pay1 w) (k0_pay2 u) x = stageV w u x := by
  unfold stageV; exact congrArg (k0_pay25 (k0_pay19 w) (k0_pay20 u)) (shapeCast_self x shapeCasts_S128x256_S128x256)
theorem pay_e : k0_pay13 (k0_pay10 u) (k0_pay11 w x) k0_pay12 = stageV w u x := rfl
theorem pay_f : k0_pay14 (k0_pay9 w) (k0_pay10 u) x = stageV w u x := rfl
theorem pay_g : k0_pay15 (k0_pay9 w) (k0_pay10 u) x = stageV w u x := rfl
theorem pay_h : k0_pay17 (k0_pay16 (k0_pay9 w) (k0_pay10 u) x) = stageV w u x := rfl
theorem pay_i : k0_pay21 (k0_pay19 w) (k0_pay20 u) x = stageV w u x := rfl
theorem pay_j : k0_pay22 (k0_pay19 w) (k0_pay20 u) x = stageV w u x := rfl
theorem pay_k : k0_pay24 (k0_pay23 (k0_pay19 w) (k0_pay20 u) x) = stageV w u x := rfl
theorem pay_l : k0_pay25 (k0_pay19 w) (k0_pay20 u) x = stageV w u x := rfl
theorem pay_m (v : Vec F S16x32x256 .bf16) : k0_pay8 v = sumG v := rfl
theorem pay_n (v : Vec F S16x32x256 .bf16) : k0_pay18 v = sumG v := rfl
theorem pay_o (v : Vec F S16x32x256 .bf16) : k0_pay26 v = sumY v := rfl

end Payloads

set_option maxHeartbeats 4000000 in
set_option maxRecDepth 65536 in
/-- The last part. -/
theorem last :
    cc0_body (F := F) xM hx iM0 hi0 oM0 ho0 iM1 hi1 oM1 ho1 iM2 hi2 oM2 ho2 yM hy pM hp sM hs gM hg cc0_scratch3 cc0_scratch4 cc0_scratch5 cc0_scratch6
      = Prog.bind (k0_part54 (F := F) xM hx iM0 hi0 oM0 ho0 iM1 hi1 oM1 ho1 iM2 hi2 oM2 ho2 yM hy pM hp sM hs gM hg cc0_scratch3 cc0_scratch4 cc0_scratch5 cc0_scratch6)
          fun p => each [13, 14, 15] (sendWait yM yXD p.1) (pure ⟨⟩) := by
  rw [cc0_body_eq_skeleton]; unfold cc0_body_skel each; rfl

set_option maxHeartbeats 4000000 in
set_option maxRecDepth 65536 in
theorem body_eq :
    cc0_body (F := F) xM hx iM0 hi0 oM0 ho0 iM1 hi1 oM1 ho1 iM2 hi2 oM2 ho2 yM hy pM hp sM hs gM hg cc0_scratch3 cc0_scratch4 cc0_scratch5 cc0_scratch6
      = .op .deviceId fun d => body d (pure ⟨⟩) := by
  rw [last, k0_part54_eq_skeleton]; unfold k0_part54_skel
  rw [part1]
  simp only [bind, op_bind]
  refine congrArg (Prog.op _) (funext fun d => ?_)
  simp only [pure, ret_bind, bind_signal, bind_awaitAll, bind_loadI, bind_loadO, bind_loadS, bind_storeS, bind_rsStart, bind_rsOwn,
    bind_rsWait, bind_loadSlots, bind_loadRow, bind_storeG, bind_storeY, bind_agStart, bind_agWait, bind_sendWait, part2, part3, part4, part5, part6, part7, part8, part9, part10, part11, part12, part13, part14, part15, part16, part17, part18, part19, part20, part21, part22, part23, part24, part25, part26, part27, part28, part29, part30, part31, part32, part33, part34, part35, part36, part37, part38, part39, part40, part41, part42, part43, part44, part45, part46, part47, part48, part49, part50, part51, part52, part53]
  simp only [pay_a, pay_b, pay_c, pay_d, pay_e, pay_f, pay_g, pay_h, pay_i, pay_j, pay_k, pay_l, pay_m, pay_n, pay_o,
    body, firstLayer, laterLayer, spread, finish, stage, collect, own, all, each_append, List.cons_append, List.nil_append]
  repeat' with_reducible first
    | refine congrArg (awaitAll) ?_
    | refine congrArg (rsOwn _) ?_
    | refine congrArg (each _ _) ?_
    | refine congrArg (storeS _ _) ?_
    | refine congrArg (storeG _ _) ?_
    | refine congrArg (storeY _ _) ?_
    | refine congrArg (loadI _) (funext fun _ => ?_)
    | refine congrArg (loadO _) (funext fun _ => ?_)
    | refine congrArg (loadS _ _) (funext fun _ => ?_)
    | refine congrArg (loadRow _ _) (funext fun _ => ?_)
    | refine congrArg loadSlots (funext fun _ => ?_)
  rw [bind_dite]
  change each _ _ _ = each ([0, 1, 2, 3, 4, 5, 6, 7, 8, 9, 10, 11] ++ [12, 13, 14, 15]) (sendWait yM yXD d) (.ret PUnit.unit)
  rw [← each_append]
  refine congrArg (each _ _) ?_
  rw [each, List.foldr_cons, ← each, sendWait]
  exact dite_congr rfl (fun h => rfl) (fun h => rfl)

end Cert.Proof

end
-- ==== Proof.Body.lean ====
/-
  The whole body on a symbolic device: from what the launch deals it to the result, every semaphore back at zero.
-/
module

public import proofs.«01_k».proof.Proof.Layer
public import proofs.«01_k».proof.Proof.Whole

@[expose] public section

noncomputable section

namespace Cert.Proof

open Cert.KernelIdeal Cert.KernelIdeal.Gen

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (D : Inputs F) (c : Dev nD)

/-- What a device starts from towards each peer. -/
def T0 (k : Dev nD) : sProp 𝕄 :=
  if k = c then iprop(ownToks (F := F) 0 c ∗ stands (F := F) (rsR c c) 0 ∗ idle (F := F) c)
  else iprop(toks (F := F) 0 c k ∗ stands (F := F) (rsS c k) 0 ∗ stands (F := F) (rsR c k) 0 ∗ stands (F := F) (agS c k) 0 ∗ stands (F := F) (agR c k) 0)
/-- What a device starts from. -/
def begins : sProp 𝕄 := iprop(atPos ER (barC c) 0 ∅ 0 ∗ cred (tallyAt (barC c) 0 16)
  ∗ (bigSep Finset.univ fun k : Dev nD => dutyTok ER (barC k) 0 c) ∗ bigSep Finset.univ (T0 (F := F) c))
/-- The device's cells back at zero. -/
def zeros4 (k : Dev nD) : sProp 𝕄 := iprop(semVal (rsS c k) 0 ∗ semVal (rsR c k) 0 ∗ semVal (agS c k) 0 ∗ semVal (agR c k) 0)
def zeros : sProp 𝕄 := iprop(semVal (barC c) 0 ∗ bigSep Finset.univ (zeros4 (F := F) c))
/-- The kernel's own three buffers, at anything. -/
def scratch : sProp 𝕄 := iprop((∃ f, whole (F := F) c pM f) ∗ (∃ f, whole (F := F) c sM f) ∗ (∃ f, whole (F := F) c gM f))
/-- The staged inputs. -/
def given : sProp 𝕄 := iprop(whole c xM (D.x c) ∗ (whole c iM0 (D.wi 0 c) ∗ whole c oM0 (D.wo 0 c))
  ∗ (whole c iM1 (D.wi 1 c) ∗ whole c oM1 (D.wo 1 c)) ∗ (whole c iM2 (D.wi 2 c) ∗ whole c oM2 (D.wo 2 c)))

/-! ## The cells closed -/

theorem close_one {g : GSem nD τ sig} {n : ℕ} (h : ∀ r, n ≤ r → (Rd D).duties g r = ∅) :
    iprop(known D g ∗ stands (F := F) g n) ⊢ iprop(|={Set.univ}=> semVal g 0) := by
  unfold known stands
  iintro ⟨⟨⟨%κ, Hi⟩, -⟩, Hp, -⟩
  iapply (Rounds.cell_close ER (Rd D) (Set.mem_univ κ) (fun h => h) (R := n) h)
  isplitl [Hi] <;> iassumption

/-- The positions at the end. -/
def ends (k : Dev nD) : sProp 𝕄 := iprop(stands (F := F) (rsR c k) 3
  ∗ if k = c then idle (F := F) c else iprop(stands (F := F) (rsS c k) 3 ∗ stands (F := F) (agS c k) 3 ∗ stands (F := F) (agR c k) 3))

theorem close_four (k : Dev nD) : iprop(Ctx D ∗ ends (F := F) c k) ⊢ iprop(|={Set.univ}=> zeros4 (F := F) c k) := by
  have h (a b d : ℕ) (ha : ∀ r, a ≤ r → (Rd D).duties (rsS c k) r = ∅) (hb : ∀ r, b ≤ r → (Rd D).duties (agS c k) r = ∅)
      (hd : ∀ r, d ≤ r → (Rd D).duties (agR c k) r = ∅) :
      iprop(Ctx D ∗ stands (F := F) (rsR c k) 3 ∗ stands (F := F) (rsS c k) a ∗ stands (F := F) (agS c k) b ∗ stands (F := F) (agR c k) d)
        ⊢ iprop(|={Set.univ}=> zeros4 (F := F) c k) := by
    unfold zeros4
    iintro ⟨#HC, H1, H2, H3, H4⟩
    ihave #K1 := (known_rsR D c k) $$ HC
    ihave #K2 := (known_rsS D c k) $$ HC
    ihave #K3 := (known_agS D c k) $$ HC
    ihave #K4 := (known_agR D c k) $$ HC
    imod (close_one D (duties_late D (rsR c k))) $$ [H1] with H1
    · isplitr; · iexact K1
      iexact H1
    imod (close_one D ha) $$ [H2] with H2
    · isplitr; · iexact K2
      iexact H2
    imod (close_one D hb) $$ [H3] with H3
    · isplitr; · iexact K3
      iexact H3
    imod (close_one D hd) $$ [H4] with H4
    · isplitr; · iexact K4
      iexact H4
    imodintro
    isplitl [H2]; · iexact H2
    isplitl [H1]; · iexact H1
    isplitl [H3] <;> iassumption
  unfold ends
  by_cases hk : k = c
  · subst hk
    simp only [if_pos]
    exact h 0 0 0 (duties_rsS_self D k) (duties_agS_self D k) (duties_agR_self D k)
  · simp only [if_neg hk]
    exact h 3 3 3 (duties_late D _) (duties_late D _) (duties_late D _)

theorem star_with {Rp : sProp 𝕄} [BI.Persistent Rp] {Φ Ψ : Dev nD → sProp 𝕄} (h : ∀ k, iprop(Rp ∗ Φ k) ⊢ Ψ k) :
    iprop(Rp ∗ bigSep Finset.univ Φ) ⊢ bigSep Finset.univ Ψ :=
  (sep_mono_left (BI.bigSep_of_persistent Finset.univ Rp)).trans ((Entails.of_eq (star_sep (fun _ => Rp) Φ).symm).trans (star_mono h))

theorem close_all : iprop(Ctx D ∗ atPos ER (barC c) 1 ∅ 0 ∗ bigSep Finset.univ (ends (F := F) c)) ⊢ iprop(|={Set.univ}=> zeros (F := F) c) := by
  have h : iprop(Ctx D ∗ bigSep Finset.univ (ends (F := F) c)) ⊢ iprop(|={Set.univ}=> bigSep Finset.univ (zeros4 (F := F) c)) :=
    (star_with fun k => close_four D c k).trans (bigSep_fupd _ _)
  unfold zeros
  iintro ⟨#HC, Hb, He⟩
  ihave H := (known_bar D c) $$ HC
  ihave H := (known_inv D (barC c)) $$ H
  icases H with ⟨%κ, #Hi⟩
  imod (Rounds.cell_close ER (Rd D) (Set.mem_univ κ) (fun h => h) (R := 1) (duties_bar_late D c)) $$ [Hb] with Hb
  · isplitr; · iexact Hi
    iexact Hb
  imod h $$ [He] with He
  · isplitr; · iexact HC
    iexact He
  imodintro
  isplitl [Hb] <;> iassumption

/-! ## Buffers split and rejoined -/

theorem rows_of {e : EltTy} (M : Memref sig .tc .vmem S512x256 e) : iprop(∃ f, whole (F := F) c M f) ⊢ bigSep Finset.univ fun k => rowAny (F := F) M c k := by
  unfold whole
  iintro ⟨%f, H⟩
  iapply ((Entails.of_eq (pts_rows M c fullShare f)).trans (star_mono fun k => rowPts_any c k M f)); iexact H
theorem slots_of : iprop(∃ f, whole (F := F) c sM f) ⊢ bigSep Finset.univ fun k => slotAny (F := F) c k := by
  unfold whole
  iintro ⟨%f, H⟩
  iapply ((Entails.of_eq (pts_slots c f)).trans (star_mono fun k => slotPts_any c k f)); iexact H

include D in
theorem scratch_of : iprop(bigSep Finset.univ (fun k => rowAny (F := F) pM c k) ∗ bigSep Finset.univ (fun k => slotAny (F := F) c k)
    ∗ bigSep Finset.univ (fun k => rowAny (F := F) gM c k)) ⊢ scratch (F := F) c := by
  haveI : Nonempty (Buf (Elt F) (pM.view.loc (c : Thread nD τ))) := ⟨D.P 0 c⟩
  haveI : Nonempty (Buf (Elt F) (gM.view.loc (c : Thread nD τ))) := ⟨D.G 0⟩
  haveI : Nonempty (Buf (Elt F) (sM.view.loc (c : Thread nD τ))) := ⟨D.Y 0 c⟩
  unfold scratch
  iintro ⟨H1, H2, H3⟩
  isplitl [H1]; · iapply (any_rows pM c); iexact H1
  isplitl [H2]; · iapply (any_slots c); iexact H2
  iapply (any_rows gM c); iexact H3

/-- What a device has towards a peer once all have entered. -/
theorem entered (k : Dev nD) :
    iprop(Ctx D ∗ rowAny (F := F) pM c k ∗ rowAny (F := F) gM c k ∗ rowAny (F := F) yM c k ∗ slotAny (F := F) k c ∗ T0 (F := F) c k) ⊢ S1 c D 0 k := by
  unfold S1 S1r T0 gRow
  by_cases hk : k = c
  · subst hk
    simp only [if_pos]
    iintro ⟨-, Hp, Hg, Hy, Hs, Ht, Hr, Hi⟩
    isplitl [Hp]; · iexact Hp
    isplitl [Hg]; · iexact Hg
    isplitl [Hy]; · iexact Hy
    isplitl [Ht]; · iexact Ht
    isplitl [Hr]; · iexact Hr
    isplitl [Hs] <;> iassumption
  · simp only [if_neg hk]
    iintro ⟨#HC, Hp, Hg, Hy, Hs, Ht, H1, H2, H3, H4⟩
    ihave #HK := (known_rsR D k c) $$ HC
    isplitl [Hp]; · iexact Hp
    isplitl [Hg]; · iexact Hg
    isplitl [Hy]; · iexact Hy
    isplitl [Ht]; · iexact Ht
    isplitl [H1]; · iexact H1
    isplitl [H2]; · iexact H2
    isplitl [H3]; · iexact H3
    isplitl [H4]; · iexact H4
    isplitl [Hs]; · iexact Hs
    unfold known
    icases HK with ⟨-, #HK⟩
    iexact HK

/-! ## The weights -/

theorem zero2 : (![0, 0] : Fin 2 → ℕ) = fun _ => 0 := funext fun a => by fin_cases a <;> rfl

variable (Q : PUnit → sProp (MT nD τ sig ℕ (Elt F) ℕ UU ℕ))

theorem wp_body :
    iprop(Ctx D ∗ begins (F := F) c ∗ owe (F := F) c 0 ∗ scratch (F := F) c ∗ (∃ f, whole (F := F) c yM f) ∗ given D c
        ∗ ((owe (F := F) c 112 ∗ zeros (F := F) c ∗ scratch (F := F) c ∗ whole c yM D.out ∗ given D c) -∗ Q ⟨⟩))
      ⊢ WP c (body c (pure ⟨⟩)) Q := by
  have hen := star_with (Rp := Ctx D) fun k => entered D c k
  rw [star_sep, star_sep, star_sep, star_sep] at hen
  have hend : bigSep Finset.univ (fun k => F5 c D k) = iprop(bigSep Finset.univ (fun k => rowAny (F := F) pM c k) ∗ bigSep Finset.univ (fun k => slotAny (F := F) c k)
      ∗ bigSep Finset.univ (fun k => rowAny (F := F) gM c k) ∗ bigSep Finset.univ (fun k => rowPts (F := F) yM c k fullShare D.out) ∗ bigSep Finset.univ (ends (F := F) c)) := by
    rw [← star_sep, ← star_sep, ← star_sep, ← star_sep]; rfl
  have hy : bigSep Finset.univ (fun k => rowPts (F := F) yM c k fullShare D.out) ⊢ whole c yM D.out := Entails.of_eq (pts_rows yM c fullShare D.out).symm
  have hscr := scratch_of D c
  unfold scratch at hscr
  have hcl := close_all D c
  unfold begins given body
  iintro ⟨#HC, ⟨Hb, Hc, Ht, Hp⟩, HO, Hscr, Hy, ⟨Hx, ⟨Hi0, Ho0⟩, ⟨Hi1, Ho1⟩, ⟨Hi2, Ho2⟩⟩, Hk⟩
  unfold scratch
  icases Hscr with ⟨HP, HS, HG⟩
  ihave HP := (rows_of c pM) $$ HP
  ihave HG := (rows_of c gM) $$ HG
  ihave HY := (rows_of c yM) $$ Hy
  ihave HS := (slots_of c) $$ HS
  iapply (wp_all Q c (Rp := Ctx D) signal (fun a => owe (F := F) c a) (fun k => iprop(dutyTok ER (barC k) 0 c ∗ slotAny (F := F) c k)) (fun _ => iprop(emp))
    (fun k r => wp_signal_one D c k r Q) _)
  isplitr; · iexact HC
  isplitl [HO]; · iexact HO
  isplitl [Ht HS]
  · rw [star_sep]
    isplitl [Ht] <;> iassumption
  iintro ⟨HO, -⟩
  iapply (wp_awaitAll D c (n := 16) (by decide) _ Q)
  isplitr; · iexact HC
  isplitl [HO]; · iexact HO
  isplitl [Hb]; · iexact Hb
  isplitl [Hc]; · iexact Hc
  iintro ⟨HO, Hb, HS⟩
  ihave Hs := hen $$ [HP HG HY HS Hp]
  · isplitr; · iexact HC
    isplitl [HP]; · iexact HP
    isplitl [HG]; · iexact HG
    isplitl [HY]; · iexact HY
    isplitl [HS] <;> iassumption
  iapply (wp_firstLayer Q c D (D.wi 0 c) (D.wo 0 c) (Memref.read_access_unit_zero (Elt F) cc0_stg1_0 zero2 _ _)
    (Memref.read_access_unit_zero (Elt F) cc0_stg2_0 zero2 _ _) _)
  isplitr; · iexact HC
  isplitl [HO]; · iexact HO
  isplitl [Hi0]; · iexact Hi0
  isplitl [Ho0]; · iexact Ho0
  isplitl [Hx]; · iexact Hx
  isplitl [Hs]; · iexact Hs
  iintro ⟨HO, Hi0, Ho0, Hx, Hs⟩
  iapply (wp_spread Q c D 0 (by decide) _)
  isplitr; · iexact HC
  isplitl [HO]; · iexact HO
  isplitl [Hs]; · iexact Hs
  iintro ⟨HO, Hs⟩
  iapply (wp_laterLayer Q c D 0 (by decide) iM1 oM1 (D.wi 1 c) (D.wo 1 c) (Memref.read_access_unit_zero (Elt F) cc0_stg3_0 zero2 _ _)
    (Memref.read_access_unit_zero (Elt F) cc0_stg4_0 zero2 _ _) _)
  isplitr; · iexact HC
  isplitl [HO]; · iexact HO
  isplitl [Hi1]; · iexact Hi1
  isplitl [Ho1]; · iexact Ho1
  isplitl [Hs]; · iexact Hs
  iintro ⟨HO, Hi1, Ho1, Hs⟩
  iapply (wp_spread Q c D 1 (by decide) _)
  isplitr; · iexact HC
  isplitl [HO]; · iexact HO
  isplitl [Hs]; · iexact Hs
  iintro ⟨HO, Hs⟩
  iapply (wp_laterLayer Q c D 1 (by decide) iM2 oM2 (D.wi 2 c) (D.wo 2 c) (Memref.read_access_unit_zero (Elt F) cc0_stg5_0 zero2 _ _)
    (Memref.read_access_unit_zero (Elt F) cc0_stg6_0 zero2 _ _) _)
  isplitr; · iexact HC
  isplitl [HO]; · iexact HO
  isplitl [Hi2]; · iexact Hi2
  isplitl [Ho2]; · iexact Ho2
  isplitl [Hs]; · iexact Hs
  iintro ⟨HO, Hi2, Ho2, Hs⟩
  iapply (wp_finish Q c D _)
  isplitr; · iexact HC
  isplitl [HO]; · iexact HO
  isplitl [Hs]; · iexact Hs
  rw [hend]
  iintro ⟨HO, HP, HS, HG, HY, He⟩
  rw [show WP c (pure ⟨⟩ : Text F PUnit) Q = iprop(|={Set.univ}=> Q ⟨⟩) from wp_ret ..]
  imod hcl $$ [Hb He] with Hz
  · isplitr; · iexact HC
    isplitl [Hb] <;> iassumption
  imodintro
  iapply Hk
  isplitl [HO]; · iexact HO
  isplitl [Hz]; · iexact Hz
  isplitl [HP HS HG]
  · iapply hscr
    isplitl [HP]; · iexact HP
    isplitl [HS] <;> iassumption
  isplitl [HY]; · iapply hy; iexact HY
  isplitl [Hx]; · iexact Hx
  isplitl [Hi0 Ho0]; · isplitl [Hi0] <;> iassumption
  isplitl [Hi1 Ho1]; · isplitl [Hi1] <;> iassumption
  isplitl [Hi2] <;> iassumption

end Cert.Proof

end
-- ==== Proof.Deal.lean ====
/-
  What the launch deals the devices: the cells' positions, the tokens of the duties each device pays, and the credits of
  the waits it makes.
-/
module

public import proofs.«01_k».proof.Proof.Body
public import proofs.«01_k».proof.Proof.Gen.KernelIdeal.Launch
public import Idealize.ShloMosaic.Lib.Pipeline.Launch
public import Idealize.ShloMosaic.Lib.Pipeline.Kit
public import Mathlib.Algebra.BigOperators.Intervals

@[expose] public section

noncomputable section

namespace Cert.Proof

open Cert.KernelIdeal Cert.KernelIdeal.Gen

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (D : Inputs F) (c : Dev nD)

/-! ## The cells, counted -/

/-- Two families commute. -/
theorem star_comm (Φ : Dev nD → Dev nD → sProp 𝕄) (s : Finset (Dev nD)) :
    (bigSep s fun i => bigSep Finset.univ fun j => Φ i j) = bigSep Finset.univ fun j => bigSep s fun i => Φ i j := by
  induction s using Finset.induction_on with
  | empty => simp only [bigSep_empty, bigSep_emp_const]
  | insert i s hi ih =>
    rw [star_insert hi, ih, ← star_sep]
    exact bigSep_congr fun j _ => (star_insert hi (Φ := fun i => Φ i j)).symm

/-- The kernel's own semaphores. -/
abbrev osem (j : Fin 64) : SemLoc sig := .dma ⟨8 + j.val, Nat.add_lt_add_left j.isLt 8⟩

theorem csem_own (j : Fin 64) : csem j.castSucc = osem j := dif_pos j.isLt

/-- A family over a device's cells: the barrier's member and the sixty-four. -/
theorem star_cells (Φ : GSem nD τ sig → sProp 𝕄) :
    bigSep Finset.univ (fun j : Fin 65 => Φ (kcell (c, j))) = iprop(Φ (barC c) ∗ bigSep Finset.univ fun j : Fin 64 => Φ ((c : Thread nD τ), osem j)) := by
  have e : (Finset.univ.erase 64 : Finset (Fin 65)) = Finset.univ.map Fin.castSuccEmb := by decide +kernel
  rw [star_take (Finset.mem_univ (64 : Fin 65)), e, bigSep_map]
  exact congrArg (fun P => iprop(Φ (barC c) ∗ P)) (bigSep_congr fun j _ => congrArg (fun sm => Φ ((c : Thread nD τ), sm)) (csem_own j))

/-- A family over the sixty-four: four for each peer. -/
theorem star_osem (Φ : GSem nD τ sig → sProp 𝕄) :
    bigSep Finset.univ (fun j : Fin 64 => Φ ((c : Thread nD τ), osem j))
      = bigSep Finset.univ fun k : Dev nD => iprop(Φ (rsS c k) ∗ Φ (rsR c k) ∗ Φ (agS c k) ∗ Φ (agR c k)) := by
  have h4 (Ψ : Fin 4 → sProp 𝕄) : bigSep Finset.univ Ψ = iprop(Ψ 0 ∗ Ψ 1 ∗ Ψ 2 ∗ Ψ 3) := bigSep_univ_eq_bigSepL [0, 1, 2, 3] (by decide) (by decide) Ψ
  have hs : ∀ k : Dev nD, osem (finProdFinEquiv ((0 : Fin 4), (k : Fin 16))) = .dma (semAt cc0_scratch3 k) := by decide +kernel
  have hr : ∀ k : Dev nD, osem (finProdFinEquiv ((1 : Fin 4), (k : Fin 16))) = .dma (semAt cc0_scratch4 k) := by decide +kernel
  have gs : ∀ k : Dev nD, osem (finProdFinEquiv ((2 : Fin 4), (k : Fin 16))) = .dma (semAt cc0_scratch5 k) := by decide +kernel
  have gr : ∀ k : Dev nD, osem (finProdFinEquiv ((3 : Fin 4), (k : Fin 16))) = .dma (semAt cc0_scratch6 k) := by decide +kernel
  rw [bigSep_univ_equiv (finProdFinEquiv : Fin 4 × Fin 16 ≃ Fin 64), bigSep_univ_prod, h4, star_sep, star_sep, star_sep]
  have cong (i : Fin 4) (f : Dev nD → SemLoc sig) (h : ∀ k : Dev nD, osem (finProdFinEquiv (i, (k : Fin 16))) = f k) :
      bigSep Finset.univ (fun k : Fin 16 => Φ ((c : Thread nD τ), osem (finProdFinEquiv (i, k)))) = bigSep Finset.univ fun k : Dev nD => Φ ((c : Thread nD τ), f k) :=
    bigSep_congr fun k _ => congrArg (fun sm => Φ ((c : Thread nD τ), sm)) (h k)
  rw [cong 0 _ hs, cong 1 _ hr, cong 2 _ gs, cong 3 _ gr]

theorem csem_injective : Function.Injective csem := by
  intro j j' h
  have hj := j.isLt
  have hj' := j'.isLt
  unfold csem at h
  apply Fin.ext
  split at h <;> split at h
  · have := congrArg Fin.val (SemLoc.dma.inj h)
    dsimp only at this
    omega
  · exact absurd h (fun h => by cases h)
  · exact absurd h (fun h => by cases h)
  · omega
theorem kcell_injective : Function.Injective kcell := by
  rintro ⟨c, j⟩ ⟨c', j'⟩ h
  exact Prod.ext (congrArg (fun g : GSem nD τ sig => g.1.1) h) (csem_injective (congrArg Prod.snd h))

/-! ## Minting -/

def allCells : Finset (GSem nD τ sig) := Finset.univ.map ⟨kcell, kcell_injective⟩

abbrev barTok (x : Dev nD × Dev nD) : GSem nD τ sig × ℕ × Dev nD := (barC x.1, 0, x.2)
abbrev xferTok (x : Dev nD × Fin 64 × Fin 3) : GSem nD τ sig × ℕ × Dev nD := (((x.1 : Thread nD τ), osem x.2.1), x.2.2.val, 0)

theorem barTok_injective : Function.Injective barTok := fun x y h =>
  Prod.ext (congrArg (fun t : GSem nD τ sig × ℕ × Dev nD => t.1.1.1) h) (congrArg (fun t : GSem nD τ sig × ℕ × Dev nD => t.2.2) h)
theorem xferTok_injective : Function.Injective xferTok := by
  rintro ⟨c, j, r⟩ ⟨c', j', r'⟩ h
  have h1 : c = c' := congrArg (fun t : GSem nD τ sig × ℕ × Dev nD => t.1.1.1) h
  have h2 : osem j = osem j' := congrArg (fun t : GSem nD τ sig × ℕ × Dev nD => t.1.2) h
  have h3 : r.val = r'.val := congrArg (fun t : GSem nD τ sig × ℕ × Dev nD => t.2.1) h
  have h4 := congrArg Fin.val (SemLoc.dma.inj h2)
  dsimp only at h4
  rw [h1, Fin.ext h3, show j = j' from Fin.ext (by omega)]

def allToks : Finset (GSem nD τ sig × ℕ × Dev nD) := Finset.univ.map ⟨barTok, barTok_injective⟩ ∪ Finset.univ.map ⟨xferTok, xferTok_injective⟩

theorem toks_disjoint : Disjoint (Finset.univ.map ⟨barTok, barTok_injective⟩) (Finset.univ.map ⟨xferTok, xferTok_injective⟩) := by
  refine Finset.disjoint_left.mpr fun t h h' => ?_
  obtain ⟨x, -, rfl⟩ := Finset.mem_map.mp h
  obtain ⟨y, -, e⟩ := Finset.mem_map.mp h'
  have : (SemLoc.dma _ : SemLoc sig) = .reg barS := congrArg (fun t : GSem nD τ sig × ℕ × Dev nD => t.1.2) e
  cases this

/-- A transfer cell's three tokens. -/
def three (g : GSem nD τ sig) : sProp 𝕄 := bigSep (Finset.Ico 0 3) fun r => dutyTok ER g r (0 : Dev nD)

theorem three_eq (g : GSem nD τ sig) : bigSep Finset.univ (fun r : Fin 3 => (dutyTok ER g r.val (0 : Dev nD) : sProp 𝕄)) = three (F := F) g := by
  unfold three
  rw [show Finset.Ico 0 3 = Finset.univ.map (Fin.valEmbedding : Fin 3 ↪ ℕ) by decide, bigSep_map]; rfl

/-- What a device's own cells' tokens are, -/
def minted : sProp 𝕄 := iprop((bigSep Finset.univ fun k : Dev nD => dutyTok ER (barC c) 0 k)
  ∗ bigSep Finset.univ fun k : Dev nD => iprop(three (F := F) (rsS c k) ∗ three (F := F) (rsR c k) ∗ three (F := F) (agS c k) ∗ three (F := F) (agR c k)))
/-- and the tokens of the duties it pays. -/
def payer : sProp 𝕄 := iprop((bigSep Finset.univ fun k : Dev nD => dutyTok ER (barC k) 0 c)
  ∗ bigSep Finset.univ fun k : Dev nD => iprop(three (F := F) (rsS c k) ∗ three (F := F) (rsR k c) ∗ three (F := F) (agS c k) ∗ three (F := F) (agR k c)))

theorem minted_eq : bigSep allToks (fun x => (dutyTok ER x.1 x.2.1 x.2.2 : sProp 𝕄)) = bigSep Finset.univ (minted (F := F)) := by
  have hb : bigSep (Finset.univ.map ⟨barTok, barTok_injective⟩) (fun x => (dutyTok ER x.1 x.2.1 x.2.2 : sProp 𝕄))
      = bigSep Finset.univ fun c : Dev nD => bigSep Finset.univ fun k : Dev nD => dutyTok ER (barC c) 0 k := by
    rw [bigSep_map]; exact bigSep_univ_prod (fun x : Dev nD × Dev nD => (dutyTok ER (barC x.1) 0 x.2 : sProp 𝕄))
  have hx : bigSep (Finset.univ.map ⟨xferTok, xferTok_injective⟩) (fun x => (dutyTok ER x.1 x.2.1 x.2.2 : sProp 𝕄))
      = bigSep Finset.univ fun c : Dev nD => bigSep Finset.univ fun k : Dev nD => iprop(three (F := F) (rsS c k) ∗ three (F := F) (rsR c k) ∗ three (F := F) (agS c k) ∗ three (F := F) (agR c k)) := by
    rw [bigSep_map]
    refine (bigSep_univ_prod (fun x : Dev nD × Fin 64 × Fin 3 => (dutyTok ER ((x.1 : Thread nD τ), osem x.2.1) x.2.2.val 0 : sProp 𝕄))).trans (bigSep_congr fun c _ => ?_)
    rw [← star_osem c (three (F := F)), bigSep_univ_prod]
    exact bigSep_congr fun j _ => three_eq ((c : Thread nD τ), osem j)
  unfold allToks
  rw [star_union toks_disjoint, hb, hx, ← star_sep]
  rfl

theorem minted_dealt : bigSep Finset.univ (minted (F := F)) = bigSep Finset.univ (payer (F := F)) := by
  unfold minted payer
  simp only [star_sep]
  rw [star_comm (fun c k : Dev nD => (dutyTok ER (barC c) 0 k : sProp 𝕄)), star_comm (fun c k : Dev nD => three (F := F) (rsR c k)),
    star_comm (fun c k : Dev nD => three (F := F) (agR c k))]

/-- What the launch element deals a device. -/
def dealt : sProp 𝕄 := iprop((bigSep Finset.univ fun j : Fin 65 => roundState ER (Rd D) (kcell (c, j)) 0)
  ∗ (bigSep Finset.univ fun j : Fin 65 => iprop(atPos ER (kcell (c, j)) 0 ∅ 0 ∗ reached ER (kcell (c, j)) 0)) ∗ minted (F := F) c)

theorem mint : BI.own (ER (initOf allCells allToks)) ⊢ (|==> bigSep Finset.univ (dealt D) : sProp 𝕄) := by
  have hX (Φ : GSem nD τ sig → sProp 𝕄) : bigSep allCells Φ = bigSep Finset.univ fun c : Dev nD => bigSep Finset.univ fun j : Fin 65 => Φ (kcell (c, j)) := by
    unfold allCells; rw [bigSep_map, bigSep_univ_prod]; rfl
  have h := Rounds.fund ER (Rd D) allCells allToks
  rw [hX, hX, hX, minted_eq] at h
  unfold dealt
  simp only [star_sep]
  have swap (A B C D : sProp 𝕄) : iprop(A ∗ B ∗ C ∗ D) ⊢ iprop(A ∗ (C ∗ B) ∗ D) := by
    iintro ⟨H1, H2, H3, H4⟩
    isplitl [H1]; · iexact H1
    isplitl [H2 H3]
    · isplitl [H3] <;> iassumption
    iexact H4
  exact h.trans (BI.bupd_mono (swap _ _ _ _))

/-! ## The cells set up -/

theorem unscoped_eq : (unscopedSems0 c : sProp 𝕄) = semVal (barC c) 0 := by
  unfold unscopedSems0; rw [bigSep_eq_bigSepL_of_eq [SemLoc.reg barS] (by decide) (by decide)]; rfl

theorem sems_eq : iprop(Pipeline.ownSems0 (Ix := ℕ) (Name := ℕ) (U := UU) (Lvl := ℕ) (Val := Elt F) (τ := τ) osem c ∗ unscopedSems0 c)
    ⊢ (bigSep Finset.univ fun j : Fin 65 => semVal (kcell (c, j)) 0 : sProp 𝕄) := by
  rw [unscoped_eq, star_cells c fun g => semVal g 0]
  unfold Pipeline.ownSems0
  iintro ⟨H, H'⟩
  isplitl [H'] <;> iassumption

/-- What a device holds of its own once the cells stand. -/
def mine : sProp 𝕄 := iprop((bigSep Finset.univ fun j : Fin 65 => stands (F := F) (kcell (c, j)) 0) ∗ payer (F := F) c)

def cellsKnown : sProp 𝕄 := bigSep Finset.univ fun cj : Dev nD × Fin 65 => known D (kcell cj)
instance : BI.Persistent (cellsKnown D) := by unfold cellsKnown; infer_instance

theorem set_up_one : iprop(Pipeline.ownSems0 (Ix := ℕ) (Name := ℕ) (U := UU) (Lvl := ℕ) (Val := Elt F) (τ := τ) osem c ∗ unscopedSems0 c ∗ dealt D c)
    ⊢ |={Set.univ}=> iprop((bigSep Finset.univ fun j : Fin 65 => iprop(∃ κ : ℕ, cellInv ER (Rd D) κ (kcell (c, j))))
        ∗ (bigSep Finset.univ fun j : Fin 65 => stands (F := F) (kcell (c, j)) 0) ∗ minted (F := F) c) := by
  have hinv : iprop((bigSep Finset.univ fun j : Fin 65 => semVal (kcell (c, j)) 0) ∗ bigSep Finset.univ fun j : Fin 65 => roundState ER (Rd D) (kcell (c, j)) 0)
      ⊢ (|={Set.univ}=> bigSep Finset.univ fun j : Fin 65 => iprop(∃ κ : ℕ, cellInv ER (Rd D) κ (kcell (c, j))) : sProp 𝕄) := by
    rw [← star_sep]
    exact (star_mono fun j => (Rounds.body_intro ER (Rd D) (kcell (c, j))).trans inv_alloc).trans (bigSep_fupd _ _)
  unfold dealt stands
  iintro ⟨Ho, Hu, Hs, Hp, Ht⟩
  ihave Hv := (sems_eq (F := F) c) $$ [Ho Hu]
  · isplitl [Ho] <;> iassumption
  imod hinv $$ [Hv Hs] with Hi
  · isplitl [Hv] <;> iassumption
  imodintro
  isplitl [Hi]; · iexact Hi
  isplitl [Hp] <;> iassumption

theorem set_up : (bigSep Finset.univ fun c => iprop(Pipeline.ownSems0 (Ix := ℕ) (Name := ℕ) (U := UU) (Lvl := ℕ) (Val := Elt F) (τ := τ) osem c ∗ unscopedSems0 c ∗ dealt D c) : sProp 𝕄)
    ⊢ |={Set.univ}=> bigSep Finset.univ fun c => iprop(cellsKnown D ∗ mine (F := F) c) := by
  refine ((star_mono fun c => set_up_one D c).trans (bigSep_fupd _ _)).trans (BI.fupd_mono ?_)
  rw [star_sep, star_sep, minted_dealt]
  have hk : iprop((bigSep Finset.univ fun c : Dev nD => bigSep Finset.univ fun j : Fin 65 => iprop(∃ κ : ℕ, cellInv ER (Rd D) κ (kcell (c, j))))
      ∗ bigSep Finset.univ fun c : Dev nD => bigSep Finset.univ fun j : Fin 65 => reached ER (kcell (c, j)) 0) = cellsKnown D := by
    unfold cellsKnown known
    rw [star_sep, bigSep_univ_prod, bigSep_univ_prod]
  have hm : iprop((bigSep Finset.univ fun c : Dev nD => bigSep Finset.univ fun j : Fin 65 => stands (F := F) (kcell (c, j)) 0) ∗ bigSep Finset.univ (payer (F := F)))
      ⊢ bigSep Finset.univ (mine (F := F)) := Entails.of_eq (star_sep _ _).symm
  have hs : (bigSep Finset.univ fun c : Dev nD => bigSep Finset.univ fun j : Fin 65 => stands (F := F) (kcell (c, j)) 0)
      ⊢ iprop((bigSep Finset.univ fun c : Dev nD => bigSep Finset.univ fun j : Fin 65 => stands (F := F) (kcell (c, j)) 0)
        ∗ bigSep Finset.univ fun c : Dev nD => bigSep Finset.univ fun j : Fin 65 => reached ER (kcell (c, j)) 0) := by
    rw [← star_sep]
    refine star_mono fun c => ?_
    rw [← star_sep]
    refine star_mono fun j => ?_
    unfold stands
    iintro ⟨H, #Hr⟩
    isplitl [H]
    · isplitl [H]; · iexact H
      iexact Hr
    iexact Hr
  iintro ⟨Hi, Hs, Hp⟩
  ihave Hs := hs $$ Hs
  icases Hs with ⟨Hs, Hr⟩
  ihave #HK := (Entails.of_eq hk) $$ [Hi Hr]
  · isplitl [Hi] <;> iassumption
  iapply (star_with (Rp := cellsKnown D) (Φ := mine (F := F)) fun c => .rfl)
  isplitr; · iexact HK
  iapply hm
  isplitl [Hs] <;> iassumption

/-! ## Credits -/

/-- What the others owe device `c`. -/
def due : CellTallies nD τ sig ℕ := (∑ _k : Dev nD, tallyAt (barC c) 0 1)
  + ∑ k : Dev nD, if k = c then 0 else ∑ r ∈ Finset.Ico 0 3, (tallyAt (rsR c k) r NB + tallyAt (agR c k) r (agN r))

/-- What device `c` owes at the start, peer by peer. -/
theorem owed_start : owed c 0 = (∑ k : Dev nD, tallyAt (barC k) 0 1)
    + ∑ k : Dev nD, if k = c then 0 else ∑ r ∈ Finset.Ico 0 3, (tallyAt (rsR k c) r NB + tallyAt (agR k c) r (agN r)) := by
  have hp (p : ℕ) : ∑ i ∈ Finset.Ico (16 * p) (16 * p + 16), term c i = ∑ k : Dev nD, term c (16 * p + k.val) := by
    rw [Finset.sum_Ico_eq_sum_range, show 16 * p + 16 - 16 * p = 16 by omega]
    exact (Fin.sum_univ_eq_sum_range (fun i => term c (16 * p + i)) 16).symm
  have h0 : ∑ k : Dev nD, term c (16 * 0 + k.val) = ∑ k : Dev nD, tallyAt (barC k) 0 1 :=
    Finset.sum_congr rfl fun k _ => by rw [Nat.mul_zero, Nat.zero_add]; exact term_bar c k
  have hrs (n : ℕ) : ∑ k : Dev nD, term c (16 * (2 * n + 1) + k.val) = ∑ k : Dev nD, if k = c then 0 else tallyAt (rsR k c) n NB :=
    Finset.sum_congr rfl fun k _ => by
      by_cases h : k = c
      · subst h; rw [if_pos rfl]; exact term_self k (by omega)
      · rw [if_neg h]; exact term_rs c k h n
  have hag (n : ℕ) : ∑ k : Dev nD, term c (16 * (2 * n + 2) + k.val) = ∑ k : Dev nD, if k = c then 0 else tallyAt (agR k c) n (agN n) :=
    Finset.sum_congr rfl fun k _ => by
      by_cases h : k = c
      · subst h; rw [if_pos rfl]; exact term_self k (by omega)
      · rw [if_neg h]; exact term_ag c k h n
  have hr : (∑ k : Dev nD, if k = c then (0 : CellTallies nD τ sig ℕ) else ∑ r ∈ Finset.Ico 0 3, (tallyAt (rsR k c) r NB + tallyAt (agR k c) r (agN r)))
      = ∑ r ∈ Finset.Ico 0 3, ((∑ k : Dev nD, if k = c then 0 else tallyAt (rsR k c) r NB) + ∑ k : Dev nD, if k = c then 0 else tallyAt (agR k c) r (agN r)) := by
    simp only [← Finset.sum_add_distrib]
    rw [Finset.sum_comm]
    refine Finset.sum_congr rfl fun k _ => ?_
    by_cases h : k = c
    · simp only [if_pos h, add_zero, Finset.sum_const_zero]
    · simp only [if_neg h]
  rw [hr]
  have h3 (f : ℕ → CellTallies nD τ sig ℕ) : ∑ r ∈ Finset.Ico 0 3, f r = f 0 + f 1 + f 2 := by
    rw [show Finset.Ico 0 3 = Finset.range 3 by decide, Finset.sum_range_succ, Finset.sum_range_succ, Finset.sum_range_one]
  rw [h3, ← hrs 0, ← hrs 1, ← hrs 2, ← hag 0, ← hag 1, ← hag 2, ← h0]
  simp only [← hp]
  unfold owed
  rw [← Finset.sum_Ico_consecutive _ (show 0 ≤ 16 by decide) (show 16 ≤ 112 by decide), ← Finset.sum_Ico_consecutive _ (show 16 ≤ 32 by decide) (show 32 ≤ 112 by decide),
    ← Finset.sum_Ico_consecutive _ (show 32 ≤ 48 by decide) (show 48 ≤ 112 by decide), ← Finset.sum_Ico_consecutive _ (show 48 ≤ 64 by decide) (show 64 ≤ 112 by decide),
    ← Finset.sum_Ico_consecutive _ (show 64 ≤ 80 by decide) (show 80 ≤ 112 by decide), ← Finset.sum_Ico_consecutive _ (show 80 ≤ 96 by decide) (show 96 ≤ 112 by decide)]
  simp only [add_assoc]

/-- All that is owed is all that is due. -/
theorem owed_due : ∑ d : Dev nD, owed d 0 = ∑ c : Dev nD, due c := by
  rw [Finset.sum_congr rfl fun d _ => owed_start d]
  unfold due
  rw [Finset.sum_add_distrib, Finset.sum_add_distrib]
  refine congrArg₂ (· + ·) ?_ ?_
  · exact Finset.sum_comm
  · rw [Finset.sum_comm]
    refine Finset.sum_congr rfl fun k _ => Finset.sum_congr rfl fun d _ => ?_
    by_cases h : k = d
    · rw [if_pos h, if_pos h.symm]
    · rw [if_neg h, if_neg (Ne.symm h)]

theorem due_at {g : GSem nD τ sig} (h : g.1 ≠ (c : Thread nD τ)) : due c g = 0 := by
  have hz {sm : SemLoc sig} {r n : ℕ} : (tallyAt ((c : Thread nD τ), sm) r n : CellTallies nD τ sig ℕ) g = 0 :=
    tallyAt_ne_cell (fun e => h (congrArg Prod.fst e)) _ _
  unfold due
  rw [Pi.add_apply, Finset.sum_apply, Finset.sum_apply, Finset.sum_eq_zero fun _ _ => hz, zero_add]
  refine Finset.sum_eq_zero fun k _ => ?_
  split
  · rfl
  · rw [Finset.sum_apply]
    exact Finset.sum_eq_zero fun r _ => by rw [Pi.add_apply, hz, hz, add_zero]

theorem launch_due : Pipeline.launchCred (Ix := ℕ) (Val := Elt F) (Name := ℕ) (U := UU) (Lvl := ℕ) (fun d => owed d 0) c = (cred (due c) : sProp 𝕄) := by
  rw [Pipeline.cred_core (c := c) fun g hg => by_contra fun h => hg (due_at c h)]
  unfold Pipeline.launchCred
  refine bigSep_congr fun sm _ => congrArg (fun T => (cred T : sProp 𝕄)) ?_
  rw [Pipeline.tallyOn_launchCredit_owing, owed_due, Finset.sum_apply,
    Finset.sum_eq_single c (fun d _ hd => due_at d fun h => hd (congrArg (fun t : Thread nD τ => t.1) h).symm) (fun h => absurd (Finset.mem_univ c) h)]

/-- The credits of the waits on a peer's transfers. -/
def credits (k : Dev nD) : sProp 𝕄 := if k = c then iprop(emp) else bigSep (Finset.Ico 0 3) fun r => iprop(cred (tallyAt (rsR c k) r NB) ∗ cred (tallyAt (agR c k) r (agN r)))

theorem cred_plus (T T' : CellTallies nD τ sig ℕ) : (cred (T + T') : sProp 𝕄) = iprop(cred T ∗ cred T') := BI.Entails.antisymm (cred_add _ _).1 (cred_add _ _).2

theorem due_credits : (cred (due c) : sProp 𝕄) = iprop(cred (tallyAt (barC c) 0 16) ∗ bigSep Finset.univ (credits (F := F) c)) := by
  unfold due
  rw [cred_plus, Pipeline.cred_finsetSum (Finset.univ : Finset (Dev nD)) fun k : Dev nD => if k = c then 0 else ∑ r ∈ Finset.Ico 0 3, (tallyAt (rsR c k) r NB + tallyAt (agR c k) r (agN r))]
  congr 1
  · refine congrArg (fun T => (cred T : sProp 𝕄)) ?_
    have h (n : ℕ) : n • (tallyAt (barC c) 0 1 : CellTallies nD τ sig ℕ) = tallyAt (barC c) 0 n := by
      induction n with
      | zero => rw [zero_smul, tallyAt_zero]
      | succ n ih => rw [succ_nsmul, ih, tallyAt_add]
    rw [Finset.sum_const]; exact h 16
  · refine bigSep_congr fun k _ => ?_
    unfold credits
    by_cases hk : k = c
    · rw [if_pos hk, if_pos hk, cred_zero]
    · rw [if_neg hk, if_neg hk, Pipeline.cred_finsetSum]
      exact bigSep_congr fun r _ => cred_plus _ _

/-! ## What a device starts from -/

theorem begins_of : iprop(mine (F := F) c ∗ cred (due c)) ⊢ begins (F := F) c := by
  unfold mine payer begins
  rw [due_credits, star_cells c fun g => stands (F := F) g 0, star_osem c fun g => stands (F := F) g 0]
  have h : iprop((bigSep Finset.univ fun k : Dev nD => iprop(stands (F := F) (rsS c k) 0 ∗ stands (F := F) (rsR c k) 0 ∗ stands (F := F) (agS c k) 0 ∗ stands (F := F) (agR c k) 0))
      ∗ (bigSep Finset.univ fun k : Dev nD => iprop(three (F := F) (rsS c k) ∗ three (F := F) (rsR k c) ∗ three (F := F) (agS c k) ∗ three (F := F) (agR k c)))
      ∗ bigSep Finset.univ (credits (F := F) c)) ⊢ bigSep Finset.univ (T0 (F := F) c) := by
    rw [← star_sep, ← star_sep]
    refine star_mono fun k => ?_
    unfold T0 credits three toks ownToks idle
    by_cases hk : k = c
    · subst hk
      simp only [if_pos]
      iintro ⟨⟨H1, H2, H3, H4⟩, ⟨-, Ht, -, -⟩, -⟩
      isplitl [Ht]; · iexact Ht
      isplitl [H2]; · iexact H2
      isplitl [H1]; · iexact H1
      isplitl [H3] <;> iassumption
    · simp only [if_neg hk, star_sep]
      iintro ⟨⟨H1, H2, H3, H4⟩, ⟨T1, T2, T3, T4⟩, C1, C2⟩
      isplitl [T1 T2 T3 T4 C1 C2]
      · isplitl [T1]; · iexact T1
        isplitl [T2]; · iexact T2
        isplitl [T3]; · iexact T3
        isplitl [T4]; · iexact T4
        isplitl [C1] <;> iassumption
      isplitl [H1]; · iexact H1
      isplitl [H2]; · iexact H2
      isplitl [H3] <;> iassumption
  unfold stands at h ⊢
  iintro ⟨⟨⟨⟨Hb, -⟩, Hs⟩, Ht, Hp⟩, Hc, Hcr⟩
  isplitl [Hb]; · iexact Hb
  isplitl [Hc]; · iexact Hc
  isplitl [Ht]; · iexact Ht
  iapply h
  isplitl [Hs]; · iexact Hs
  isplitl [Hp] <;> iassumption

end Cert.Proof

end
-- ==== Proof.Launch.lean ====
/-
  The launch: the inputs each device's memory holds, the pipeline's data, the body's obligation, and the whole program's
  run from any memory with every counter at zero.
-/
module

public import proofs.«01_k».proof.Proof.Deal
public import proofs.«01_k».proof.Proof.Gen.KernelIdeal.Points
public import Idealize.ShloMosaic.Lib.Quiescent
public import Idealize.ShloMosaic.Lib.Pipeline.CollectiveSegs
public import Idealize.ShloMosaic.Lib.Tactic

@[expose] public section

noncomputable section

namespace Cert.Proof

open Cert.KernelIdeal Cert.KernelIdeal.Gen

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-- The memory the claims start from. -/
def s₀ : MemSt nD τ sig (Elt F) := ⟨m, fun _ => 0, ρ⟩

/-- What window `w` stages on device `c`: its array's block. -/
def staged (w : Fin cfg0.W) : ((cfg0.win w).xblock (cfg0.grid.coords t0_0)).Idx → Elt F (cfg0.win w).elt :=
  ((cfg0.win w).blk t0_0).view.read (Elt F) (m ((c : Thread nD τ).loc (Pipeline.arrRef spec0 w)))

/-- The inputs. -/
def inputs : Inputs F where
  x c := staged m c (0 : Fin 8)
  wi n c := match n with
    | 0 => staged m c (1 : Fin 8)
    | 1 => staged m c (3 : Fin 8)
    | _ + 2 => staged m c (5 : Fin 8)
  wo n c := match n with
    | 0 => staged m c (2 : Fin 8)
    | 1 => staged m c (4 : Fin 8)
    | _ + 2 => staged m c (6 : Fin 8)

def Φ₀ : sProp 𝕄 := iprop((Ctx (inputs m) ∗ begins (F := F) c) ∗ scratch (F := F) c)
def Φ₁ : sProp 𝕄 := iprop(zeros (F := F) c ∗ scratch (F := F) c)

/-- The pipeline's data. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (inputs m).x c
    | ⟨1, _⟩ => (inputs m).wi 0 c
    | ⟨2, _⟩ => (inputs m).wo 0 c
    | ⟨3, _⟩ => (inputs m).wi 1 c
    | ⟨4, _⟩ => (inputs m).wo 1 c
    | ⟨5, _⟩ => (inputs m).wi 2 c
    | ⟨6, _⟩ => (inputs m).wo 2 c
    | ⟨7, _⟩ => (inputs m).out
  Φ t := match t with
    | ⟨0, _⟩ => Φ₀ m c
    | ⟨_ + 1, _⟩ => Φ₁ c
  q _ := fullShare
  owed t := match t with
    | ⟨0, _⟩ => owed c 0
    | ⟨_ + 1, _⟩ => 0

theorem star_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

omit [FloatOps F] in
theorem owns_whole (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer on device `c` at contents `X`. -/
def stg (b : Ref sig .tc) (X : b.ty.Contents (Elt F)) : sProp 𝕄 := iprop(∃ f : Buf (Elt F) ((c : Thread nD τ).loc b), ⌜f = X⌝ ∗ (((c : Thread nD τ).loc b) ↦{fullShare} f))

theorem stg_eq (b : Ref sig .tc) (X : b.ty.Contents (Elt F)) : (stg c b X : sProp 𝕄) = (((c : Thread nD τ).loc b) ↦{fullShare} X) := by
  unfold stg
  have h : iprop(∃ f : Buf (Elt F) ((c : Thread nD τ).loc b), ⌜f = X⌝ ∗ (((c : Thread nD τ).loc b) ↦{fullShare} f)) ⊢ (((c : Thread nD τ).loc b) ↦{fullShare} X : sProp 𝕄) := by
    iintro ⟨%f, %h, H⟩; rw [← h]; iexact H
  have h' : (((c : Thread nD τ).loc b) ↦{fullShare} X : sProp 𝕄) ⊢ iprop(∃ f : Buf (Elt F) ((c : Thread nD τ).loc b), ⌜f = X⌝ ∗ (((c : Thread nD τ).loc b) ↦{fullShare} f)) := by
    iintro H; iexists X; isplitr; · (ipureintro; rfl)
    iexact H
  exact BI.Entails.antisymm h h'

/-- The body's precondition: the protocol's resources and the staging buffers, -/
def bodyPre : sProp 𝕄 := iprop(Φ₀ m c ∗ (dats m ρ 0 c).owesAt 0 t0_0.castSucc
  ∗ (∃ d, stg c cc0_stg0_0 ((dats m ρ 0 c).before (0 : Fin 8) t0_0 d)) ∗ (∃ d, stg c cc0_stg1_0 ((dats m ρ 0 c).before (1 : Fin 8) t0_0 d))
  ∗ (∃ d, stg c cc0_stg2_0 ((dats m ρ 0 c).before (2 : Fin 8) t0_0 d)) ∗ (∃ d, stg c cc0_stg3_0 ((dats m ρ 0 c).before (3 : Fin 8) t0_0 d))
  ∗ (∃ d, stg c cc0_stg4_0 ((dats m ρ 0 c).before (4 : Fin 8) t0_0 d)) ∗ (∃ d, stg c cc0_stg5_0 ((dats m ρ 0 c).before (5 : Fin 8) t0_0 d))
  ∗ (∃ d, stg c cc0_stg6_0 ((dats m ρ 0 c).before (6 : Fin 8) t0_0 d)) ∗ (∃ d, stg c cc0_stg7_0 ((dats m ρ 0 c).before (7 : Fin 8) t0_0 d)))
/-- and its postcondition. -/
def bodyPost : sProp 𝕄 := iprop(Φ₁ (F := F) c ∗ (dats m ρ 0 c).owesAt 0 t0_0.succ
  ∗ stg c cc0_stg0_0 ((inputs m).x c) ∗ stg c cc0_stg1_0 ((inputs m).wi 0 c) ∗ stg c cc0_stg2_0 ((inputs m).wo 0 c)
  ∗ stg c cc0_stg3_0 ((inputs m).wi 1 c) ∗ stg c cc0_stg4_0 ((inputs m).wo 1 c) ∗ stg c cc0_stg5_0 ((inputs m).wi 2 c)
  ∗ stg c cc0_stg6_0 ((inputs m).wo 2 c) ∗ stg c cc0_stg7_0 (inputs m).out)

/-- A buffer's memref holds all of it. -/
theorem whole_all {s : Shape} {e : EltTy} (M : Memref sig .tc .vmem s e) (h : M.view.set = Finset.univ) (f : Buf (Elt F) (M.view.loc (c : Thread nD τ))) :
    (whole c M f : sProp 𝕄) = (M.view.loc (c : Thread nD τ) ↦{fullShare} f) := by unfold whole; rw [h]
theorem whole_x (f : Buf (Elt F) ((c : Thread nD τ).loc cc0_stg0_0)) : (whole c xM f : sProp 𝕄) = (((c : Thread nD τ).loc cc0_stg0_0) ↦{fullShare} f) := whole_all c xM (View.set_whole _) f
theorem whole_i0 (f : Buf (Elt F) ((c : Thread nD τ).loc cc0_stg1_0)) : (whole c iM0 f : sProp 𝕄) = (((c : Thread nD τ).loc cc0_stg1_0) ↦{fullShare} f) := whole_all c iM0 (View.set_whole _) f
theorem whole_o0 (f : Buf (Elt F) ((c : Thread nD τ).loc cc0_stg2_0)) : (whole c oM0 f : sProp 𝕄) = (((c : Thread nD τ).loc cc0_stg2_0) ↦{fullShare} f) := whole_all c oM0 (View.set_whole _) f
theorem whole_i1 (f : Buf (Elt F) ((c : Thread nD τ).loc cc0_stg3_0)) : (whole c iM1 f : sProp 𝕄) = (((c : Thread nD τ).loc cc0_stg3_0) ↦{fullShare} f) := whole_all c iM1 (View.set_whole _) f
theorem whole_o1 (f : Buf (Elt F) ((c : Thread nD τ).loc cc0_stg4_0)) : (whole c oM1 f : sProp 𝕄) = (((c : Thread nD τ).loc cc0_stg4_0) ↦{fullShare} f) := whole_all c oM1 (View.set_whole _) f
theorem whole_i2 (f : Buf (Elt F) ((c : Thread nD τ).loc cc0_stg5_0)) : (whole c iM2 f : sProp 𝕄) = (((c : Thread nD τ).loc cc0_stg5_0) ↦{fullShare} f) := whole_all c iM2 (View.set_whole _) f
theorem whole_o2 (f : Buf (Elt F) ((c : Thread nD τ).loc cc0_stg6_0)) : (whole c oM2 f : sProp 𝕄) = (((c : Thread nD τ).loc cc0_stg6_0) ↦{fullShare} f) := whole_all c oM2 (View.set_whole _) f
theorem whole_y (f : Buf (Elt F) ((c : Thread nD τ).loc cc0_stg7_0)) : (whole c yM f : sProp 𝕄) = (((c : Thread nD τ).loc cc0_stg7_0) ↦{fullShare} f) := whole_all c yM (View.set_whole _) f
theorem whole_p (f : Buf (Elt F) ((c : Thread nD τ).loc cc0_scratch0)) : (whole c pM f : sProp 𝕄) = (((c : Thread nD τ).loc cc0_scratch0) ↦{fullShare} f) := whole_all c pM (View.set_whole _) f
theorem whole_s (f : Buf (Elt F) ((c : Thread nD τ).loc cc0_scratch1)) : (whole c sM f : sProp 𝕄) = (((c : Thread nD τ).loc cc0_scratch1) ↦{fullShare} f) := whole_all c sM (View.set_whole _) f
theorem whole_g (f : Buf (Elt F) ((c : Thread nD τ).loc cc0_scratch2)) : (whole c gM f : sProp 𝕄) = (((c : Thread nD τ).loc cc0_scratch2) ↦{fullShare} f) := whole_all c gM (View.set_whole _) f

theorem sound : bodyPre m ρ c ⊢ WP c (body c (pure ⟨⟩ : Text F PUnit)) fun _ => bodyPost m ρ c := by
  have h0 (d) : (dats m ρ 0 c).before (0 : Fin 8) t0_0 d = (inputs m).x c := by unfold Dat.before; rw [if_pos (fetch0_0 t0_0)]; rfl
  have h1 (d) : (dats m ρ 0 c).before (1 : Fin 8) t0_0 d = (inputs m).wi 0 c := by unfold Dat.before; rw [if_pos (fetch0_1 t0_0)]; rfl
  have h2 (d) : (dats m ρ 0 c).before (2 : Fin 8) t0_0 d = (inputs m).wo 0 c := by unfold Dat.before; rw [if_pos (fetch0_2 t0_0)]; rfl
  have h3 (d) : (dats m ρ 0 c).before (3 : Fin 8) t0_0 d = (inputs m).wi 1 c := by unfold Dat.before; rw [if_pos (fetch0_3 t0_0)]; rfl
  have h4 (d) : (dats m ρ 0 c).before (4 : Fin 8) t0_0 d = (inputs m).wo 1 c := by unfold Dat.before; rw [if_pos (fetch0_4 t0_0)]; rfl
  have h5 (d) : (dats m ρ 0 c).before (5 : Fin 8) t0_0 d = (inputs m).wi 2 c := by unfold Dat.before; rw [if_pos (fetch0_5 t0_0)]; rfl
  have h6 (d) : (dats m ρ 0 c).before (6 : Fin 8) t0_0 d = (inputs m).wo 2 c := by unfold Dat.before; rw [if_pos (fetch0_6 t0_0)]; rfl
  unfold bodyPre bodyPost Φ₀ Φ₁ Dat.owesAt Pipeline.owesWithin
  simp only [h0, h1, h2, h3, h4, h5, h6, stg_eq]
  iintro ⟨⟨⟨HC, HB⟩, HS⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (wp_body (inputs m) c fun _ => _)
  isplitl [HC]; · iexact HC
  isplitl [HB]; · iexact HB
  isplitl [HO]
  · unfold owe; iexists W; iexact HO
  isplitl [HS]; · iexact HS
  isplitl [H7]
  · iexists _; rw [whole_y]; iexact H7
  isplitl [H0 H1 H2 H3 H4 H5 H6]
  · unfold given
    rw [whole_x, whole_i0, whole_o0, whole_i1, whole_o1, whole_i2, whole_o2]
    isplitl [H0]; · iexact H0
    isplitl [H1 H2]
    · isplitl [H1] <;> iassumption
    isplitl [H3 H4]
    · isplitl [H3] <;> iassumption
    isplitl [H5] <;> iassumption
  unfold owe given
  rw [whole_x, whole_i0, whole_o0, whole_i1, whole_o1, whole_i2, whole_o2, whole_y]
  iintro ⟨⟨%W', HO⟩, HZ, HS, H7, H0, ⟨H1, H2⟩, ⟨H3, H4⟩, H5, H6⟩
  isplitl [HZ HS]
  · isplitl [HZ] <;> iassumption
  isplitl [HO]
  · iexists W'
    isplitr; · ipureintro; exact fun _ _ => Or.inl trivial
    rw [owed_end]
    iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

/-- The kernel reads the device it runs on first. -/
theorem at_device (Q : PUnit → sProp (MT nD τ sig ℕ (Elt F) ℕ UU ℕ)) :
    WP c (body c (pure ⟨⟩ : Text F PUnit)) Q ⊢ WP c (.op .deviceId fun d => body d (pure ⟨⟩ : Text F PUnit)) Q :=
  Entails.of_eq (wp_deviceId 𝒱₀ (c : Thread nD τ) none Set.univ (k := fun d => body d (pure ⟨⟩ : Text F PUnit))).symm

set_option maxRecDepth 4000 in
/-- The body's obligation. -/
theorem body_obligation : BodyObligation (dats (F := F) m ρ 0 c) (defs₀ (F := F)) 𝒱₀ 0 Set.univ := fun t => by
  rw [fin_N0 t]
  rw [star_W, star_W]
  simp only [owns_whole]
  show bodyPre m ρ c ⊢ WP c (cc0_body (F := F) xM (Memref.isWhole_whole _) iM0 (Memref.isWhole_whole _) oM0 (Memref.isWhole_whole _) iM1 (Memref.isWhole_whole _)
    oM1 (Memref.isWhole_whole _) iM2 (Memref.isWhole_whole _) oM2 (Memref.isWhole_whole _) yM (Memref.isWhole_whole _) pM (Memref.isWhole_whole _) sM (Memref.isWhole_whole _)
    gM (Memref.isWhole_whole _) cc0_scratch3 cc0_scratch4 cc0_scratch5 cc0_scratch6) fun _ => bodyPost m ρ c
  rw [body_eq]
  exact (sound m ρ c).trans (at_device c _)

/-! ## The launch -/

theorem ownSemFacts : Pipeline.OwnSemFacts cfg0.spec osem := by decide

theorem share_eq (w : Fin cfg0.W) : (dats m ρ 0 c).share w = fullShare := by unfold Dat.share; split <;> rfl

def u₀ : UU := (initOf (Pipeline.cells cfgs cellOf_inj) (Pipeline.launchToks cfgs cellOf_inj), initOf allCells allToks)

/-- What a device holds once the cells stand. -/
def stood : sProp 𝕄 := iprop(cellsKnown (inputs m) ∗ mine (F := F) c)
/-- What its body starts from. -/
def start : sProp 𝕄 := iprop(Ctx (inputs m) ∗ begins (F := F) c)

theorem start_intro :
    iprop(Pipeline.unscopedRestP Pipeline.Prefetch.none cfg0.spec c (fun b => m ((c : Thread nD τ).loc b)) ∗ levAts L lv
        ∗ Pipeline.launchCred (fun d => owed d 0) c ∗ prngReg c (ρ c) ∗ stood m c)
      ⊢ |={Set.univ}=> iprop(start m c ∗ emp) := by
  unfold stood start Ctx
  rw [launch_due]
  iintro ⟨-, Hl, Hc, -, HK, HM⟩
  imodintro
  isplitl
  · isplitl [HK Hl]
    · isplitl [HK]; · (unfold cellsKnown; iexact HK)
      unfold levs; iexact Hl
    iapply (begins_of (F := F) c)
    isplitl [HM] <;> iassumption
  iempintro

theorem scratch_rest : (Pipeline.scopedRest cfg0.spec c : sProp 𝕄) = scratch (F := F) c := by
  rw [scopedRest0_eq]; unfold scratch; simp only [whole_p, whole_s, whole_g]

theorem phi0_intro :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_rest]
  unfold Φ₀ start
  iintro ⟨Hs, -, Hr⟩
  isplitl [Hs] <;> iassumption

theorem phi1_exit : (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scratch_rest, unscoped_eq,
    show (Pipeline.ownSems0 osem c : sProp 𝕄) = bigSep Finset.univ (zeros4 (F := F) c) from star_osem c fun g => semVal g 0]
  unfold Φ₁ zeros
  iintro ⟨⟨Hb, Hz⟩, Hr⟩
  isplitl [Hb]; · iexact Hb
  isplitl [Hz] <;> iassumption

theorem stage_level : ∀ (w : Fin 8) (s : Fin (spec0 w).nbuf), lv ((c : Thread nD τ), .dma ((spec0 w).sem s)) 0 = 0 := by
  intro w s
  unfold lv
  fin_cases w <;> fin_cases s <;> rfl

theorem waits : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ (by decide) (by rw [Nat.zero_div]; exact (stage_level c w s).le)
    · show _ ⊢ MayWait _ _ _ 0
      rw [MayWait_zero]; iintro -; iempintro

/-! ## The run -/

/-- Window `w`'s array when all is done. -/
def finalA (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The sixteen devices, from any memory with every counter at zero and at any float values: every weakly fair execution
    ends, with each window's array as computed and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun c => owed c 0) (howed₀ := fun _ => rfl) (howedN := fun _ => rfl)
    (L := L) (lv := lv) (hL := L_of_ne) (hwaits := waits m ρ)
    (G := dealt (inputs m)) (G' := stood m) (u₀ := u₀)
    (hu₀ := by
      unfold u₀
      iintro Hu
      ihave H := (ownU_pair _ _) $$ Hu
      icases H with ⟨HP, HX⟩
      imod (mint (inputs m)) $$ HX with HG
      imodintro
      isplitl [HP] <;> iassumption)
    (hglob := set_up (inputs m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An input's array ends as it was. -/
theorem finalA_in (w : Fin cfg0.W) (hw : (cfg0.win w).isOut = false) : finalA m ρ c w = m ((cfg0.win w).arr.view.loc (c : Thread nD τ)) :=
  (dats (F := F) m ρ 0 c).arrAt_in w hw _

end Cert.Proof

end
-- ==== Proof.Frames.lean ====
/-
  The three frames: each program runs from any memory with every counter at zero, its arguments end as they were, and
  every counter ends at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

section Run

open Cert.KernelIdeal Cert.KernelIdeal.Gen

variable {F : FTy → Type} [FloatOps F] (m : (ℓ : Loc nD τ sig) → Buf (Elt F) ℓ) (ρ : Dev nD → PrngReg)

/-- The arguments on device `c` are as they were. -/
def Kept (c : Dev nD) (m' : (ℓ : Loc nD τ sig) → Buf (Elt F) ℓ) : Prop :=
  m' ((c : Thread nD τ).loc main_arg0) = m ((c : Thread nD τ).loc main_arg0) ∧ m' ((c : Thread nD τ).loc main_arg1) = m ((c : Thread nD τ).loc main_arg1)
  ∧ m' ((c : Thread nD τ).loc main_arg2) = m ((c : Thread nD τ).loc main_arg2) ∧ m' ((c : Thread nD τ).loc main_arg3) = m ((c : Thread nD τ).loc main_arg3)
  ∧ m' ((c : Thread nD τ).loc main_arg4) = m ((c : Thread nD τ).loc main_arg4) ∧ m' ((c : Thread nD τ).loc main_arg5) = m ((c : Thread nD τ).loc main_arg5)
  ∧ m' ((c : Thread nD τ).loc main_arg6) = m ((c : Thread nD τ).loc main_arg6)

theorem kept_of {r : PUnit × MemSt nD τ sig (Elt F)} (h : Ends m ρ r) (c : Dev nD) : Kept m c r.2.mem :=
  ⟨(h c (0 : Fin 8)).trans (finalA_in m ρ c (0 : Fin 8) rfl), (h c (1 : Fin 8)).trans (finalA_in m ρ c (1 : Fin 8) rfl),
    (h c (3 : Fin 8)).trans (finalA_in m ρ c (3 : Fin 8) rfl), (h c (5 : Fin 8)).trans (finalA_in m ρ c (5 : Fin 8) rfl),
    (h c (2 : Fin 8)).trans (finalA_in m ρ c (2 : Fin 8) rfl), (h c (4 : Fin 8)).trans (finalA_in m ρ c (4 : Fin 8) rfl),
    (h c (6 : Fin 8)).trans (finalA_in m ρ c (6 : Fin 8) rfl)⟩

end Run

/-- The two kernels' texts are the same. -/
theorem body_same : Cert.Kernel.cc0_body (F := Bits) = Cert.KernelIdeal.cc0_body (F := Bits) := rfl

theorem defs₀_same : Cert.Kernel.defs₀ (F := Bits) = Cert.KernelIdeal.defs₀ (F := Bits) := by
  unfold Cert.Kernel.defs₀ Cert.KernelIdeal.defs₀
  rw [body_same]
  refine congrArg _ (funext fun l => funext fun a => ?_)
  obtain ⟨_ | n, h⟩ := l <;> rfl

theorem defs_same : Cert.Kernel.defs (F := Bits) = Cert.KernelIdeal.defs (F := Bits) := by
  unfold Cert.Kernel.defs Cert.KernelIdeal.defs
  rw [defs₀_same]
  rfl

/-- The kernel, at bits. -/
theorem frame_kernel : Cert.quiescent_Kernel := fun m ρ _ => by
  have h := (θ_run Cert.KernelIdeal.defs _ _).mono (fun _ h => (⟨fun c => kept_of m ρ h.1 c, h.2⟩ : (∀ c, Kept m c _) ∧ _)) (run_main (F := Bits) m ρ)
  rw [← defs_same] at h
  exact h

/-- The kernel, at the reals. -/
theorem frame_ideal : Cert.quiescent_KernelIdeal := fun m ρ _ =>
  (θ_run Cert.KernelIdeal.defs _ _).mono (fun _ h => ⟨fun c => kept_of m ρ h.1 c, h.2⟩) (run_main (F := Ideal) m ρ)

/-- The reference. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

end Cert.Proof

end
-- ==== Proof.Algebra.lean ====
/-
  The mathematics over the extended reals. One layer is `mlp x w u`: at row `r` and column `c` the sum over the hidden
  units `k` of `max (∑ₗ x r l · w l k) 0 · u k c`. A stage computes 128 rows of it over one device's 512 hidden units; the
  sixteen slots' sum runs over the devices; sixteen times 512 hidden units are all 8192.
-/
module

public import proofs.«01_k».proof.Proof.Cells
public import Idealize.ShloMosaic.Lib.MatmulPlain
public import Idealize.ShloMosaic.Lib.StackMember

@[expose] public section

noncomputable section

namespace Cert.Proof

open Cert.KernelIdeal Cert.KernelIdeal.Gen
open Idealize.ShloMosaic Idealize.ShloMosaic.ValueIdx

/-- One layer over `K` hidden units. -/
def mlp {R C K : ℕ} (x : Fin R → Fin 256 → EReal) (w : Fin 256 → Fin K → EReal) (u : Fin K → Fin C → EReal) (r : Fin R) (c : Fin C) : EReal :=
  ∑ k : Fin K, max (∑ l : Fin 256, x r l * w l k) 0 * u k c

/-- A stage computes its rows of one device's share of the layer. -/
theorem stageV_apply (w : Vec Ideal S256x512 .bf16) (u : Vec Ideal S512x256 .bf16) (x : Vec Ideal S128x256 .bf16) (r : Fin 128) (c : Fin 256) :
    stageV (F := Ideal) w u x (ix2 r c) = mlp (fun r l => x (ix2 r l)) (fun l k => w (ix2 l k)) (fun k c => u (ix2 k c)) r c := by
  unfold stageV k0_pay25 k0_pay19 k0_pay20 mlp
  simp only [shapeCast_self]
  show FloatOps.matmul (F := Ideal) (φ₁ := .bf16) (φ₂ := .bf16) (DotDims.plain 128 512 256) none _ _ _ (ix2 r c) = _
  rw [Ideal.matmul_plain_apply]
  rw [show (constant S128x256 .f32 0x00000000#32 : FVec Ideal S128x256 .f32) (ix2 r c) = 0 from Ideal.ofBits_zero_f32, zero_add]
  refine Finset.sum_congr rfl fun k _ => congrArg (· * _) ?_
  show max (FloatOps.matmul (F := Ideal) (φ₁ := .bf16) (φ₂ := .bf16) (DotDims.plain 128 256 512) none _ _ _ (ix2 r k)) (Ideal.ofBits .f32 0x00000000#32) = _
  rw [Ideal.matmul_plain_apply, Ideal.ofBits_zero_f32]
  rw [show (constant S128x512 .f32 0x00000000#32 : FVec Ideal S128x512 .f32) (ix2 r k) = 0 from Ideal.ofBits_zero_f32, zero_add]

/-- The slots' sum. -/
theorem sumY_apply (v : Vec Ideal S16x32x256 .bf16) (r : Fin 32) (c : Fin 256) : sumY (F := Ideal) v (ix2 r c) = ∑ j : Fin 16, v (ix3 j r c) := by
  unfold sumY k0_pay26
  refine (Ideal.multiReduction_add_single _ _ _ _ _ _).trans (Finset.sum_congr rfl fun j _ => congrArg v ?_)
  funext a; apply Fin.ext
  match a with
  | ⟨0, _⟩ => rfl
  | ⟨1, _⟩ => rfl
  | ⟨2, _⟩ => rfl

/-- Rounding changes nothing here. -/
theorem sumG_eq (v : Vec Ideal S16x32x256 .bf16) (i : S32x256.Idx) : sumG (F := Ideal) v i = sumY (F := Ideal) v i := by
  unfold sumG sumY k0_pay8 k0_pay26
  simp only [shapeCast_self]
  rfl

theorem rowE_ix (k : Fin 16) (r : Fin 32) (c : Fin 256) (i : Fin 512) (h : i.val = 32 * k.val + r.val) : rowE (k, ix2 r c) = ix2 i c := by
  funext a; apply Fin.ext
  match a with
  | ⟨0, _⟩ => exact (rowR_emb0 k _).trans h.symm
  | ⟨1, _⟩ => exact rowR_emb1 k _

theorem blkE_ix (s : Fin 4) (r : Fin 128) (c : Fin 256) (i : Fin 512) (h : i.val = 128 * s.val + r.val) : blkE (s, ix2 r c) = ix2 i c := by
  funext a; apply Fin.ext
  match a with
  | ⟨0, _⟩ => exact (blkR_emb0 s _).trans h.symm
  | ⟨1, _⟩ => exact blkR_emb1 s _

theorem slotE_ix (j : Fin 16) (r : Fin 32) (c : Fin 256) : slotE (j, ix2 r c) = ix3 j r c := by
  funext a; apply Fin.ext
  match a with
  | ⟨0, _⟩ => exact slotE0 j _
  | ⟨1, _⟩ => exact slotE1 j _
  | ⟨2, _⟩ => exact slotE2 j _

/-- The partial product is one device's share of the layer. -/
theorem prodV_apply (w : Vec Ideal S256x512 .bf16) (u x : Vec Ideal S512x256 .bf16) (i : Fin 512) (c : Fin 256) :
    prodV (F := Ideal) w u x (ix2 i c) = mlp (fun r l => x (ix2 r l)) (fun l k => w (ix2 l k)) (fun k c => u (ix2 k c)) i c := by
  have hi := i.isLt
  have h : i.val = 128 * (⟨i.val / 128, by omega⟩ : Fin 4).val + (⟨i.val % 128, by omega⟩ : Fin 128).val := by dsimp only; omega
  rw [← blkE_ix _ _ c i h, prodV_blk, stageV_apply, mlp, mlp]
  refine Finset.sum_congr rfl fun k _ => congrArg (max · 0 * _) (Finset.sum_congr rfl fun l _ => congrArg (· * _) ?_)
  exact congrArg x (blkE_ix _ _ l i h)

/-- Every device's rows of the slots' sum, put together: the sum over the devices of their partial products. -/
theorem rows_sum (p : Fin 16 → Vec Ideal S512x256 .bf16) (i : Fin 512) (c : Fin 256) :
    rowsV (F := Ideal) (e := .f32) (fun k => sumY (F := Ideal) (slotsV (F := Ideal) p k)) (ix2 i c) = ∑ j : Fin 16, p j (ix2 i c) := by
  have hi := i.isLt
  have h : i.val = 32 * (⟨i.val / 32, by omega⟩ : Fin 16).val + (⟨i.val % 32, by omega⟩ : Fin 32).val := by dsimp only; omega
  rw [← rowE_ix _ _ c i h, rowsV_row, sumY_apply]
  refine Finset.sum_congr rfl fun j _ => ?_
  rw [← slotE_ix, slotsV_slot]

/-- Sixteen devices' shares of 512 hidden units are the layer over all 8192. -/
theorem mlp_split (x : Fin 512 → Fin 256 → EReal) (w : Fin 256 → Fin 8192 → EReal) (u : Fin 8192 → Fin 256 → EReal)
    (w' : Fin 16 → Fin 256 → Fin 512 → EReal) (u' : Fin 16 → Fin 512 → Fin 256 → EReal)
    (hw : ∀ j l (k : Fin 512) (q : Fin 8192), q.val = j.val * 512 + k.val → w' j l k = w l q)
    (hu : ∀ j (k : Fin 512) c (q : Fin 8192), q.val = j.val * 512 + k.val → u' j k c = u q c) (i : Fin 512) (c : Fin 256) :
    ∑ j : Fin 16, mlp x (w' j) (u' j) i c = mlp x w u i c := by
  unfold mlp
  rw [← Equiv.sum_comp (finProdFinEquiv (m := 16) (n := 512)) (fun k : Fin 8192 => max (∑ l : Fin 256, x i l * w l k) 0 * u k c), Fintype.sum_prod_type]
  refine Finset.sum_congr rfl fun j _ => Finset.sum_congr rfl fun k _ => ?_
  have h : (finProdFinEquiv (j, k) : Fin 8192).val = j.val * 512 + k.val := by
    show k.val + 512 * j.val = _
    omega
  rw [hu j k c _ h]
  refine congrArg (max · 0 * _) (Finset.sum_congr rfl fun l _ => ?_)
  rw [hw j l k _ h]

end Cert.Proof

end
-- ==== Proof.Value.lean ====
/-
  The value claim. The kernel's result on every device is `Inputs.out` of what the devices' memories hold; over the extended
  reals that is three layers of `mlp` on the whole arrays, which is what the reference computes.
-/
module

public import proofs.«01_k».proof.Proof.Algebra
public import proofs.«01_k».proof.Proof.Frames
public import Idealize.ShloMosaic.Lib.Pipeline.Value

@[expose] public section

noncomputable section

namespace Cert.Proof

open Idealize.ShloMosaic Idealize.ShloMosaic.TcCoe Idealize.ShloMosaic.ValueIdx Idealize.SL.Sem

/-! ## The kernel's result -/

section Kernel

open Cert.KernelIdeal Cert.KernelIdeal.Gen

variable {F : FTy → Type} [FloatOps F] (m : (ℓ : Loc nD τ sig) → Buf (Elt F) ℓ) (ρ : Dev nD → PrngReg) (c : Dev nD)

/-! What a window stages is its whole array. -/

theorem staged0 : staged m c (0 : Fin 8) = m ((c : Thread nD τ).loc main_arg0) :=
  Memref.read_access_unit_zero (Elt F) main_arg0 (funext fun a => Nat.zero_mul _) (fun a => by simp) _
theorem staged1 : staged m c (1 : Fin 8) = m ((c : Thread nD τ).loc main_arg1) :=
  Memref.read_access_unit_zero (Elt F) main_arg1 (funext fun a => Nat.zero_mul _) (fun a => by simp) _
theorem staged2 : staged m c (2 : Fin 8) = m ((c : Thread nD τ).loc main_arg4) :=
  Memref.read_access_unit_zero (Elt F) main_arg4 (funext fun a => Nat.zero_mul _) (fun a => by simp) _
theorem staged3 : staged m c (3 : Fin 8) = m ((c : Thread nD τ).loc main_arg2) :=
  Memref.read_access_unit_zero (Elt F) main_arg2 (funext fun a => Nat.zero_mul _) (fun a => by simp) _
theorem staged4 : staged m c (4 : Fin 8) = m ((c : Thread nD τ).loc main_arg5) :=
  Memref.read_access_unit_zero (Elt F) main_arg5 (funext fun a => Nat.zero_mul _) (fun a => by simp) _
theorem staged5 : staged m c (5 : Fin 8) = m ((c : Thread nD τ).loc main_arg3) :=
  Memref.read_access_unit_zero (Elt F) main_arg3 (funext fun a => Nat.zero_mul _) (fun a => by simp) _
theorem staged6 : staged m c (6 : Fin 8) = m ((c : Thread nD τ).loc main_arg6) :=
  Memref.read_access_unit_zero (Elt F) main_arg6 (funext fun a => Nat.zero_mul _) (fun a => by simp) _

/-- The result array ends at the sums' rows. -/
theorem final_out : finalA m ρ c (7 : Fin 8) = (inputs m).out :=
  (dats m ρ 0 c).arrAt_eq_of_cover (7 : Fin 8) (inputs m).out (fun t _ => by
      obtain rfl : t = t0_0 := fin_N0 t
      exact (Memref.read_access_unit_zero (Elt F) main_v1 (funext fun a => Nat.zero_mul _) (fun a => by simp) (inputs m).out).symm)
    fun i => ⟨t0_0, flush0_7 _, by
      show i ∈ ((View.whole main_v1).slice (win0_7.rect t0_0)).set
      rw [View.set_slice_whole, Rect.mem_set_unit]
      intro a
      have h0 : win0_7.kind.off (win0_7.index t0_0 a) (win0_7.size a) = 0 := Nat.zero_mul _
      rw [h0, Nat.zero_add]
      exact ⟨Nat.zero_le _, (i a).isLt⟩⟩

end Kernel

/-! ## The reference's layer, and the kernel's -/

section Layers

open Cert.ReferenceIdeal Cert.ReferenceIdeal.Gen

/-- One layer as the reference writes it. -/
def refLayer (x : FVec Ideal S512x256 .bf16) (w : FVec Ideal S256x8192 .bf16) (u : FVec Ideal S8192x256 .bf16) : FVec Ideal S512x256 .bf16 :=
  truncf .bf16 (Host.dotGeneral dot_S512x8192_S8192x256_S512x256_1_0_0_1_n_n none (truncf .bf16 (maximumf (extf .f32 (truncf .bf16
    (Host.dotGeneral dot_S512x256_S256x8192_S512x8192_1_0_0_1_n_n none x w : FVec Ideal S512x8192 .f32) bitsLt_bf16_f32) bitsLt_bf16_f32)
    (broadcastInDim S512x8192 ![] bcast_S_S512x8192 (constant S_ .f32 0x00000000#32))) bitsLt_bf16_f32) u) bitsLt_bf16_f32

theorem refLayer_apply (x : FVec Ideal S512x256 .bf16) (w : FVec Ideal S256x8192 .bf16) (u : FVec Ideal S8192x256 .bf16) (r : Fin 512) (c : Fin 256) :
    refLayer x w u (ix2 r c) = mlp (fun r l => x (ix2 r l)) (fun l k => w (ix2 l k)) (fun k c => u (ix2 k c)) r c := by
  unfold refLayer mlp
  show Host.dotGeneral (F := Ideal) (φ₁ := .bf16) (φ₂ := .bf16) (DotDims.plain 512 8192 256) none _ _ (ix2 r c) = _
  rw [StackMember.dotGeneral_plain_apply]
  refine Finset.sum_congr rfl fun k _ => congrArg (· * _) ?_
  show max (Host.dotGeneral (F := Ideal) (φ₁ := .bf16) (φ₂ := .bf16) (DotDims.plain 512 256 8192) none _ _ (ix2 r k)) (Ideal.ofBits .f32 0x00000000#32) = _
  rw [StackMember.dotGeneral_plain_apply, Ideal.ofBits_zero_f32]

/-- Where all devices start a layer from the same activations and hold the blocks of its weights, their sums' rows are the
    reference's layer. -/
theorem layer_eq (D : Inputs Ideal) (n : ℕ) (x : FVec Ideal S512x256 .bf16) (w : FVec Ideal S256x8192 .bf16) (u : FVec Ideal S8192x256 .bf16)
    (hx : ∀ j, D.X n j = x) (hw : ∀ j, D.wi n j = Layout.block ⟨2, ![256, 512]⟩ ⟨2, ![256, 8192]⟩ 1 16 j w)
    (hu : ∀ j, D.wo n j = Layout.block ⟨2, ![512, 256]⟩ ⟨2, ![8192, 256]⟩ 0 16 j u) (i : S512x256.Idx) :
    rowsV (F := Ideal) (e := .f32) (fun k => sumY (F := Ideal) (D.Y n k)) i = refLayer x w u i := by
  obtain ⟨r, c, rfl⟩ : ∃ (r : Fin 512) (c : Fin 256), i = ix2 r c := ⟨i 0, i 1, eq_ix2 i⟩
  rw [refLayer_apply]
  refine (rows_sum (D.P n) r c).trans ?_
  rw [← mlp_split _ _ _ (fun j l k => D.wi n j (ix2 l k)) (fun j k c => D.wo n j (ix2 k c)) ?_ ?_]
  · refine Finset.sum_congr rfl fun j _ => ?_
    rw [Inputs.P, prodV_apply, hx j]
  · intro j l k q hq
    rw [hw j]
    refine congrArg w (funext fun a => Fin.ext ?_)
    match a with
    | ⟨0, _⟩ => rfl
    | ⟨1, _⟩ => exact hq.symm
  · intro j k c q hq
    rw [hu j]
    refine congrArg u (funext fun a => Fin.ext ?_)
    match a with
    | ⟨0, _⟩ => exact hq.symm
    | ⟨1, _⟩ => rfl

/-- The activations after such a layer. -/
theorem next_eq (D : Inputs Ideal) (n : ℕ) (x : FVec Ideal S512x256 .bf16) (w : FVec Ideal S256x8192 .bf16) (u : FVec Ideal S8192x256 .bf16)
    (hx : ∀ j, D.X n j = x) (hw : ∀ j, D.wi n j = Layout.block ⟨2, ![256, 512]⟩ ⟨2, ![256, 8192]⟩ 1 16 j w)
    (hu : ∀ j, D.wo n j = Layout.block ⟨2, ![512, 256]⟩ ⟨2, ![8192, 256]⟩ 0 16 j u) (j : Fin 16) : D.X (n + 1) j = refLayer x w u :=
  funext fun i => Eq.trans (by
    rw [D.X_succ, Inputs.G]
    exact sumG_eq _ _) (layer_eq D n x w u hx hw hu i)

/-- Three layers. -/
theorem out_eq (D : Inputs Ideal) (x : FVec Ideal S512x256 .bf16) (w : Fin 3 → FVec Ideal S256x8192 .bf16) (u : Fin 3 → FVec Ideal S8192x256 .bf16)
    (hx : ∀ j, D.x j = x) (hw : ∀ (n : Fin 3) j, D.wi n j = Layout.block ⟨2, ![256, 512]⟩ ⟨2, ![256, 8192]⟩ 1 16 j (w n))
    (hu : ∀ (n : Fin 3) j, D.wo n j = Layout.block ⟨2, ![512, 256]⟩ ⟨2, ![8192, 256]⟩ 0 16 j (u n)) :
    D.out = extf .f32 (refLayer (refLayer (refLayer x (w 0) (u 0)) (w 1) (u 1)) (w 2) (u 2)) bitsLt_bf16_f32 :=
  funext fun i => layer_eq D 2 _ (w 2) (u 2) (next_eq D 1 _ (w 1) (u 1) (next_eq D 0 x (w 0) (u 0) hx (hw 0) (hu 0)) (hw 1) (hu 1)) (hw 2) (hu 2) i

end Layers

/-- The kernel's result on every device is the reference's. -/
theorem value : Cert.algebraic_KernelIdeal_ReferenceIdeal := by
  intro m ρ m' ρ' _ hm
  have hout := out_eq (inputs m) (m' ((((0 : Dev Cert.ReferenceIdeal.nD).tc : Thread Cert.ReferenceIdeal.nD Cert.ReferenceIdeal.τ)).loc Cert.ReferenceIdeal.main_arg0))
    (fun | 0 => m' ((((0 : Dev Cert.ReferenceIdeal.nD).tc : Thread Cert.ReferenceIdeal.nD Cert.ReferenceIdeal.τ)).loc Cert.ReferenceIdeal.main_arg1)
         | 1 => m' ((((0 : Dev Cert.ReferenceIdeal.nD).tc : Thread Cert.ReferenceIdeal.nD Cert.ReferenceIdeal.τ)).loc Cert.ReferenceIdeal.main_arg2)
         | 2 => m' ((((0 : Dev Cert.ReferenceIdeal.nD).tc : Thread Cert.ReferenceIdeal.nD Cert.ReferenceIdeal.τ)).loc Cert.ReferenceIdeal.main_arg3))
    (fun | 0 => m' ((((0 : Dev Cert.ReferenceIdeal.nD).tc : Thread Cert.ReferenceIdeal.nD Cert.ReferenceIdeal.τ)).loc Cert.ReferenceIdeal.main_arg4)
         | 1 => m' ((((0 : Dev Cert.ReferenceIdeal.nD).tc : Thread Cert.ReferenceIdeal.nD Cert.ReferenceIdeal.τ)).loc Cert.ReferenceIdeal.main_arg5)
         | 2 => m' ((((0 : Dev Cert.ReferenceIdeal.nD).tc : Thread Cert.ReferenceIdeal.nD Cert.ReferenceIdeal.τ)).loc Cert.ReferenceIdeal.main_arg6))
    (fun j => (staged0 m j).trans (hm j).1)
    (fun n j => match n with
      | 0 => (staged1 m j).trans (hm j).2.1
      | 1 => (staged3 m j).trans (hm j).2.2.1
      | 2 => (staged5 m j).trans (hm j).2.2.2.1)
    (fun n j => match n with
      | 0 => (staged2 m j).trans (hm j).2.2.2.2.1
      | 1 => (staged4 m j).trans (hm j).2.2.2.2.2.1
      | 2 => (staged6 m j).trans (hm j).2.2.2.2.2.2)
  refine ⟨(inputs m).out, ?_, ?_⟩
  · exact (θ_run Cert.KernelIdeal.defs _ _).mono (fun _ h c => ⟨(h.1 c (7 : Fin 8)).trans (final_out m ρ c), kept_of m ρ h.1 c⟩) (run_main (F := Ideal) m ρ)
  · exact (θ_run Cert.ReferenceIdeal.defs _ _).mono (fun _ h => ⟨(h 0).1.trans hout.symm, (h 0).2⟩) (Cert.ReferenceIdeal.Value.run (F := Ideal) m' ρ')

end Cert.Proof

end
-- ==== Proof.lean ====
/- The certificate: the three frames, that the ideal kernel is the kernel with no rewrites, and that its result on every
   device is the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, value⟩

end Cert.Proof

end
